-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def Pre_KernelWide (m : (ℓ : Loc Cert.KernelWide.nD Cert.KernelWide.τ Cert.KernelWide.sig) → Buf (Elt Bits) ℓ) : Prop :=
  True

def Pre_KernelWideIdeal (m : (ℓ : Loc Cert.KernelWideIdeal.nD Cert.KernelWideIdeal.τ Cert.KernelWideIdeal.sig) → Buf (Elt Ideal) ℓ) : Prop :=
  True

def Pre_ReferenceWideIdeal (m : (ℓ : Loc Cert.ReferenceWideIdeal.nD Cert.ReferenceWideIdeal.τ Cert.ReferenceWideIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def quiescent_KernelWide [hKernelWide : Cert.KernelWide.Facts] : Prop :=
  ∀ (m : (ℓ : Loc Cert.KernelWide.nD Cert.KernelWide.τ Cert.KernelWide.sig) → Buf (Elt Bits) ℓ) (g : Dev Cert.KernelWide.nD → PrngReg), Pre_KernelWide m →
    θ_run (Cert.KernelWide.defs (F := Bits)) (onTc (τ := Cert.KernelWide.τ) (Cert.KernelWide.main (F := Bits))) ⟨m, fun _ => 0, g⟩ (fun r => (∀ c : Dev Cert.KernelWide.nD,
      r.2.mem ((c.tc : Thread Cert.KernelWide.nD Cert.KernelWide.τ).loc Cert.KernelWide.main_arg0) = m ((c.tc : Thread Cert.KernelWide.nD Cert.KernelWide.τ).loc Cert.KernelWide.main_arg0)
      ∧ r.2.mem ((c.tc : Thread Cert.KernelWide.nD Cert.KernelWide.τ).loc Cert.KernelWide.main_arg1) = m ((c.tc : Thread Cert.KernelWide.nD Cert.KernelWide.τ).loc Cert.KernelWide.main_arg1))
      ∧ r.2.sem = fun _ => 0)

def quiescent_KernelWideIdeal [hKernelWideIdeal : Cert.KernelWideIdeal.Facts] : Prop :=
  ∀ (m : (ℓ : Loc Cert.KernelWideIdeal.nD Cert.KernelWideIdeal.τ Cert.KernelWideIdeal.sig) → Buf (Elt Ideal) ℓ) (g : Dev Cert.KernelWideIdeal.nD → PrngReg), Pre_KernelWideIdeal m →
    θ_run (Cert.KernelWideIdeal.defs (F := Ideal)) (onTc (τ := Cert.KernelWideIdeal.τ) (Cert.KernelWideIdeal.main (F := Ideal))) ⟨m, fun _ => 0, g⟩ (fun r => (∀ c : Dev Cert.KernelWideIdeal.nD,
      r.2.mem ((c.tc : Thread Cert.KernelWideIdeal.nD Cert.KernelWideIdeal.τ).loc Cert.KernelWideIdeal.main_arg0) = m ((c.tc : Thread Cert.KernelWideIdeal.nD Cert.KernelWideIdeal.τ).loc Cert.KernelWideIdeal.main_arg0)
      ∧ r.2.mem ((c.tc : Thread Cert.KernelWideIdeal.nD Cert.KernelWideIdeal.τ).loc Cert.KernelWideIdeal.main_arg1) = m ((c.tc : Thread Cert.KernelWideIdeal.nD Cert.KernelWideIdeal.τ).loc Cert.KernelWideIdeal.main_arg1))
      ∧ r.2.sem = fun _ => 0)

def quiescent_ReferenceWideIdeal [hReferenceWideIdeal : Cert.ReferenceWideIdeal.Facts] : Prop :=
  ∀ (m : (ℓ : Loc Cert.ReferenceWideIdeal.nD Cert.ReferenceWideIdeal.τ Cert.ReferenceWideIdeal.sig) → Buf (Elt Ideal) ℓ) (g : Dev Cert.ReferenceWideIdeal.nD → PrngReg), Pre_ReferenceWideIdeal m →
    θ_run (Cert.ReferenceWideIdeal.defs (F := Ideal)) (onTc (τ := Cert.ReferenceWideIdeal.τ) (Cert.ReferenceWideIdeal.main (F := Ideal))) ⟨m, fun _ => 0, g⟩ (fun r => (∀ c : Dev Cert.ReferenceWideIdeal.nD,
      r.2.mem ((c.tc : Thread Cert.ReferenceWideIdeal.nD Cert.ReferenceWideIdeal.τ).loc Cert.ReferenceWideIdeal.main_arg0) = m ((c.tc : Thread Cert.ReferenceWideIdeal.nD Cert.ReferenceWideIdeal.τ).loc Cert.ReferenceWideIdeal.main_arg0)
      ∧ r.2.mem ((c.tc : Thread Cert.ReferenceWideIdeal.nD Cert.ReferenceWideIdeal.τ).loc Cert.ReferenceWideIdeal.main_arg1) = m ((c.tc : Thread Cert.ReferenceWideIdeal.nD Cert.ReferenceWideIdeal.τ).loc Cert.ReferenceWideIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)) (v4 : (c : Dev Cert.KernelIdeal.nD) → Buf (Elt Ideal) ((c.tc : Thread Cert.KernelIdeal.nD Cert.KernelIdeal.τ).loc Cert.KernelIdeal.main_v51_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_v51_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v222) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_v225) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v0)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v0) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v5) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def preserves_KernelWide_KernelWideIdeal : Prop :=
  True

def algebraic_KernelWideIdeal_ReferenceWideIdeal [hKernelWideIdeal : Cert.KernelWideIdeal.Facts] [hReferenceWideIdeal : Cert.ReferenceWideIdeal.Facts] : Prop :=
  ∀ (m : (ℓ : Loc Cert.KernelWideIdeal.nD Cert.KernelWideIdeal.τ Cert.KernelWideIdeal.sig) → Buf (Elt Ideal) ℓ) (g : Dev Cert.KernelWideIdeal.nD → PrngReg)
    (m' : (ℓ : Loc Cert.ReferenceWideIdeal.nD Cert.ReferenceWideIdeal.τ Cert.ReferenceWideIdeal.sig) → Buf (Elt Ideal) ℓ) (g' : Dev Cert.ReferenceWideIdeal.nD → PrngReg), Pre_KernelWideIdeal m →
    (∀ c : Dev Cert.KernelWideIdeal.nD,
      m' ((c.tc : Thread Cert.ReferenceWideIdeal.nD Cert.ReferenceWideIdeal.τ).loc Cert.ReferenceWideIdeal.main_arg0) = m ((c.tc : Thread Cert.KernelWideIdeal.nD Cert.KernelWideIdeal.τ).loc Cert.KernelWideIdeal.main_arg0)
      ∧ m' ((c.tc : Thread Cert.ReferenceWideIdeal.nD Cert.ReferenceWideIdeal.τ).loc Cert.ReferenceWideIdeal.main_arg1) = m ((c.tc : Thread Cert.KernelWideIdeal.nD Cert.KernelWideIdeal.τ).loc Cert.KernelWideIdeal.main_arg1)) →
    ∃ (v0 : (c : Dev Cert.KernelWideIdeal.nD) → Buf (Elt Ideal) ((c.tc : Thread Cert.KernelWideIdeal.nD Cert.KernelWideIdeal.τ).loc Cert.KernelWideIdeal.main_v0)),
      θ_run (Cert.KernelWideIdeal.defs (F := Ideal)) (onTc (τ := Cert.KernelWideIdeal.τ) (Cert.KernelWideIdeal.main (F := Ideal))) ⟨m, fun _ => 0, g⟩ (fun r => ∀ c : Dev Cert.KernelWideIdeal.nD,
          r.2.mem ((c.tc : Thread Cert.KernelWideIdeal.nD Cert.KernelWideIdeal.τ).loc Cert.KernelWideIdeal.main_v0) = v0 c
          ∧ r.2.mem ((c.tc : Thread Cert.KernelWideIdeal.nD Cert.KernelWideIdeal.τ).loc Cert.KernelWideIdeal.main_arg0) = m ((c.tc : Thread Cert.KernelWideIdeal.nD Cert.KernelWideIdeal.τ).loc Cert.KernelWideIdeal.main_arg0)
          ∧ r.2.mem ((c.tc : Thread Cert.KernelWideIdeal.nD Cert.KernelWideIdeal.τ).loc Cert.KernelWideIdeal.main_arg1) = m ((c.tc : Thread Cert.KernelWideIdeal.nD Cert.KernelWideIdeal.τ).loc Cert.KernelWideIdeal.main_arg1))
      ∧ θ_run (Cert.ReferenceWideIdeal.defs (F := Ideal)) (onTc (τ := Cert.ReferenceWideIdeal.τ) (Cert.ReferenceWideIdeal.main (F := Ideal))) ⟨m', fun _ => 0, g'⟩ (fun r => ∀ c : Dev Cert.ReferenceWideIdeal.nD,
          r.2.mem ((c.tc : Thread Cert.ReferenceWideIdeal.nD Cert.ReferenceWideIdeal.τ).loc Cert.ReferenceWideIdeal.main_v5) = v0 c
          ∧ r.2.mem ((c.tc : Thread Cert.ReferenceWideIdeal.nD Cert.ReferenceWideIdeal.τ).loc Cert.ReferenceWideIdeal.main_arg0) = m' ((c.tc : Thread Cert.ReferenceWideIdeal.nD Cert.ReferenceWideIdeal.τ).loc Cert.ReferenceWideIdeal.main_arg0)
          ∧ r.2.mem ((c.tc : Thread Cert.ReferenceWideIdeal.nD Cert.ReferenceWideIdeal.τ).loc Cert.ReferenceWideIdeal.main_arg1) = m' ((c.tc : Thread Cert.ReferenceWideIdeal.nD Cert.ReferenceWideIdeal.τ).loc Cert.ReferenceWideIdeal.main_arg1))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v1_0)) (v1 : (c : Dev Cert.KernelFfnIdeal.nD) → Buf (Elt Ideal) ((c.tc : Thread Cert.KernelFfnIdeal.nD Cert.KernelFfnIdeal.τ).loc Cert.KernelFfnIdeal.main_v1_1)) (v2 : (c : Dev Cert.KernelFfnIdeal.nD) → Buf (Elt Ideal) ((c.tc : Thread Cert.KernelFfnIdeal.nD Cert.KernelFfnIdeal.τ).loc Cert.KernelFfnIdeal.main_v1_2)) (v3 : (c : Dev Cert.KernelFfnIdeal.nD) → Buf (Elt Ideal) ((c.tc : Thread Cert.KernelFfnIdeal.nD Cert.KernelFfnIdeal.τ).loc Cert.KernelFfnIdeal.main_v1_3)) (v4 : (c : Dev Cert.KernelFfnIdeal.nD) → Buf (Elt Ideal) ((c.tc : Thread Cert.KernelFfnIdeal.nD Cert.KernelFfnIdeal.τ).loc Cert.KernelFfnIdeal.main_v1_4)) (v5 : (c : Dev Cert.KernelFfnIdeal.nD) → Buf (Elt Ideal) ((c.tc : Thread Cert.KernelFfnIdeal.nD Cert.KernelFfnIdeal.τ).loc Cert.KernelFfnIdeal.main_v1_5)) (v6 : (c : Dev Cert.KernelFfnIdeal.nD) → Buf (Elt Ideal) ((c.tc : Thread Cert.KernelFfnIdeal.nD Cert.KernelFfnIdeal.τ).loc Cert.KernelFfnIdeal.main_v1_6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v1_0) = v0 c
          ∧ r.2.mem ((c.tc : Thread Cert.KernelFfnIdeal.nD Cert.KernelFfnIdeal.τ).loc Cert.KernelFfnIdeal.main_v1_1) = v1 c
          ∧ r.2.mem ((c.tc : Thread Cert.KernelFfnIdeal.nD Cert.KernelFfnIdeal.τ).loc Cert.KernelFfnIdeal.main_v1_2) = v2 c
          ∧ r.2.mem ((c.tc : Thread Cert.KernelFfnIdeal.nD Cert.KernelFfnIdeal.τ).loc Cert.KernelFfnIdeal.main_v1_3) = v3 c
          ∧ r.2.mem ((c.tc : Thread Cert.KernelFfnIdeal.nD Cert.KernelFfnIdeal.τ).loc Cert.KernelFfnIdeal.main_v1_4) = v4 c
          ∧ r.2.mem ((c.tc : Thread Cert.KernelFfnIdeal.nD Cert.KernelFfnIdeal.τ).loc Cert.KernelFfnIdeal.main_v1_5) = v5 c
          ∧ r.2.mem ((c.tc : Thread Cert.KernelFfnIdeal.nD Cert.KernelFfnIdeal.τ).loc Cert.KernelFfnIdeal.main_v1_6) = v6 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v72) = v0 c
          ∧ r.2.mem ((c.tc : Thread Cert.ReferenceFfnIdeal.nD Cert.ReferenceFfnIdeal.τ).loc Cert.ReferenceFfnIdeal.main_v79) = v1 c
          ∧ r.2.mem ((c.tc : Thread Cert.ReferenceFfnIdeal.nD Cert.ReferenceFfnIdeal.τ).loc Cert.ReferenceFfnIdeal.main_v80) = v2 c
          ∧ r.2.mem ((c.tc : Thread Cert.ReferenceFfnIdeal.nD Cert.ReferenceFfnIdeal.τ).loc Cert.ReferenceFfnIdeal.main_v81) = v3 c
          ∧ r.2.mem ((c.tc : Thread Cert.ReferenceFfnIdeal.nD Cert.ReferenceFfnIdeal.τ).loc Cert.ReferenceFfnIdeal.main_v82) = v4 c
          ∧ r.2.mem ((c.tc : Thread Cert.ReferenceFfnIdeal.nD Cert.ReferenceFfnIdeal.τ).loc Cert.ReferenceFfnIdeal.main_v83) = v5 c
          ∧ r.2.mem ((c.tc : Thread Cert.ReferenceFfnIdeal.nD Cert.ReferenceFfnIdeal.τ).loc Cert.ReferenceFfnIdeal.main_v78) = v6 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelSquare : Cert.KernelSquare.Facts) (hKernelSquareIdeal : Cert.KernelSquareIdeal.Facts) (hReferenceSquareIdeal : Cert.ReferenceSquareIdeal.Facts) (hKernelWide : Cert.KernelWide.Facts) (hKernelWideIdeal : Cert.KernelWideIdeal.Facts) (hReferenceWideIdeal : Cert.ReferenceWideIdeal.Facts) (hKernelFfn : Cert.KernelFfn.Facts) (hKernelFfnIdeal : Cert.KernelFfnIdeal.Facts) (hReferenceFfnIdeal : Cert.ReferenceFfnIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ quiescent_KernelWide (hKernelWide := hKernelWide)
    ∧ quiescent_KernelWideIdeal (hKernelWideIdeal := hKernelWideIdeal)
    ∧ quiescent_ReferenceWideIdeal (hReferenceWideIdeal := hReferenceWideIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelSquare_KernelSquareIdeal
    ∧ algebraic_KernelSquareIdeal_ReferenceSquareIdeal (hKernelSquareIdeal := hKernelSquareIdeal) (hReferenceSquareIdeal := hReferenceSquareIdeal)
    ∧ preserves_KernelWide_KernelWideIdeal
    ∧ algebraic_KernelWideIdeal_ReferenceWideIdeal (hKernelWideIdeal := hKernelWideIdeal) (hReferenceWideIdeal := hReferenceWideIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
-- ==== Pre_finite.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S8192x1024 .f32) (main_arg1 : FVec F S8192x256 .f32) (main_arg2 : FVec F S8192x1024 .bf16) (main_arg3 : FVec F S64 .f32) (main_arg4 : FVec F S64 .f32) (main_arg5 : FVec F S16 .f32) : IVec S8192x1024 1 × IVec S8192x256 1 × IVec S8192x1024 1 × IVec S64 1 × IVec S64 1 × IVec S16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  (main_v2, main_v5, main_v8, main_v11, main_v14, main_v17)
-- ==== Pre_finite_ffn.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S4x1024x1408 : S_.BroadcastsInDim S4x1024x1408 (![] : Fin 0 → Fin S4x1024x1408.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S4x1024x1408 .bf16) (main_arg4 : FVec F S2816x1024 .bf16) : IVec S8192x1024 1 × IVec S8192x1024 1 × IVec S1024 1 × IVec S4x1024x1408 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4x1024x1408 .bf16 := Host.absf main_arg3
  let main_cst_2 : FVec F S_ .bf16 := constant S_ .bf16 0x7F80#16
  let main_v10 : FVec F S4x1024x1408 .bf16 := broadcastInDim S4x1024x1408 ![] bcast_S_S4x1024x1408 main_cst_2
  let main_v11 : IVec S4x1024x1408 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S64x1 : Shape := ⟨2, ![64, 1]⟩
abbrev S64x1024 : Shape := ⟨2, ![64, 1024]⟩
abbrev S1x64 : Shape := ⟨2, ![1, 64]⟩
abbrev S2x8 : Shape := ⟨2, ![2, 8]⟩
abbrev S2x8x128 : Shape := ⟨3, ![2, 8, 128]⟩
abbrev S2x1024 : Shape := ⟨2, ![2, 1024]⟩
abbrev S128x8x128 : Shape := ⟨3, ![128, 8, 128]⟩
abbrev S_ : Shape := ⟨0, ![]⟩
abbrev S128x1024 : Shape := ⟨2, ![128, 1024]⟩
abbrev S1x128x1024 : Shape := ⟨3, ![1, 128, 1024]⟩
abbrev S2x128x1024 : Shape := ⟨3, ![2, 128, 1024]⟩
abbrev S64x128 : Shape := ⟨2, ![64, 128]⟩
abbrev S8x128 : Shape := ⟨2, ![8, 128]⟩
abbrev S128x256 : Shape := ⟨2, ![128, 256]⟩
abbrev S1x128 : Shape := ⟨2, ![1, 128]⟩
abbrev S1024x128 : Shape := ⟨2, ![1024, 128]⟩
abbrev S128x64 : Shape := ⟨2, ![128, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S512x128 : Shape := ⟨2, ![512, 128]⟩
abbrev S1 : Shape := ⟨1, ![1]⟩
abbrev S1x1 : Shape := ⟨2, ![1, 1]⟩

abbrev nBuf : Space → Nat
  | .hbm => 73
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .bf16⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S64x1, .f32⟩
  | .hbm, ⟨7, _⟩ => ⟨S64x1024, .f32⟩
  | .hbm, ⟨8, _⟩ => ⟨S1x64, .f32⟩
  | .hbm, ⟨9, _⟩ => ⟨S2x8, .f32⟩
  | .hbm, ⟨10, _⟩ => ⟨S2x8x128, .f32⟩
  | .hbm, ⟨11, _⟩ => ⟨S2x1024, .f32⟩
  | .hbm, ⟨12, _⟩ => ⟨S128x8x128, .i32⟩
  | .hbm, ⟨13, _⟩ => ⟨S128x8x128, .i32⟩
  | .hbm, ⟨14, _⟩ => ⟨S128x8x128, .i32⟩
  | .hbm, ⟨15, _⟩ => ⟨S128x8x128, .i1⟩
  | .hbm, ⟨16, _⟩ => ⟨S_, .i32⟩
  | .hbm, ⟨17, _⟩ => ⟨S128x8x128, .i32⟩
  | .hbm, ⟨18, _⟩ => ⟨S128x8x128, .i32⟩
  | .hbm, ⟨19, _⟩ => ⟨S128x8x128, .i32⟩
  | .hbm, ⟨20, _⟩ => ⟨S128x8x128, .i32⟩
  | .hbm, ⟨21, _⟩ => ⟨S128x8x128, .i32⟩
  | .hbm, ⟨22, _⟩ => ⟨S128x8x128, .f32⟩
  | .hbm, ⟨23, _⟩ => ⟨S_, .i32⟩
  | .hbm, ⟨24, _⟩ => ⟨S128x8x128, .i32⟩
  | .hbm, ⟨25, _⟩ => ⟨S128x8x128, .i32⟩
  | .hbm, ⟨26, _⟩ => ⟨S_, .i32⟩
  | .hbm, ⟨27, _⟩ => ⟨S128x8x128, .i32⟩
  | .hbm, ⟨28, _⟩ => ⟨S128x8x128, .i32⟩
  | .hbm, ⟨29, _⟩ => ⟨S128x8x128, .f32⟩
  | .hbm, ⟨30, _⟩ => ⟨S_, .f32⟩
  | .hbm, ⟨31, _⟩ => ⟨S128x8x128, .f32⟩
  | .hbm, ⟨32, _⟩ => ⟨S128x8x128, .f32⟩
  | .hbm, ⟨33, _⟩ => ⟨S_, .f32⟩
  | .hbm, ⟨34, _⟩ => ⟨S128x8x128, .f32⟩
  | .hbm, ⟨35, _⟩ => ⟨S128x8x128, .f32⟩
  | .hbm, ⟨36, _⟩ => ⟨S_, .f32⟩
  | .hbm, ⟨37, _⟩ => ⟨S128x8x128, .f32⟩
  | .hbm, ⟨38, _⟩ => ⟨S128x8x128, .f32⟩
  | .hbm, ⟨39, _⟩ => ⟨S128x8x128, .f32⟩
  | .hbm, ⟨40, _⟩ => ⟨S128x8x128, .f32⟩
  | .hbm, ⟨41, _⟩ => ⟨S128x8x128, .f32⟩
  | .hbm, ⟨42, _⟩ => ⟨S128x1024, .f32⟩
  | .hbm, ⟨43, _⟩ => ⟨S_, .i32⟩
  | .hbm, ⟨44, _⟩ => ⟨S128x8x128, .i32⟩
  | .hbm, ⟨45, _⟩ => ⟨S128x8x128, .i32⟩
  | .hbm, ⟨46, _⟩ => ⟨S_, .i32⟩
  | .hbm, ⟨47, _⟩ => ⟨S128x8x128, .i32⟩
  | .hbm, ⟨48, _⟩ => ⟨S128x8x128, .i32⟩
  | .hbm, ⟨49, _⟩ => ⟨S128x8x128, .f32⟩
  | .hbm, ⟨50, _⟩ => ⟨S_, .f32⟩
  | .hbm, ⟨51, _⟩ => ⟨S128x8x128, .f32⟩
  | .hbm, ⟨52, _⟩ => ⟨S128x8x128, .f32⟩
  | .hbm, ⟨53, _⟩ => ⟨S_, .f32⟩
  | .hbm, ⟨54, _⟩ => ⟨S128x8x128, .f32⟩
  | .hbm, ⟨55, _⟩ => ⟨S128x8x128, .f32⟩
  | .hbm, ⟨56, _⟩ => ⟨S_, .f32⟩
  | .hbm, ⟨57, _⟩ => ⟨S128x8x128, .f32⟩
  | .hbm, ⟨58, _⟩ => ⟨S128x8x128, .f32⟩
  | .hbm, ⟨59, _⟩ => ⟨S128x8x128, .f32⟩
  | .hbm, ⟨60, _⟩ => ⟨S128x8x128, .f32⟩
  | .hbm, ⟨61, _⟩ => ⟨S128x8x128, .f32⟩
  | .hbm, ⟨62, _⟩ => ⟨S128x1024, .f32⟩
  | .hbm, ⟨63, _⟩ => ⟨S128x8x128, .f32⟩
  | .hbm, ⟨64, _⟩ => ⟨S128x1024, .f32⟩
  | .hbm, ⟨65, _⟩ => ⟨S1x128x1024, .f32⟩
  | .hbm, ⟨66, _⟩ => ⟨S1x128x1024, .f32⟩
  | .hbm, ⟨67, _⟩ => ⟨S2x128x1024, .f32⟩
  | .hbm, ⟨68, _⟩ => ⟨S8192x1024, .bf16⟩
  | .hbm, ⟨69, _⟩ => ⟨S8192x256, .f32⟩
  | .hbm, ⟨70, _⟩ => ⟨S8192x256, .f32⟩
  | .hbm, ⟨71, _⟩ => ⟨S64x128, .f32⟩
  | .hbm, ⟨72, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x1024, .bf16⟩
  | .local _ .vmem, ⟨7, _⟩ => ⟨S128x1024, .bf16⟩
  | .local _ .vmem, ⟨8, _⟩ => ⟨S64x1024, .f32⟩
  | .local _ .vmem, ⟨9, _⟩ => ⟨S1x64, .f32⟩
  | .local _ .vmem, ⟨10, _⟩ => ⟨S128x1024, .f32⟩
  | .local _ .vmem, ⟨11, _⟩ => ⟨S2x128x1024, .f32⟩
  | .local _ .vmem, ⟨12, _⟩ => ⟨S2x1024, .f32⟩
  | .local _ .vmem, ⟨13, _⟩ => ⟨S128x1024, .bf16⟩
  | .local _ .vmem, ⟨14, _⟩ => ⟨S128x1024, .bf16⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S64x128, .f32⟩
  | .local _ .vmem, ⟨20, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev main_v51_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S8192x128 : Shape := ⟨2, ![8192, 128]⟩
abbrev S4x2048x2x64 : Shape := ⟨4, ![4, 2048, 2, 64]⟩
abbrev S_ : Shape := ⟨0, ![]⟩
abbrev S4x2176x2x64 : Shape := ⟨4, ![4, 2176, 2, 64]⟩
abbrev S4x17x128x2x64 : Shape := ⟨5, ![4, 17, 128, 2, 64]⟩
abbrev S4x16x128x2x64 : Shape := ⟨5, ![4, 16, 128, 2, 64]⟩
abbrev S4x16x256x2x64 : Shape := ⟨5, ![4, 16, 256, 2, 64]⟩
abbrev S4x2048x2 : Shape := ⟨3, ![4, 2048, 2]⟩
abbrev S4x2048x2x1 : Shape := ⟨4, ![4, 2048, 2, 1]⟩
abbrev S1x1x1x64 : Shape := ⟨4, ![1, 1, 1, 64]⟩
abbrev S128x64 : Shape := ⟨2, ![128, 64]⟩
abbrev S4x2048x1024 : Shape := ⟨3, ![4, 2048, 1024]⟩
abbrev S4x16x128x2x8x64 : Shape := ⟨6, ![4, 16, 128, 2, 8, 64]⟩
abbrev S128x1x1x64 : Shape := ⟨4, ![128, 1, 1, 64]⟩
abbrev S4x16x128x2x8 : Shape := ⟨5, ![4, 16, 128, 2, 8]⟩
abbrev S4x16x128x2x8x1 : Shape := ⟨6, ![4, 16, 128, 2, 8, 1]⟩
abbrev S1x1x128x1x1x64 : Shape := ⟨6, ![1, 1, 128, 1, 1, 64]⟩
abbrev S4x16x2x256x128x8 : Shape := ⟨6, ![4, 16, 2, 256, 128, 8]⟩
abbrev S4x16x2x8x128x256 : Shape := ⟨6, ![4, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x16x1x1x128x256 : Shape := ⟨6, ![1, 16, 1, 1, 128, 256]⟩
abbrev S1x1x2x8x128x256 : Shape := ⟨6, ![1, 1, 2, 8, 128, 256]⟩
abbrev S4x16x2x8x128 : Shape := ⟨5, ![4, 16, 2, 8, 128]⟩
abbrev S4x16x2x8x128x1 : Shape := ⟨6, ![4, 16, 2, 8, 128, 1]⟩
abbrev S1x1x2x8x1x1 : Shape := ⟨6, ![1, 1, 2, 8, 1, 1]⟩
abbrev S4x16x2x64x8x128 : Shape := ⟨6, ![4, 16, 2, 64, 8, 128]⟩
abbrev S4x16x2x64x256 : Shape := ⟨5, ![4, 16, 2, 64, 256]⟩
abbrev S2x8 : Shape := ⟨2, ![2, 8]⟩
abbrev S2x8x1 : Shape := ⟨3, ![2, 8, 1]⟩
abbrev S4x16x2x128x8x64 : Shape := ⟨6, ![4, 16, 2, 128, 8, 64]⟩
abbrev S4x16x2x256x64 : Shape := ⟨5, ![4, 16, 2, 256, 64]⟩
abbrev S4x16x2x128x128 : Shape := ⟨5, ![4, 16, 2, 128, 128]⟩
abbrev S4x16x1x128x128 : Shape := ⟨5, ![4, 16, 1, 128, 128]⟩
abbrev S4x16x128x128 : Shape := ⟨4, ![4, 16, 128, 128]⟩
abbrev S4x16x128x256 : Shape := ⟨4, ![4, 16, 128, 256]⟩
abbrev S64x128 : Shape := ⟨2, ![64, 128]⟩
abbrev S1x16 : Shape := ⟨2, ![1, 16]⟩
abbrev S8x128 : Shape := ⟨2, ![8, 128]⟩

abbrev nBuf : Space → Nat
  | .hbm => 285
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .bf16⟩
  | 3 => ⟨S64, .f32⟩
  | 4 => ⟨S64, .f32⟩
  | 5 => ⟨S16, .f32⟩
  | 6 => ⟨S8192x128, .f32⟩
  | 7 => ⟨S4x2048x2x64, .f32⟩
  | 8 => ⟨S_, .i32⟩
  | 9 => ⟨S_, .f32⟩
  | 10 => ⟨S4x2176x2x64, .f32⟩
  | 11 => ⟨S4x17x128x2x64, .f32⟩
  | 12 => ⟨S4x16x128x2x64, .f32⟩
  | 13 => ⟨S4x16x128x2x64, .f32⟩
  | 14 => ⟨S4x16x256x2x64, .f32⟩
  | 15 => ⟨S8192x128, .f32⟩
  | 16 => ⟨S4x2048x2x64, .f32⟩
  | 17 => ⟨S4x2048x2x64, .f32⟩
  | 18 => ⟨S_, .f32⟩
  | 19 => ⟨S4x2048x2, .f32⟩
  | 20 => ⟨S4x2048x2x1, .f32⟩
  | 21 => ⟨S_, .f32⟩
  | 22 => ⟨S4x2048x2x1, .f32⟩
  | 23 => ⟨S4x2048x2x1, .f32⟩
  | 24 => ⟨S_, .f32⟩
  | 25 => ⟨S4x2048x2x1, .f32⟩
  | 26 => ⟨S4x2048x2x1, .f32⟩
  | 27 => ⟨S4x2048x2x1, .f32⟩
  | 28 => ⟨S4x2048x2x64, .f32⟩
  | 29 => ⟨S4x2048x2x64, .f32⟩
  | 30 => ⟨S1x1x1x64, .f32⟩
  | 31 => ⟨S4x2048x2x64, .f32⟩
  | 32 => ⟨S4x2048x2x64, .f32⟩
  | 33 => ⟨S_, .i32⟩
  | 34 => ⟨S_, .f32⟩
  | 35 => ⟨S4x2176x2x64, .f32⟩
  | 36 => ⟨S4x17x128x2x64, .f32⟩
  | 37 => ⟨S4x16x128x2x64, .f32⟩
  | 38 => ⟨S4x16x128x2x64, .f32⟩
  | 39 => ⟨S4x16x256x2x64, .f32⟩
  | 40 => ⟨S128x64, .f32⟩
  | 41 => ⟨S8192x1024, .f32⟩
  | 42 => ⟨S4x2048x1024, .f32⟩
  | 43 => ⟨S4x16x128x2x8x64, .f32⟩
  | 44 => ⟨S128x1x1x64, .f32⟩
  | 45 => ⟨S4x16x128x2x8x64, .f32⟩
  | 46 => ⟨S_, .f32⟩
  | 47 => ⟨S4x16x128x2x8, .f32⟩
  | 48 => ⟨S4x16x128x2x8x1, .f32⟩
  | 49 => ⟨S_, .f32⟩
  | 50 => ⟨S4x16x128x2x8x1, .f32⟩
  | 51 => ⟨S4x16x128x2x8x1, .f32⟩
  | 52 => ⟨S_, .f32⟩
  | 53 => ⟨S4x16x128x2x8x1, .f32⟩
  | 54 => ⟨S4x16x128x2x8x1, .f32⟩
  | 55 => ⟨S4x16x128x2x8x1, .f32⟩
  | 56 => ⟨S4x16x128x2x8x1, .f32⟩
  | 57 => ⟨S_, .f32⟩
  | 58 => ⟨S4x16x128x2x8x1, .f32⟩
  | 59 => ⟨S4x16x128x2x8x1, .f32⟩
  | 60 => ⟨S4x16x128x2x8x64, .f32⟩
  | 61 => ⟨S4x16x128x2x8x64, .f32⟩
  | 62 => ⟨S1x1x128x1x1x64, .f32⟩
  | 63 => ⟨S4x16x128x2x8x64, .f32⟩
  | 64 => ⟨S4x16x128x2x8x64, .f32⟩
  | 65 => ⟨S4x16x2x256x128x8, .f32⟩
  | 66 => ⟨S4x16x2x8x128x256, .f32⟩
  | 67 => ⟨S_, .f32⟩
  | 68 => ⟨S4x16x2x8x128x256, .f32⟩
  | 69 => ⟨S4x16x2x8x128x256, .f32⟩
  | 70 => ⟨S128, .i32⟩
  | 71 => ⟨S128x1, .i32⟩
  | 72 => ⟨S256, .i32⟩
  | 73 => ⟨S1x256, .i32⟩
  | 74 => ⟨S_, .i32⟩
  | 75 => ⟨S128x1, .i32⟩
  | 76 => ⟨S128x1, .i32⟩
  | 77 => ⟨S128x256, .i32⟩
  | 78 => ⟨S128x256, .i32⟩
  | 79 => ⟨S128x256, .i32⟩
  | 80 => ⟨S16, .i32⟩
  | 81 => ⟨S16x1x1, .i32⟩
  | 82 => ⟨S_, .i32⟩
  | 83 => ⟨S16x1x1, .i32⟩
  | 84 => ⟨S16x1x1, .i32⟩
  | 85 => ⟨S_, .i32⟩
  | 86 => ⟨S16x1x1, .i32⟩
  | 87 => ⟨S16x1x1, .i32⟩
  | 88 => ⟨S1x1x256, .i32⟩
  | 89 => ⟨S16x1x256, .i32⟩
  | 90 => ⟨S16x1x256, .i32⟩
  | 91 => ⟨S16x1x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i1⟩
  | 98 => ⟨S128x256, .i1⟩
  | 99 => ⟨S_, .i32⟩
  | 100 => ⟨S16x1x256, .i32⟩
  | 101 => ⟨S16x1x256, .i1⟩
  | 102 => ⟨S1x128x256, .i1⟩
  | 103 => ⟨S16x128x256, .i1⟩
  | 104 => ⟨S16x128x256, .i1⟩
  | 105 => ⟨S16x128x256, .i1⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S16, .f32⟩
  | 120 => ⟨S2x8x1x1, .f32⟩
  | 121 => ⟨S2x8x1x1, .f32⟩
  | 122 => ⟨S128x256, .f32⟩
  | 123 => ⟨S1x1x128x256, .f32⟩
  | 124 => ⟨S2x8x128x256, .f32⟩
  | 125 => ⟨S2x8x128x256, .f32⟩
  | 126 => ⟨S2x8x128x256, .f32⟩
  | 127 => ⟨S1x16x1x1x128x256, .i1⟩
  | _ => ⟨S8192x1024, .f32⟩

abbrev hbmTy0_1 (i : Nat) : BufTy := match i % 128 with
  | 0 => ⟨S1x1x2x8x128x256, .f32⟩
  | 1 => ⟨S4x16x2x8x128x256, .f32⟩
  | 2 => ⟨S4x16x2x8x128x256, .f32⟩
  | 3 => ⟨S_, .f32⟩
  | 4 => ⟨S_, .f32⟩
  | 5 => ⟨S4x16x2x8x128x256, .i1⟩
  | 6 => ⟨S4x16x2x8x128x256, .f32⟩
  | 7 => ⟨S4x16x2x8x128x256, .f32⟩
  | 8 => ⟨S_, .f32⟩
  | 9 => ⟨S4x16x2x8x128x256, .f32⟩
  | 10 => ⟨S2x8x1x1, .f32⟩
  | 11 => ⟨S_, .f32⟩
  | 12 => ⟨S4x16x2x8x128, .f32⟩
  | 13 => ⟨S4x16x2x8x128x1, .f32⟩
  | 14 => ⟨S4x16x2x8x128x256, .f32⟩
  | 15 => ⟨S4x16x2x8x128x256, .i1⟩
  | 16 => ⟨S4x16x2x8x128x256, .f32⟩
  | 17 => ⟨S_, .f32⟩
  | 18 => ⟨S4x16x2x8x128, .f32⟩
  | 19 => ⟨S4x16x2x8x128x1, .f32⟩
  | 20 => ⟨S1x1x2x8x1x1, .f32⟩
  | 21 => ⟨S4x16x2x8x128x1, .f32⟩
  | 22 => ⟨S4x16x2x8x128x1, .f32⟩
  | 23 => ⟨S4x16x2x8x128x1, .f32⟩
  | 24 => ⟨S4x16x2x8x128x1, .i1⟩
  | 25 => ⟨S4x16x2x8x128x1, .f32⟩
  | 26 => ⟨S4x16x2x8x128x1, .i1⟩
  | 27 => ⟨S_, .f32⟩
  | 28 => ⟨S4x16x2x8x128x1, .f32⟩
  | 29 => ⟨S_, .f32⟩
  | 30 => ⟨S4x16x2x8x128x1, .f32⟩
  | 31 => ⟨S_, .f32⟩
  | 32 => ⟨S4x16x2x8x128x1, .f32⟩
  | 33 => ⟨S4x16x2x8x128x1, .f32⟩
  | 34 => ⟨S4x16x2x8x128x1, .f32⟩
  | 35 => ⟨S4x16x2x8x128x1, .f32⟩
  | 36 => ⟨S4x16x2x8x128x1, .i1⟩
  | 37 => ⟨S4x16x2x8x128x1, .f32⟩
  | 38 => ⟨S4x16x2x8x128x1, .i1⟩
  | 39 => ⟨S_, .f32⟩
  | 40 => ⟨S4x16x2x8x128x1, .f32⟩
  | 41 => ⟨S_, .f32⟩
  | 42 => ⟨S4x16x2x8x128x1, .f32⟩
  | 43 => ⟨S_, .f32⟩
  | 44 => ⟨S4x16x2x8x128x1, .f32⟩
  | 45 => ⟨S4x16x2x8x128x1, .f32⟩
  | 46 => ⟨S4x16x2x8x128x1, .f32⟩
  | 47 => ⟨S4x16x2x8x128x256, .f32⟩
  | 48 => ⟨S4x16x2x8x128x256, .f32⟩
  | 49 => ⟨S4x16x2x8x128x256, .f32⟩
  | 50 => ⟨S_, .f32⟩
  | 51 => ⟨S4x16x2x8x128, .f32⟩
  | 52 => ⟨S4x16x2x8x128x1, .f32⟩
  | 53 => ⟨S1x1x2x8x1x1, .f32⟩
  | 54 => ⟨S4x16x2x8x128x1, .f32⟩
  | 55 => ⟨S4x16x2x8x128x1, .f32⟩
  | 56 => ⟨S4x16x2x8x128x1, .f32⟩
  | 57 => ⟨S4x16x2x8x128x1, .f32⟩
  | 58 => ⟨S4x16x2x8x128x256, .f32⟩
  | 59 => ⟨S4x16x2x8x128x256, .f32⟩
  | 60 => ⟨S4x16x2x8x128x1, .f32⟩
  | 61 => ⟨S_, .f32⟩
  | 62 => ⟨S4x16x2x8x128x1, .f32⟩
  | 63 => ⟨S4x16x2x8x128x1, .f32⟩
  | 64 => ⟨S4x16x2x64x8x128, .f32⟩
  | 65 => ⟨S4x16x128x2x8x64, .f32⟩
  | 66 => ⟨S4x2048x1024, .f32⟩
  | 67 => ⟨S4x16x128x2x8x64, .f32⟩
  | 68 => ⟨S4x16x2x64x8x128, .f32⟩
  | 69 => ⟨S4x16x2x8x128x256, .f32⟩
  | 70 => ⟨S4x16x2x64x256, .f32⟩
  | 71 => ⟨S4x16x256x2x64, .f32⟩
  | 72 => ⟨S4x16x2x8x128x256, .f32⟩
  | 73 => ⟨S4x16x2x8x128x256, .f32⟩
  | 74 => ⟨S4x16x2x8x128x256, .f32⟩
  | 75 => ⟨S_, .f32⟩
  | 76 => ⟨S4x16x2x8x128, .f32⟩
  | 77 => ⟨S4x16x2x8x128x1, .f32⟩
  | 78 => ⟨S4x16x2x8x128x1, .f32⟩
  | 79 => ⟨S4x16x2x8x128x256, .f32⟩
  | 80 => ⟨S4x16x2x8x128x256, .f32⟩
  | 81 => ⟨S4x16x2x8x128x1, .f32⟩
  | 82 => ⟨S_, .f32⟩
  | 83 => ⟨S2x8, .f32⟩
  | 84 => ⟨S2x8x1, .f32⟩
  | 85 => ⟨S1x1x2x8x1x1, .f32⟩
  | 86 => ⟨S_, .f32⟩
  | 87 => ⟨S2x8, .f32⟩
  | 88 => ⟨S2x8x1x1, .f32⟩
  | 89 => ⟨S_, .f32⟩
  | 90 => ⟨S4x16x2x8x128, .f32⟩
  | 91 => ⟨S4x16x2x8x128x256, .f32⟩
  | 92 => ⟨S4x16x2x8x128x256, .f32⟩
  | 93 => ⟨S4x16x2x8x128x256, .f32⟩
  | 94 => ⟨S16, .f32⟩
  | 95 => ⟨S_, .f32⟩
  | 96 => ⟨S4x16x2x8x128x256, .f32⟩
  | 97 => ⟨S4x16x2x8x128x256, .f32⟩
  | 98 => ⟨S_, .f32⟩
  | 99 => ⟨S4x16x2x8x128x256, .f32⟩
  | 100 => ⟨S4x16x2x8x128x256, .f32⟩
  | 101 => ⟨S4x16x2x256x128x8, .f32⟩
  | 102 => ⟨S4x16x2x128x8x64, .f32⟩
  | 103 => ⟨S4x16x128x2x8x64, .f32⟩
  | 104 => ⟨S4x16x2x256x64, .f32⟩
  | 105 => ⟨S4x16x256x2x64, .f32⟩
  | 106 => ⟨S4x16x128x2x8x64, .f32⟩
  | 107 => ⟨S_, .f32⟩
  | 108 => ⟨S128x64, .f32⟩
  | 109 => ⟨S1x1x128x1x1x64, .f32⟩
  | 110 => ⟨S4x16x128x2x8x64, .f32⟩
  | 111 => ⟨S4x16x128x2x8x64, .f32⟩
  | 112 => ⟨S_, .f32⟩
  | 113 => ⟨S128x64, .f32⟩
  | 114 => ⟨S128x1x1x64, .f32⟩
  | 115 => ⟨S4x16x128x2x8x64, .f32⟩
  | 116 => ⟨S_, .f32⟩
  | 117 => ⟨S4x16x128x2x8, .f32⟩
  | 118 => ⟨S4x16x128x2x8x1, .f32⟩
  | 119 => ⟨S4x16x128x2x8x64, .f32⟩
  | 120 => ⟨S4x16x128x2x8x64, .f32⟩
  | 121 => ⟨S4x16x128x2x8x1, .f32⟩
  | 122 => ⟨S_, .f32⟩
  | 123 => ⟨S4x16x128x2x8x1, .f32⟩
  | 124 => ⟨S4x16x128x2x8x1, .f32⟩
  | 125 => ⟨S_, .f32⟩
  | 126 => ⟨S4x16x128x2x8, .f32⟩
  | 127 => ⟨S4x16x128x2x8x64, .f32⟩
  | _ => ⟨S8192x1024, .f32⟩

abbrev hbmTy0_2 (i : Nat) : BufTy := match i % 128 with
  | 0 => ⟨S4x16x128x2x8x64, .f32⟩
  | 1 => ⟨S4x16x128x2x8x64, .f32⟩
  | 2 => ⟨S4x16x128x2x8x64, .f32⟩
  | 3 => ⟨S4x16x128x2x8x64, .f32⟩
  | 4 => ⟨S_, .f32⟩
  | 5 => ⟨S128x64, .f32⟩
  | 6 => ⟨S8192x1024, .f32⟩
  | 7 => ⟨S8192x1024, .bf16⟩
  | 8 => ⟨S4x16x2x128x128, .f32⟩
  | 9 => ⟨S4x16x1x128x128, .f32⟩
  | 10 => ⟨S4x16x128x128, .f32⟩
  | 11 => ⟨S4x16x2x128x128, .f32⟩
  | 12 => ⟨S4x16x1x128x128, .f32⟩
  | 13 => ⟨S4x16x128x128, .f32⟩
  | 14 => ⟨S4x16x128x256, .f32⟩
  | 15 => ⟨S8192x256, .f32⟩
  | 16 => ⟨S4x16x2x128x128, .f32⟩
  | 17 => ⟨S4x16x1x128x128, .f32⟩
  | 18 => ⟨S4x16x128x128, .f32⟩
  | 19 => ⟨S4x16x2x128x128, .f32⟩
  | 20 => ⟨S4x16x1x128x128, .f32⟩
  | 21 => ⟨S4x16x128x128, .f32⟩
  | 22 => ⟨S4x16x128x256, .f32⟩
  | 23 => ⟨S8192x256, .f32⟩
  | 24 => ⟨S64x128, .f32⟩
  | 25 => ⟨S1x16, .f32⟩
  | 26 => ⟨S_, .i32⟩
  | 27 => ⟨S_, .f32⟩
  | 28 => ⟨S8x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_9 : Ref sig .tc := ⟨.hbm, 82, rfl⟩
abbrev main_v63 : Ref sig .tc := ⟨.hbm, 83, rfl⟩
abbrev main_v64 : Ref sig .tc := ⟨.hbm, 84, rfl⟩
abbrev main_c_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_11 : Ref sig .tc := ⟨.hbm, 92, rfl⟩
abbrev main_v71 : Ref sig .tc := ⟨.hbm, 93, rfl⟩
abbrev main_v72 : Ref sig .tc := ⟨.hbm, 94, rfl⟩
abbrev main_c_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_call2_v0 : Ref sig .tc := ⟨.hbm, 132, rfl⟩
abbrev main_v103_1 : Ref sig .tc := ⟨.hbm, 133, rfl⟩
abbrev main_call2_v2 : Ref sig .tc := ⟨.hbm, 134, rfl⟩
abbrev main_v103_0 : Ref sig .tc := ⟨.hbm, 135, rfl⟩
abbrev main_call2_cst : Ref sig .tc := ⟨.hbm, 136, rfl⟩
abbrev main_v103_2 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_20 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_21 : Ref sig .tc := ⟨.hbm, 155, rfl⟩
abbrev main_v119 : Ref sig .tc := ⟨.hbm, 156, rfl⟩
abbrev main_cst_22 : Ref sig .tc := ⟨.hbm, 157, rfl⟩
abbrev main_v120 : Ref sig .tc := ⟨.hbm, 158, rfl⟩
abbrev main_cst_23 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_cst_25 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_27 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_28 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_29 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_30 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_31 : Ref sig .tc := ⟨.hbm, 214, rfl⟩
abbrev main_v168 : Ref sig .tc := ⟨.hbm, 215, rfl⟩
abbrev main_v169 : Ref sig .tc := ⟨.hbm, 216, rfl⟩
abbrev main_cst_32 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_call3_cst : Ref sig .tc := ⟨.hbm, 223, rfl⟩
abbrev main_call3_v0 : Ref sig .tc := ⟨.hbm, 224, rfl⟩
abbrev main_v175 : Ref sig .tc := ⟨.hbm, 225, rfl⟩
abbrev main_cst_33 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_cst_34 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_35 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_cst_36 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_37 : Ref sig .tc := ⟨.hbm, 250, rfl⟩
abbrev main_v196 : Ref sig .tc := ⟨.hbm, 251, rfl⟩
abbrev main_v197 : Ref sig .tc := ⟨.hbm, 252, rfl⟩
abbrev main_cst_38 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_39 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_c_40 : Ref sig .tc := ⟨.hbm, 282, rfl⟩
abbrev main_call4_v0 : Ref sig .tc := ⟨.hbm, 283, rfl⟩
abbrev main_v225 : Ref sig .tc := ⟨.hbm, 284, rfl⟩

abbrev nD : Nat := 1
abbrev τ : Topo := Topo.v7x

variable {F : FTy → Type} [FloatOps F]
-- ==== KernelUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceSquareIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWide.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWideIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFfn.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S1x1024 : Shape := ⟨2, ![1, 1024]⟩
abbrev S8192x2816 : Shape := ⟨2, ![8192, 2816]⟩
abbrev S8192x5632 : Shape := ⟨2, ![8192, 5632]⟩
abbrev S8x1024 : Shape := ⟨2, ![8, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S4x1024x1408, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x2816, .bf16⟩
  | .hbm, ⟨10, _⟩ => ⟨S8192x1024, .bf16⟩
  | .hbm, ⟨11, _⟩ => ⟨S8192x5632, .bf16⟩
  | .hbm, ⟨12, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S8x1024, .f32⟩
  | .local _ .vmem, ⟨20, _⟩ => ⟨S256x2816, .f32⟩
  | .local _ .vmem, ⟨21, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceFfnIdeal.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S2x1024 : Shape := ⟨2, ![2, 1024]⟩
abbrev S8x1024 : Shape := ⟨2, ![8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S4x1024x1408, .bf16⟩
  | .hbm, ⟨4, _⟩ => ⟨S2816x1024, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S_, .f32⟩
  | .hbm, ⟨9, _⟩ => ⟨S8192x5632, .f32⟩
  | .hbm, ⟨10, _⟩ => ⟨S_, .f32⟩
  | .hbm, ⟨11, _⟩ => ⟨S8192x1024, .f32⟩
  | .hbm, ⟨12, _⟩ => ⟨S2816x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x5632, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S1x1024, .f32⟩
  | .hbm, ⟨117, _⟩ => ⟨S2x1024, .f32⟩
  | .hbm, ⟨118, _⟩ => ⟨S_, .i32⟩
  | .hbm, ⟨119, _⟩ => ⟨S_, .f32⟩
  | .hbm, ⟨120, _⟩ => ⟨S8x1024, .f32⟩
  | .hbm, ⟨121, _⟩ => ⟨S8192x1024, .bf16⟩
  | .hbm, ⟨122, _⟩ => ⟨S8192x1024, .bf16⟩
  | .hbm, ⟨123, _⟩ => ⟨S8192x2816, .bf16⟩
  | .hbm, ⟨124, _⟩ => ⟨S8192x1024, .bf16⟩
  | .hbm, ⟨125, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v26_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v26_1 : Ref sig .tc := ⟨.hbm, 48, rfl⟩
abbrev main_v26_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_cst_10 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c : Ref sig .tc := ⟨.hbm, 118, rfl⟩
abbrev main_call2_v0 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩

abbrev nD : Nat := 1
abbrev τ : Topo := Topo.v7x

variable {F : FTy → Type} [FloatOps F]
-- ==== Proof.Tile.lean ====
/-
  One key-value head of the attention's gradient on one block of 128 tokens, as vector functions: what the kernel's
  body computes of its loaded blocks, written once for both heads. A lane of a 1024-lane vector is a pair (query head
  of the group, token of the block); a row of a 128-row one is a folded window slot, holding the key of the block
  before where the slot is above the token and the key of the block itself elsewhere.
-/
module

public import proofs.«01_k».proof.Proof.Gen.KernelIdeal.Skeleton
public import Idealize.ShloMosaic.Lib.Pipeline.Value

@[expose] public section

set_option synthInstance.maxSize 4096

noncomputable section

namespace Cert.Tile

open Idealize.ShloMosaic Idealize.SL.Sem
open Cert.KernelIdeal Cert.KernelIdeal.Gen

variable {F : FTy → Type} [FloatOps F] [Named F]

/-- What the body reads for one key-value head: the queries and the arriving gradient with heads moved to lanes, the
    keys and values of the block before and of the block itself, the gains, the triangle, the position bias, the sink
    logits and the block's number within its sequence. -/
structure In (F : FTy → Type) where
  q : FVec F S64x1024 .f32
  d : FVec F S64x1024 .f32
  kp : Vec F S128x64 .f32
  kc : Vec F S128x64 .f32
  vp : Vec F S128x64 .f32
  vc : Vec F S128x64 .f32
  qg : Vec F S64x1024 .f32
  kg : Vec F S1x64 .f32
  tri : Vec F S128x1024 .f32
  bias : Vec F S1x128x1024 .f32
  sink : Vec F S1x1024 .f32
  n : BitVec 32

/-- A key block, each row scaled to unit mean square and by the gain. -/
def kn (k : Vec F S128x64 .f32) (g : Vec F S1x64 .f32) : FVec F S128x64 .bf16 := k0_pay5 k g

/-- The reciprocal root mean square of each query lane. -/
def rq (q : FVec F S64x1024 .f32) : FVec F S1x1024 .f32 :=
  rsqrt (addf (divf (shapeCast S1x1024 (multiReduction .add [0] S1024 (mulf q q) 0x00000000#32 reduces_S64x1024_S1024
    (.inl rfl) rfl) shapeCasts_S1024_S1x1024) (broadcast S1x1024 (Scalar.ofBits .f32 0x42800000#32)))
    (broadcast S1x1024 (Scalar.ofBits .f32 0x358637BD#32)))

/-- The queries scaled to unit mean square. -/
def yq (q : FVec F S64x1024 .f32) : FVec F S64x1024 .f32 :=
  mulf q (broadcastTo S64x1024 (rq q) broadcasts_S1x1024_S64x1024)

/-- The normalised queries with gain and the attention's scale. -/
def qh (q : FVec F S64x1024 .f32) (g : Vec F S64x1024 .f32) : FVec F S64x1024 .bf16 :=
  truncf .bf16 (mulf (yq q) (mulf (shapeCast S64x1024 g shapeCasts_S64x1024_S64x1024)
    (broadcast S64x1024 (Scalar.ofBits .f32 0x3E000000#32)))) bitsLt_bf16_f32

/-- Where a slot holds a key of the block before. -/
def isPrev (t : Vec F S128x1024 .f32) : IVec S128x1024 1 := k0_pay23 t

/-- The scores before the bias; a slot of the block before the first is masked. -/
def scores (a : In F) : FVec F S128x1024 .f32 :=
  select (isPrev a.tri)
    (addf (matmul dot_S128x64_S64x1024_S128x1024_1_0_0_1_n_n none (kn a.kp a.kg) (qh a.q a.qg)
        (constant S128x1024 .f32 0x00000000#32))
      (broadcast S128x1024 (Scalar.select (Scalar.cmpi .sgt a.n 0#32) (Scalar.ofBits .f32 0x00000000#32)
        (Named.named κ "mask" 0xF149F2CA#32))))
    (matmul dot_S128x64_S64x1024_S128x1024_1_0_0_1_n_n none (kn a.kc a.kg) (qh a.q a.qg)
      (constant S128x1024 .f32 0x00000000#32))

/-- The scores with the bias. -/
def logit (a : In F) : FVec F S128x1024 .f32 := k0_pay13 (scores a) a.bias

/-- Each lane's maximum of scores and sink. -/
def mx (a : In F) : FVec F S1x1024 .f32 := k0_pay15 (scores a) a.bias a.sink

/-- The exponentials of the scores below the maximum. -/
def ex (a : In F) : FVec F S128x1024 .f32 := k0_pay16 (scores a) a.bias a.sink

/-- The exponential of the sink below the maximum. -/
def es (a : In F) : FVec F S1x1024 .f32 := k0_pay17 (scores a) a.bias a.sink

/-- The reciprocal of the softmax's denominator. -/
def rz (a : In F) : FVec F S1x1024 .f32 := k0_pay18 (scores a) a.bias a.sink

/-- The attention probabilities. -/
def p (a : In F) : FVec F S128x1024 .f32 := k0_pay20 (scores a) a.bias a.sink

/-- The sink's probability. -/
def ps (a : In F) : FVec F S1x1024 .f32 := k0_pay21 (scores a) a.bias a.sink

/-- One on a slot of the block before, zero elsewhere. -/
def pm (a : In F) : FVec F S128x1024 .bf16 := k0_pay19 a.tri

/-- The arriving gradient, as the products read it. -/
def db (a : In F) : FVec F S64x1024 .bf16 := truncf .bf16 a.d bitsLt_bf16_f32

/-- The gradient of a value block's products. -/
def dpOf (a : In F) (v : Vec F S128x64 .f32) : FVec F S128x1024 .f32 :=
  matmul dot_S128x64_S64x1024_S128x1024_1_0_0_1_n_n none (truncf .bf16 v bitsLt_bf16_f32) (db a)
    (constant S128x1024 .f32 0x00000000#32)

/-- The gradient of the probabilities. -/
def dp (a : In F) : FVec F S128x1024 .f32 := k0_pay26 (isPrev a.tri) (dpOf a a.vp) (dpOf a a.vc)

/-- Each lane's mean of that gradient under the probabilities. -/
def dl (a : In F) : FVec F S1x1024 .f32 := k0_pay27 (p a) (isPrev a.tri) (dpOf a a.vp) (dpOf a a.vc)

/-- The gradient of the scores. -/
def ds (a : In F) : FVec F S128x1024 .bf16 := k0_pay28 (p a) (isPrev a.tri) (dpOf a a.vp) (dpOf a a.vc)

/-- The score gradient of the block before, -/
def dsp (a : In F) : FVec F S128x1024 .bf16 := mulf (ds a) (pm a)

/-- and of the block itself. -/
def dsc (a : In F) : FVec F S128x1024 .bf16 := subf (ds a) (dsp a)

/-- The probabilities of the block before, -/
def pp (a : In F) : FVec F S128x1024 .bf16 := k0_pay32 (pm a) (p a)

/-- and of the block itself. -/
def pc (a : In F) : FVec F S128x1024 .bf16 := k0_pay33 (pm a) (p a)

/-- The gradient of the sink logit, per lane. -/
def dsink (a : In F) : FVec F S1x1024 .f32 := k0_pay34 (p a) (ps a) (isPrev a.tri) (dpOf a a.vp) (dpOf a a.vc)

/-- The gradient of the normalised queries with gain. -/
def dqh (a : In F) : FVec F S64x1024 .f32 :=
  mulf (addf
      (matmul dot_S128x64_S128x1024_S64x1024_0_0_1_1_n_n none (kn a.kp a.kg) (dsp a) (constant S64x1024 .f32 0x00000000#32))
      (matmul dot_S128x64_S128x1024_S64x1024_0_0_1_1_n_n none (kn a.kc a.kg) (dsc a) (constant S64x1024 .f32 0x00000000#32)))
    (broadcast S64x1024 (Scalar.ofBits .f32 0x3E000000#32))

/-- The gain's gradient before the sum over heads. -/
def dgl (a : In F) : FVec F S64x1024 .f32 := mulf (dqh a) (yq a.q)

/-- The gradient of the normalised queries. -/
def dy (a : In F) : FVec F S64x1024 .f32 :=
  mulf (dqh a) (shapeCast S64x1024 a.qg shapeCasts_S64x1024_S64x1024)

/-- The gradient of the queries, heads on lanes. -/
def dq (a : In F) : FVec F S64x1024 .f32 :=
  mulf (broadcastTo S64x1024 (rq a.q) broadcasts_S1x1024_S64x1024) (subf (dy a)
    (mulf (yq a.q) (broadcastTo S64x1024 (divf (shapeCast S1x1024 (multiReduction .add [0] S1024 (mulf (dy a) (yq a.q))
      0x00000000#32 reduces_S64x1024_S1024 (.inl rfl) rfl) shapeCasts_S1024_S1x1024)
      (broadcast S1x1024 (Scalar.ofBits .f32 0x42800000#32))) broadcasts_S1x1024_S64x1024)))

/-- A sum over lanes of a row-by-lane and a feature-by-lane vector: how the keys' and values' gradients are formed. -/
def overLanes (x : FVec F S128x1024 .bf16) (y : FVec F S64x1024 .bf16) : FVec F S128x64 .f32 :=
  matmul dot_S128x1024_S64x1024_S128x64_1_1_0_0_n_n none x y (constant S128x64 .f32 0x00000000#32)

/-- The eight heads of a 1024-lane vector moved back below each other. -/
def toRows (x : FVec F S64x1024 .f32) : FVec F S512x128 .f32 :=
  concatenate S512x128 0 [
    ⟨S64x128, extractStridedSlice S64x128 ![0, 0] x slices_S64x1024_o0_0_S64x128⟩,
    ⟨S64x128, extractStridedSlice S64x128 ![0, 128] x slices_S64x1024_o0_128_S64x128⟩,
    ⟨S64x128, extractStridedSlice S64x128 ![0, 256] x slices_S64x1024_o0_256_S64x128⟩,
    ⟨S64x128, extractStridedSlice S64x128 ![0, 384] x slices_S64x1024_o0_384_S64x128⟩,
    ⟨S64x128, extractStridedSlice S64x128 ![0, 512] x slices_S64x1024_o0_512_S64x128⟩,
    ⟨S64x128, extractStridedSlice S64x128 ![0, 640] x slices_S64x1024_o0_640_S64x128⟩,
    ⟨S64x128, extractStridedSlice S64x128 ![0, 768] x slices_S64x1024_o0_768_S64x128⟩,
    ⟨S64x128, extractStridedSlice S64x128 ![0, 896] x slices_S64x1024_o0_896_S64x128⟩]
    concatenates_S64x128_S64x128_S64x128_S64x128_S64x128_S64x128_S64x128_S64x128_S512x128_d0

/-- A 1024-lane vector summed over its eight heads onto what was there. -/
def addHeads (x : FVec F S64x1024 .f32) (o : Vec F S64x128 .f32) : FVec F S64x128 .f32 :=
  addf (shapeCast S64x128 o shapeCasts_S64x128_S64x128)
    (addf (addf (addf (addf (addf (addf (addf (addf (broadcast S64x128 (Scalar.ofBits .f32 0x00000000#32))
      (extractStridedSlice S64x128 ![0, 0] x slices_S64x1024_o0_0_S64x128))
      (extractStridedSlice S64x128 ![0, 128] x slices_S64x1024_o0_128_S64x128))
      (extractStridedSlice S64x128 ![0, 256] x slices_S64x1024_o0_256_S64x128))
      (extractStridedSlice S64x128 ![0, 384] x slices_S64x1024_o0_384_S64x128))
      (extractStridedSlice S64x128 ![0, 512] x slices_S64x1024_o0_512_S64x128))
      (extractStridedSlice S64x128 ![0, 640] x slices_S64x1024_o0_640_S64x128))
      (extractStridedSlice S64x128 ![0, 768] x slices_S64x1024_o0_768_S64x128))
      (extractStridedSlice S64x128 ![0, 896] x slices_S64x1024_o0_896_S64x128))

/-- The eight lane sums of a sink gradient, placed at the lanes of the first eight heads, added to a row. -/
def addSinks0 (x : FVec F S1x1024 .f32) (o : Vec F S1x128 .f32) : FVec F S1x128 .f32 :=
  k0_pay45 (k0_pay42 (iota .tc S1x128 32 [1] iota_S1x128_d1_w32) x (k0_pay40 (iota .tc S1x128 32 [1] iota_S1x128_d1_w32) x)
    (k0_pay41 (iota .tc S1x128 32 [1] iota_S1x128_d1_w32) x)) (k0_pay43 (iota .tc S1x128 32 [1] iota_S1x128_d1_w32))
    (k0_pay44 x) o

/-- The same at the lanes of the last eight heads. -/
def addSinks1 (x : FVec F S1x1024 .f32) (o : Vec F S1x128 .f32) : FVec F S1x128 .f32 :=
  k0_pay94 (iota .tc S1x128 32 [1] iota_S1x128_d1_w32) x (k0_pay92 (iota .tc S1x128 32 [1] iota_S1x128_d1_w32) x
    (k0_pay89 (iota .tc S1x128 32 [1] iota_S1x128_d1_w32) x) (k0_pay90 (iota .tc S1x128 32 [1] iota_S1x128_d1_w32))
    (k0_pay91 x)) k0_pay93 o

/-- The columns of one query head pair's group in a token block, moved to lanes: the first key-value head's, -/
def lanes0 (t : FVec F S1024x128 .f32) : FVec F S64x1024 .f32 := k0_pay8 t

/-- and the second's. -/
def lanes1 (t : FVec F S1024x128 .f32) : FVec F S64x1024 .f32 := k0_pay53 t

/-- What the first key-value head reads of the nine blocks. -/
def in0 (n : BitVec 32) (x0 : Vec F S128x1024 .f32) (x1 x2 : Vec F S128x256 .f32) (x3 : Vec F S128x1024 .bf16)
    (x4 : Vec F S64x1024 .f32) (x5 : Vec F S1x64 .f32) (x6 : Vec F S128x1024 .f32) (x7 : Vec F S2x128x1024 .f32)
    (x8 : Vec F S2x1024 .f32) : In F where
  q := lanes0 (k0_pay3 x0)
  d := lanes0 (k0_pay4 x3)
  kp := View.ld x2 (Rect.unit (s := S128x256) ![0, 0] S128x64.size inb_S128x256_S128x64_0_0)
  kc := View.ld x1 (Rect.unit (s := S128x256) ![0, 0] S128x64.size inb_S128x256_S128x64_0_0)
  vp := View.ld x2 (Rect.unit (s := S128x256) ![0, 128] S128x64.size inb_S128x256_S128x64_0_128)
  vc := View.ld x1 (Rect.unit (s := S128x256) ![0, 128] S128x64.size inb_S128x256_S128x64_0_128)
  qg := x4
  kg := x5
  tri := x6
  bias := View.ld x7 (Rect.unit (s := S2x128x1024) ![0, 0, 0] S1x128x1024.size inb_S2x128x1024_S1x128x1024_0_0_0)
  sink := View.ld x8 (Rect.unit (s := S2x1024) ![0, 0] S1x1024.size inb_S2x1024_S1x1024_0_0)
  n := n

/-- What the second key-value head reads of the nine blocks. -/
def in1 (n : BitVec 32) (x0 : Vec F S128x1024 .f32) (x1 x2 : Vec F S128x256 .f32) (x3 : Vec F S128x1024 .bf16)
    (x4 : Vec F S64x1024 .f32) (x5 : Vec F S1x64 .f32) (x6 : Vec F S128x1024 .f32) (x7 : Vec F S2x128x1024 .f32)
    (x8 : Vec F S2x1024 .f32) : In F where
  q := lanes1 (k0_pay3 x0)
  d := lanes1 (k0_pay4 x3)
  kp := View.ld x2 (Rect.unit (s := S128x256) ![0, 64] S128x64.size inb_S128x256_S128x64_0_64)
  kc := View.ld x1 (Rect.unit (s := S128x256) ![0, 64] S128x64.size inb_S128x256_S128x64_0_64)
  vp := View.ld x2 (Rect.unit (s := S128x256) ![0, 192] S128x64.size inb_S128x256_S128x64_0_192)
  vc := View.ld x1 (Rect.unit (s := S128x256) ![0, 192] S128x64.size inb_S128x256_S128x64_0_192)
  qg := x4
  kg := x5
  tri := x6
  bias := View.ld x7 (Rect.unit (s := S2x128x1024) ![1, 0, 0] S1x128x1024.size inb_S2x128x1024_S1x128x1024_1_0_0)
  sink := View.ld x8 (Rect.unit (s := S2x1024) ![1, 0] S1x1024.size inb_S2x1024_S1x1024_1_0)
  n := n

end Cert.Tile

end
-- ==== Proof.Lane.lean ====
/-
  The gradient of one query's attention over a finite set of key slots, in real arithmetic: the query is scaled to unit
  mean square and by its gain, scored against every key, a softmax with a sink logit taken, and the arriving gradient
  pulled back through it. A slot has a weight: one where the query sees the key, zero where it does not. Both programs
  are read as this; they differ in the slots, which `Fold` relates.
-/
module

public import Idealize.ShloMosaic.Lib.Pointwise

@[expose] public section

noncomputable section

namespace Cert

/-- The variance's offset: the value of the single-precision word nearest to 1e-6. -/
def eps : ℝ := 8796093 / 8796093022208

theorem eps_pos : 0 < eps := by unfold eps; norm_num

/-- The reciprocal root mean square of a row of 64. -/
def rms (x : Fin 64 → ℝ) : ℝ := (Real.sqrt ((∑ d, x d * x d) / 64 + eps))⁻¹

theorem msq_pos (x : Fin 64 → ℝ) : 0 < (∑ d, x d * x d) / 64 + eps :=
  add_pos_of_nonneg_of_pos (div_nonneg (Finset.sum_nonneg fun d _ => mul_self_nonneg _) (by norm_num)) eps_pos

/-- One query, the gradient arriving at its output, its gain, and per slot a key, a value, a bias and a weight; and the
    sink's logit. -/
structure Lane (ι : Type) where
  q : Fin 64 → ℝ
  d : Fin 64 → ℝ
  g : Fin 64 → ℝ
  K : ι → Fin 64 → ℝ
  V : ι → Fin 64 → ℝ
  b : ι → ℝ
  w : ι → ℝ
  s : ℝ

namespace Lane

variable {ι : Type} [Fintype ι] (a : Lane ι)

/-- The query at unit mean square, -/
def y (d : Fin 64) : ℝ := a.q d * rms a.q

/-- with gain and the attention's scale. -/
def h (d : Fin 64) : ℝ := a.y d * (a.g d * (1 / 8))

/-- A slot's score with its bias. -/
def L (k : ι) : ℝ := (∑ d, a.K k d * a.h d) + a.b k

/-- A slot's weighted exponential, below `M`. -/
def E (M : ℝ) (k : ι) : ℝ := a.w k * Real.exp (a.L k - M)

/-- The softmax's denominator, below `M`. -/
def Z (M : ℝ) : ℝ := (∑ k, a.E M k) + Real.exp (a.s - M)

/-- The probability of a slot. -/
def P (k : ι) : ℝ := a.E 0 k / a.Z 0

/-- The probability of the sink. -/
def PS : ℝ := Real.exp a.s / a.Z 0

/-- The gradient of a slot's probability. -/
def dP (k : ι) : ℝ := ∑ d, a.V k d * a.d d

/-- The mean of those gradients. -/
def δ : ℝ := ∑ k, a.P k * a.dP k

/-- The gradient of a slot's score. -/
def DS (k : ι) : ℝ := a.P k * (a.dP k - a.δ)

/-- The gradient of the normalised query. -/
def dh (d : Fin 64) : ℝ := (∑ k, a.K k d * a.DS k) * (1 / 8)

/-- The gain's gradient from this query. -/
def dg (d : Fin 64) : ℝ := a.dh d * a.y d

/-- The gradient before the gain. -/
def dy (d : Fin 64) : ℝ := a.dh d * a.g d

/-- The gradient of the query. -/
def dq (d : Fin 64) : ℝ := rms a.q * (a.dy d - a.y d * ((∑ e, a.dy e * a.y e) / 64))

/-- The gradient of the sink's logit from this query. -/
def dsink : ℝ := -(a.PS * a.δ)

theorem E_eq (M : ℝ) (k : ι) : a.E M k = a.E 0 k * Real.exp (-M) := by
  simp only [E, sub_zero]; rw [mul_assoc, ← Real.exp_add]; rfl

theorem Z_eq (M : ℝ) : a.Z M = a.Z 0 * Real.exp (-M) := by
  simp only [Z, sub_zero, add_mul, Finset.sum_mul, ← Real.exp_add]
  congr 1
  exact Finset.sum_congr rfl fun k _ => a.E_eq M k

variable (hw : ∀ k, 0 ≤ a.w k)

include hw in
theorem Z_pos (M : ℝ) : 0 < a.Z M :=
  add_pos_of_nonneg_of_pos (Finset.sum_nonneg fun k _ => mul_nonneg (hw k) (Real.exp_pos _).le) (Real.exp_pos _)

/-- The probabilities do not depend on what is taken off the scores. -/
theorem P_eq (M : ℝ) (k : ι) : a.E M k * (1 / a.Z M) = a.P k := by
  rw [P, E_eq, Z_eq, mul_one_div, mul_div_mul_right _ _ (Real.exp_pos _).ne']

theorem PS_eq (M : ℝ) : Real.exp (a.s - M) * (1 / a.Z M) = a.PS := by
  rw [PS, Z_eq, sub_eq_add_neg, Real.exp_add, mul_one_div, mul_div_mul_right _ _ (Real.exp_pos _).ne']

/-- One slot set inside another, the rest of which the query does not see: the same query, and where the query sees a
    slot the same key, value and bias. -/
structure Fold {ι κ : Type} (a : Lane ι) (b : Lane κ) (f : ι → κ) : Prop where
  inj : Function.Injective f
  q : a.q = b.q
  d : a.d = b.d
  g : a.g = b.g
  s : a.s = b.s
  w : ∀ k, a.w k = b.w (f k)
  off : ∀ j, j ∉ Set.range f → b.w j = 0
  K : ∀ k, a.w k ≠ 0 → a.K k = b.K (f k)
  V : ∀ k, a.w k ≠ 0 → a.V k = b.V (f k)
  b : ∀ k, a.w k ≠ 0 → a.b k = b.b (f k)

namespace Fold

variable {κ : Type} [Fintype κ] {a} {b : Lane κ} {f : ι → κ} (F : Fold a b f)

include F

theorem y (d : Fin 64) : a.y d = b.y d := by simp only [Lane.y, F.q]

theorem h (d : Fin 64) : a.h d = b.h d := by simp only [Lane.h, F.y, F.g]

theorem E (M : ℝ) (k : ι) : a.E M k = b.E M (f k) := by
  by_cases hk : a.w k = 0
  · simp only [Lane.E, ← F.w, hk, zero_mul]
  · simp only [Lane.E, Lane.L, F.w, F.h, F.K k hk, F.b k hk]

theorem E_off (M : ℝ) (j : κ) (hj : j ∉ Set.range f) : b.E M j = 0 := by simp only [Lane.E, F.off j hj, zero_mul]

theorem Z (M : ℝ) : a.Z M = b.Z M := by
  simp only [Lane.Z, F.s]
  rw [Fintype.sum_of_injective f F.inj _ _ (F.E_off M) (F.E M)]

theorem P (k : ι) : a.P k = b.P (f k) := by simp only [Lane.P, F.E, F.Z]

theorem P_off (j : κ) (hj : j ∉ Set.range f) : b.P j = 0 := by simp only [Lane.P, F.E_off 0 j hj, zero_div]

theorem P_zero (k : ι) (hk : a.w k = 0) : a.P k = 0 := by simp only [Lane.P, Lane.E, hk, zero_mul, zero_div]

theorem PS : a.PS = b.PS := by simp only [Lane.PS, F.s, F.Z]

theorem dP (k : ι) (hk : a.w k ≠ 0) : a.dP k = b.dP (f k) := by simp only [Lane.dP, F.V k hk, F.d]

theorem δ : a.δ = b.δ := by
  refine Fintype.sum_of_injective f F.inj _ _ (fun j hj => by rw [F.P_off j hj, zero_mul]) fun k => ?_
  by_cases hk : a.w k = 0
  · rw [← F.P, F.P_zero k hk, zero_mul, zero_mul]
  · rw [F.P, F.dP k hk]

theorem DS (k : ι) : a.DS k = b.DS (f k) := by
  by_cases hk : a.w k = 0
  · simp only [Lane.DS, ← F.P, F.P_zero k hk, zero_mul]
  · simp only [Lane.DS, F.P, F.dP k hk, F.δ]

theorem DS_off (j : κ) (hj : j ∉ Set.range f) : b.DS j = 0 := by simp only [Lane.DS, F.P_off j hj, zero_mul]

theorem DS_zero (k : ι) (hk : a.w k = 0) : a.DS k = 0 := by simp only [Lane.DS, F.P_zero k hk, zero_mul]

theorem dh (d : Fin 64) : a.dh d = b.dh d := by
  simp only [Lane.dh]
  congr 1
  refine Fintype.sum_of_injective f F.inj _ _ (fun j hj => by rw [F.DS_off j hj, mul_zero]) fun k => ?_
  by_cases hk : a.w k = 0
  · rw [← F.DS, F.DS_zero k hk, mul_zero, mul_zero]
  · rw [F.DS, F.K k hk]

theorem dg (d : Fin 64) : a.dg d = b.dg d := by simp only [Lane.dg, F.dh, F.y]

theorem dq (d : Fin 64) : a.dq d = b.dq d := by simp only [Lane.dq, Lane.dy, F.dh, F.y, F.g, F.q]

theorem dsink : a.dsink = b.dsink := by simp only [Lane.dsink, F.PS, F.δ]

end Fold

end Lane

end Cert

end
-- ==== Proof.TileRead.lean ====
/-
  The vectors of one key-value head at the ideal values: given the reals its blocks hold, every entry is the matching
  number of `Lane`.
-/
module

public import proofs.«01_k».proof.Proof.Tile
public import proofs.«01_k».proof.Proof.Lane
public import Idealize.ShloMosaic.Lib.Pointwise

@[expose] public section

set_option synthInstance.maxSize 4096

noncomputable section

namespace Cert

open Idealize.ShloMosaic Idealize.SL.Sem

/-! ## Extended reals that are real -/

theorem sum_coe {ι : Type} (s : Finset ι) (f : ι → ℝ) : ∑ x ∈ s, ((f x : ℝ) : EReal) = ((∑ x ∈ s, f x : ℝ) : EReal) :=
  (map_sum (⟨⟨Real.toEReal, EReal.coe_zero⟩, EReal.coe_add⟩ : ℝ →+ EReal) f s).symm

theorem div_real {x y : ℝ} (h : y ≠ 0) : Ideal.div (x : EReal) (y : EReal) = ((x / y : ℝ) : EReal) := by
  rw [Ideal.div_coe h, ← EReal.coe_mul, mul_one_div]

theorem rsqrt_real {r : ℝ} (h : 0 < r) : Ideal.rsqrt (r : EReal) = (((Real.sqrt r)⁻¹ : ℝ) : EReal) := by
  rw [Ideal.rsqrt_coe, if_neg h.not_gt, if_neg h.ne']

theorem word_64 : Ideal.ofBits .f32 0x42800000#32 = ((64 : ℝ) : EReal) := by
  simp [Ideal.ofBits, Ideal.ieee, -EReal.coe_mul]; norm_num

theorem word_eps : Ideal.ofBits .f32 0x358637BD#32 = (eps : EReal) := by
  simp [Ideal.ofBits, Ideal.ieee, eps, -EReal.coe_mul]; norm_num

theorem word_eighth : Ideal.ofBits .f32 0x3E000000#32 = ((1 / 8 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_bot : Ideal.ofBits .f32 0xFF800000#32 = ⊥ := by
  simp [Ideal.ofBits, Ideal.ieee]

/-- The maximum of a real and of numbers none of which is `⊤` is real. -/
theorem exists_max_real {ι : Type} (s : Finset ι) (f : ι → EReal) (hf : ∀ x, f x ≠ ⊤) (r : ℝ) :
    ∃ M : ℝ, max (s.fold max ⊥ f) (r : EReal) = (M : EReal) := by
  have h : s.fold max ⊥ f ≠ ⊤ := by
    classical
    induction s using Finset.induction with
    | empty => simp
    | insert a s ha ih =>
      rw [Finset.fold_insert ha]
      rcases max_choice (f a) (s.fold max ⊥ f) with h | h <;> rw [h]
      · exact hf a
      · exact ih
  refine ⟨(max (s.fold max ⊥ f) (r : EReal)).toReal, (EReal.coe_toReal ?_ ?_).symm⟩
  · rcases max_choice (s.fold max ⊥ f) (r : EReal) with h' | h' <;> rw [h']
    · exact h
    · exact EReal.coe_ne_top _
  · exact ((EReal.bot_lt_coe r).trans_le (le_max_right _ _)).ne'

namespace Tile

open Cert.KernelIdeal Cert.KernelIdeal.Gen

/-- The blocks of one head hold the reals of 1024 lanes: the normalised keys of the block before and of the block
    itself are `kp` and `kc`, their values `vp` and `vc`; each lane sees the one or the other at every slot. -/
structure Reads (a : In Ideal) (n : ℕ) (kp kc vp vc : Fin 128 → Fin 64 → ℝ) (ln : Fin 1024 → Lane (Fin 128)) : Prop where
  h_q : ∀ d l, a.q (ix2 d l) = ((ln l).q d : EReal)
  h_d : ∀ d l, a.d (ix2 d l) = ((ln l).d d : EReal)
  h_kp : ∀ k d, kn a.kp a.kg (ix2 k d) = (kp k d : EReal)
  h_kc : ∀ k d, kn a.kc a.kg (ix2 k d) = (kc k d : EReal)
  h_vp : ∀ k d, a.vp (ix2 k d) = (vp k d : EReal)
  h_vc : ∀ k d, a.vc (ix2 k d) = (vc k d : EReal)
  h_qg : ∀ d l, a.qg (ix2 d l) = ((ln l).g d : EReal)
  h_tri : ∀ k l, a.tri (ix2 k l) = if l.val % 128 < k.val then 1 else 0
  h_bias : ∀ k l, a.bias (ix3 0 k l) = ((ln l).b k : EReal)
  h_sink : ∀ l, a.sink (ix2 0 l) = ((ln l).s : EReal)
  h_n : a.n = BitVec.ofNat 32 n
  h_n_lt : n < 16
  h_K : ∀ k l, (ln l).K k = if l.val % 128 < k.val then kp k else kc k
  h_V : ∀ k l, (ln l).V k = if l.val % 128 < k.val then vp k else vc k
  h_w : ∀ k l, (ln l).w k = if l.val % 128 < k.val ∧ n = 0 then 0 else 1

/-- A normalised key block over a block of reals. -/
theorem kn_real (k : Vec Ideal S128x64 .f32) (g : Vec Ideal S1x64 .f32) (x : Fin 128 → Fin 64 → ℝ) (γ : Fin 64 → ℝ)
    (hx : ∀ r d, k (ix2 r d) = (x r d : EReal)) (hg : ∀ d, g (ix2 0 d) = (γ d : EReal)) (r : Fin 128) (d : Fin 64) :
    kn k g (ix2 r d) = ((x r d * rms (x r) * γ d : ℝ) : EReal) := by
  pointwise [kn, k0_pay5]
  simp only [hx, hg, word_64, word_eps, ← EReal.coe_mul, sum_coe]
  rw [div_real (by norm_num), ← EReal.coe_add, rsqrt_real (msq_pos _), ← EReal.coe_mul, ← EReal.coe_mul]
  rfl

variable {a : In Ideal} {n : ℕ} {kp kc vp vc : Fin 128 → Fin 64 → ℝ} {ln : Fin 1024 → Lane (Fin 128)}
  (R : Reads a n kp kc vp vc ln)

include R

theorem Reads.rq (l : Fin 1024) : rq a.q (ix2 0 l) = (rms (ln l).q : EReal) := by
  pointwise [Tile.rq]
  simp only [R.h_q, word_64, word_eps, ← EReal.coe_mul, sum_coe]
  rw [div_real (by norm_num), ← EReal.coe_add, rsqrt_real (msq_pos _)]
  rfl

theorem Reads.y (d : Fin 64) (l : Fin 1024) : yq a.q (ix2 d l) = ((ln l).y d : EReal) := by
  pointwise [yq]
  rw [R.h_q, R.rq, ← EReal.coe_mul]; rfl

theorem Reads.h (d : Fin 64) (l : Fin 1024) : qh a.q a.qg (ix2 d l) = ((ln l).h d : EReal) := by
  pointwise [qh]
  rw [R.y, R.h_qg, word_eighth, ← EReal.coe_mul, ← EReal.coe_mul]; rfl

theorem Reads.prev (k : Fin 128) (l : Fin 1024) : Ideal.ofBits .f32 1056964608#32 < a.tri (ix2 k l) ↔ l.val % 128 < k.val := by
  rw [R.h_tri, word_half]
  split <;> rename_i h
  · simp only [h, iff_true]; exact_mod_cast (by norm_num : (1 / 2 : ℝ) < 1)
  · simp only [h, iff_false, not_lt]; exact_mod_cast (by norm_num : (0 : ℝ) ≤ 1 / 2)

theorem Reads.scores (k : Fin 128) (l : Fin 1024) : Tile.scores a (ix2 k l) =
    if (ln l).w k = 0 then ⊥ else ((∑ d, (ln l).K k d * (ln l).h d : ℝ) : EReal) := by
  pointwise [Tile.scores, isPrev, k0_pay23, dot_S128x64_S64x1024_S128x1024_1_0_0_1_n_n]
  simp only [R.prev, R.h_kp, R.h_kc, R.h, ← EReal.coe_mul, sum_coe, R.h_w, R.h_K, R.h_n]
  have hn : Scalar.cmpi .sgt (BitVec.ofNat 32 n) 0#32 = if n = 0 then 0#1 else 1#1 := by
    have := R.h_n_lt; interval_cases n <;> rfl
  by_cases h : l.val % 128 < k.val
  · by_cases h0 : n = 0
    · have hm : Named.named (F := Ideal) (φ := .f32) κ "mask" 0xF149F2CA#32 = (⊥ : EReal) :=
        IdealRules.named_const.ideal_named_scalar κ "mask" _ _ rfl
      have hs : Scalar.cmpi .sgt 0#32 0#32 = 0#1 := rfl
      simp [h, h0, hs, Scalar.select, hm]
    · simp [h, h0, hn, Scalar.select]
  · simp [h]

theorem Reads.logit (k : Fin 128) (l : Fin 1024) :
    Tile.logit a (ix2 k l) = if (ln l).w k = 0 then ⊥ else ((ln l).L k : EReal) := by
  pointwise [Tile.logit, k0_pay13]
  rw [R.scores, R.h_bias]
  split
  · exact EReal.bot_add _
  · rw [← EReal.coe_add]; rfl

theorem Reads.logit_ne_top (k : Fin 128) (l : Fin 1024) : Tile.logit a (ix2 k l) ≠ ⊤ := by
  rw [R.logit]
  split
  · exact bot_ne_top
  · exact EReal.coe_ne_top _

/-- What is taken off a lane's scores is some real. -/
theorem Reads.mx (l : Fin 1024) : ∃ M : ℝ, Tile.mx a (ix2 0 l) = (M : EReal) := by
  obtain ⟨M, hM⟩ := exists_max_real Finset.univ (fun k : Fin 128 => Tile.logit a (ix2 k l)) (R.logit_ne_top · l) (ln l).s
  refine ⟨M, ?_⟩
  rw [← hM, ← R.h_sink, ← word_bot]
  pointwise [Tile.mx, k0_pay15, k0_pay14, Tile.logit]

theorem Reads.ex {l : Fin 1024} {M : ℝ} (hM : Tile.mx a (ix2 0 l) = (M : EReal)) (k : Fin 128) :
    Tile.ex a (ix2 k l) = ((ln l).E M k : EReal) := by
  have h : Tile.ex a (ix2 k l) = Ideal.exp (Tile.logit a (ix2 k l) - Tile.mx a (ix2 0 l)) := by
    pointwise [Tile.ex, k0_pay16, Tile.logit, Tile.mx]
  rw [h, hM, R.logit, Lane.E]
  have hw := R.h_w k l
  split <;> rename_i h0
  · rw [h0, zero_mul, EReal.bot_sub]; rfl
  · have : (ln l).w k = 1 := by rw [hw] at h0 ⊢; split at h0 <;> simp_all
    rw [this, one_mul, ← EReal.coe_sub, Ideal.exp_coe]

theorem Reads.es {l : Fin 1024} {M : ℝ} (hM : Tile.mx a (ix2 0 l) = (M : EReal)) :
    Tile.es a (ix2 0 l) = (Real.exp ((ln l).s - M) : EReal) := by
  have h : Tile.es a (ix2 0 l) = Ideal.exp (a.sink (ix2 0 l) - Tile.mx a (ix2 0 l)) := by
    pointwise [Tile.es, k0_pay17, k0_pay14, Tile.mx]
  rw [h, hM, R.h_sink, ← EReal.coe_sub, Ideal.exp_coe]

theorem Reads.w_nonneg (l : Fin 1024) (k : Fin 128) : 0 ≤ (ln l).w k := by
  rw [R.h_w]; split <;> norm_num

theorem Reads.rz {l : Fin 1024} {M : ℝ} (hM : Tile.mx a (ix2 0 l) = (M : EReal)) :
    Tile.rz a (ix2 0 l) = ((1 / (ln l).Z M : ℝ) : EReal) := by
  have h : Tile.rz a (ix2 0 l) = Ideal.div (Ideal.ofBits .f32 0x3F800000#32)
      ((∑ k, Tile.ex a (ix2 k l)) + Tile.es a (ix2 0 l)) := by
    pointwise [Tile.rz, k0_pay18, Tile.ex, Tile.es]
  rw [h, Ideal.ofBits_one_f32, R.es hM]
  simp only [R.ex hM, sum_coe]
  rw [← EReal.coe_add, ← EReal.coe_one]
  exact div_real ((ln l).Z_pos (R.w_nonneg l) M).ne'

theorem Reads.p (k : Fin 128) (l : Fin 1024) : Tile.p a (ix2 k l) = ((ln l).P k : EReal) := by
  obtain ⟨M, hM⟩ := R.mx l
  have h : Tile.p a (ix2 k l) = Tile.ex a (ix2 k l) * Tile.rz a (ix2 0 l) := by
    pointwise [Tile.p, k0_pay20, Tile.ex, Tile.rz]
  rw [h, R.ex hM, R.rz hM, ← EReal.coe_mul, Lane.P_eq]

theorem Reads.ps (l : Fin 1024) : Tile.ps a (ix2 0 l) = ((ln l).PS : EReal) := by
  obtain ⟨M, hM⟩ := R.mx l
  have h : Tile.ps a (ix2 0 l) = Tile.es a (ix2 0 l) * Tile.rz a (ix2 0 l) := by
    pointwise [Tile.ps, k0_pay21, Tile.es, Tile.rz]
  rw [h, R.es hM, R.rz hM, ← EReal.coe_mul, Lane.PS_eq]

theorem Reads.db (d : Fin 64) (l : Fin 1024) : Tile.db a (ix2 d l) = ((ln l).d d : EReal) := by
  pointwise [Tile.db]
  exact R.h_d d l

theorem Reads.dp (k : Fin 128) (l : Fin 1024) : Tile.dp a (ix2 k l) = ((ln l).dP k : EReal) := by
  pointwise [Tile.dp, k0_pay26, isPrev, k0_pay23, dpOf, dot_S128x64_S64x1024_S128x1024_1_0_0_1_n_n]
  simp only [R.prev, R.h_vp, R.h_vc, R.db, ← EReal.coe_mul, sum_coe, Lane.dP, R.h_V]
  split <;> rfl

theorem Reads.dl (l : Fin 1024) : Tile.dl a (ix2 0 l) = ((ln l).δ : EReal) := by
  have h : Tile.dl a (ix2 0 l) = ∑ k, Tile.p a (ix2 k l) * Tile.dp a (ix2 k l) := by
    pointwise [Tile.dl, k0_pay27, Tile.dp]
  rw [h]
  simp only [R.p, R.dp, ← EReal.coe_mul, sum_coe]
  rfl

theorem Reads.ds (k : Fin 128) (l : Fin 1024) : Tile.ds a (ix2 k l) = ((ln l).DS k : EReal) := by
  have h : Tile.ds a (ix2 k l) = Tile.p a (ix2 k l) * (Tile.dp a (ix2 k l) - Tile.dl a (ix2 0 l)) := by
    pointwise [Tile.ds, k0_pay28, Tile.dp, Tile.dl]
  rw [h, R.p, R.dp, R.dl, ← EReal.coe_sub, ← EReal.coe_mul]; rfl

theorem Reads.pm (k : Fin 128) (l : Fin 1024) :
    Tile.pm a (ix2 k l) = ((if l.val % 128 < k.val then 1 else 0 : ℝ) : EReal) := by
  pointwise [Tile.pm, k0_pay19]
  rw [R.h_tri]; split <;> simp

/-- The score gradient on the slots of the block before, -/
theorem Reads.dsp (k : Fin 128) (l : Fin 1024) :
    Tile.dsp a (ix2 k l) = ((if l.val % 128 < k.val then (ln l).DS k else 0 : ℝ) : EReal) := by
  pointwise [Tile.dsp]
  rw [R.ds, R.pm, ← EReal.coe_mul]; split <;> simp

/-- and on those of the block itself. -/
theorem Reads.dsc (k : Fin 128) (l : Fin 1024) :
    Tile.dsc a (ix2 k l) = ((if l.val % 128 < k.val then 0 else (ln l).DS k : ℝ) : EReal) := by
  pointwise [Tile.dsc]
  rw [R.ds, R.dsp, ← EReal.coe_sub]; split <;> simp

theorem Reads.pp (k : Fin 128) (l : Fin 1024) :
    Tile.pp a (ix2 k l) = ((if l.val % 128 < k.val then (ln l).P k else 0 : ℝ) : EReal) := by
  have h : Tile.pp a (ix2 k l) = Tile.p a (ix2 k l) * Tile.pm a (ix2 k l) := by
    pointwise [Tile.pp]
    unfold_payloads
    pointwise
  rw [h, R.p, R.pm, ← EReal.coe_mul]; split <;> simp

theorem Reads.pc (k : Fin 128) (l : Fin 1024) :
    Tile.pc a (ix2 k l) = ((if l.val % 128 < k.val then 0 else (ln l).P k : ℝ) : EReal) := by
  have h : Tile.pc a (ix2 k l) = Tile.p a (ix2 k l) - Tile.p a (ix2 k l) * Tile.pm a (ix2 k l) := by
    pointwise [Tile.pc]
    unfold_payloads
    pointwise
  rw [h, R.p, R.pm, ← EReal.coe_mul, ← EReal.coe_sub]; split <;> simp

theorem Reads.dsink (l : Fin 1024) : Tile.dsink a (ix2 0 l) = ((ln l).dsink : EReal) := by
  have h : Tile.dsink a (ix2 0 l) = (0 - Tile.ps a (ix2 0 l)) * Tile.dl a (ix2 0 l) := by
    pointwise [Tile.dsink, k0_pay34, Tile.dl]
  rw [h, R.ps, R.dl, ← EReal.coe_zero, ← EReal.coe_sub, ← EReal.coe_mul, zero_sub, neg_mul]; rfl

theorem Reads.dqh (d : Fin 64) (l : Fin 1024) : Tile.dqh a (ix2 d l) = ((ln l).dh d : EReal) := by
  pointwise [Tile.dqh, dot_S128x64_S128x1024_S64x1024_0_0_1_1_n_n]
  simp only [R.h_kp, R.h_kc, R.dsp, R.dsc, ← EReal.coe_mul, sum_coe, word_eighth, ← EReal.coe_add, ← Finset.sum_add_distrib]
  simp only [Lane.dh, R.h_K]
  congr 2
  refine Finset.sum_congr rfl fun k _ => ?_
  split <;> simp

theorem Reads.dgl (d : Fin 64) (l : Fin 1024) : Tile.dgl a (ix2 d l) = ((ln l).dg d : EReal) := by
  pointwise [Tile.dgl]
  rw [R.dqh, R.y, ← EReal.coe_mul]; rfl

theorem Reads.dy (d : Fin 64) (l : Fin 1024) : Tile.dy a (ix2 d l) = ((ln l).dy d : EReal) := by
  pointwise [Tile.dy]
  rw [R.dqh, R.h_qg, ← EReal.coe_mul]; rfl

theorem Reads.dq (d : Fin 64) (l : Fin 1024) : Tile.dq a (ix2 d l) = ((ln l).dq d : EReal) := by
  pointwise [Tile.dq]
  simp only [R.rq, R.dy, R.y, ← EReal.coe_mul, sum_coe, word_64]
  rw [div_real (by norm_num), ← EReal.coe_mul, ← EReal.coe_sub, ← EReal.coe_mul]; rfl

/-- The gradient of a key row of the block before, -/
theorem Reads.dkp (k : Fin 128) (d : Fin 64) : overLanes (Tile.dsp a) (qh a.q a.qg) (ix2 k d) =
    ((∑ l : Fin 1024, (if l.val % 128 < k.val then (ln l).DS k else 0) * (ln l).h d : ℝ) : EReal) := by
  pointwise [overLanes, dot_S128x1024_S64x1024_S128x64_1_1_0_0_n_n]
  simp only [R.dsp, R.h, ← EReal.coe_mul, sum_coe]

/-- and of the block itself; -/
theorem Reads.dkc (k : Fin 128) (d : Fin 64) : overLanes (Tile.dsc a) (qh a.q a.qg) (ix2 k d) =
    ((∑ l : Fin 1024, (if l.val % 128 < k.val then 0 else (ln l).DS k) * (ln l).h d : ℝ) : EReal) := by
  pointwise [overLanes, dot_S128x1024_S64x1024_S128x64_1_1_0_0_n_n]
  simp only [R.dsc, R.h, ← EReal.coe_mul, sum_coe]

/-- the gradient of a value row of the block before, -/
theorem Reads.dvp (k : Fin 128) (d : Fin 64) : overLanes (Tile.pp a) (Tile.db a) (ix2 k d) =
    ((∑ l : Fin 1024, (if l.val % 128 < k.val then (ln l).P k else 0) * (ln l).d d : ℝ) : EReal) := by
  pointwise [overLanes, dot_S128x1024_S64x1024_S128x64_1_1_0_0_n_n]
  simp only [R.pp, R.db, ← EReal.coe_mul, sum_coe]

/-- and of the block itself. -/
theorem Reads.dvc (k : Fin 128) (d : Fin 64) : overLanes (Tile.pc a) (Tile.db a) (ix2 k d) =
    ((∑ l : Fin 1024, (if l.val % 128 < k.val then 0 else (ln l).P k) * (ln l).d d : ℝ) : EReal) := by
  pointwise [overLanes, dot_S128x1024_S64x1024_S128x64_1_1_0_0_n_n]
  simp only [R.pc, R.db, ← EReal.coe_mul, sum_coe]

end Tile

end Cert

end
-- ==== Proof.Global.lean ====
/-
  The gradient of the windowed attention as real functions of the real arguments. A query is a sequence `b` of 4, a
  block `n` of 16 of 128 tokens, a token `i` of the block and a head `h` of 16; it sees the 128 keys up to its own, held
  by its block and the one before. `lane` lists those keys by their place in their block (the kernel's slots), `wide`
  all 256 keys of the two blocks (the reference's), and `fold` says the two agree.
-/
module

public import proofs.«01_k».proof.Proof.Lane

@[expose] public section

noncomputable section

namespace Cert

/-- The arguments as reals: queries, keys and values, the arriving gradient, the two gains and the sink logits. -/
structure Args where
  q : ℕ → ℕ → ℝ
  kv : ℕ → ℕ → ℝ
  d : ℕ → ℕ → ℝ
  gq : Fin 64 → ℝ
  gk : Fin 64 → ℝ
  s : ℕ → ℝ

/-- The logarithm of two, as a single-precision word has it. -/
def ln2 : ℝ := 11629080 / 16777216

/-- A head's slope. -/
def slope (h : ℕ) : ℝ := Real.exp (ln2 * (-8 * ((h : ℝ) + 1) / 16))

namespace Args

variable (A : Args)

/-- A key at unit mean square and by its gain, at token `r` for key-value head `kh`. -/
def key (r kh : ℕ) (d : Fin 64) : ℝ :=
  A.kv r (kh * 64 + d) * rms (fun e => A.kv r (kh * 64 + e)) * A.gk d

/-- A value. -/
def val (r kh : ℕ) (d : Fin 64) : ℝ := A.kv r (128 + kh * 64 + d)

/-- A query and its 128 keys. -/
def lane (b n h i : ℕ) : Lane (Fin 128) where
  q d := A.q ((b * 16 + n) * 128 + i) (h * 64 + d)
  d d := A.d ((b * 16 + n) * 128 + i) (h * 64 + d)
  g := A.gq
  K k := if i < k.val then A.key ((b * 16 + (n - 1)) * 128 + k) (h / 8) else A.key ((b * 16 + n) * 128 + k) (h / 8)
  V k := if i < k.val then A.val ((b * 16 + (n - 1)) * 128 + k) (h / 8) else A.val ((b * 16 + n) * 128 + k) (h / 8)
  b k := -slope h * (if i < k.val then ((i : ℝ) + 128 - k.val) else ((i : ℝ) - k.val))
  w k := if i < k.val ∧ n = 0 then 0 else 1
  s := A.s h

/-- A query and the 256 keys of its block and the one before. -/
def wide (b n h i : ℕ) : Lane (Fin 256) where
  q d := A.q ((b * 16 + n) * 128 + i) (h * 64 + d)
  d d := A.d ((b * 16 + n) * 128 + i) (h * 64 + d)
  g := A.gq
  K j d := if n = 0 ∧ j.val < 128 then 0 else A.key ((b * 16 + n) * 128 + j - 128) (h / 8) d
  V j d := if n = 0 ∧ j.val < 128 then 0 else A.val ((b * 16 + n) * 128 + j - 128) (h / 8) d
  b j := -slope h * ((i : ℝ) + 128 - j.val)
  w j := if i < j.val ∧ j.val ≤ i + 128 ∧ ¬(n = 0 ∧ j.val < 128) then 1 else 0
  s := A.s h

/-- Where a slot's key lies among the 256. -/
def place (i : ℕ) (k : Fin 128) : Fin 256 := ⟨if i < k.val then k else 128 + k, by split <;> omega⟩

theorem fold (b n h i : ℕ) (hi : i < 128) : Lane.Fold (A.lane b n h i) (A.wide b n h i) (place i) where
  inj k k' e := by
    have := congrArg Fin.val e
    simp only [place] at this
    split at this <;> split at this <;> exact Fin.ext (by omega)
  q := rfl
  d := rfl
  g := rfl
  s := rfl
  w k := by
    simp only [lane, wide, place]
    by_cases h0 : n = 0 <;> by_cases hk : i < k.val <;> simp [h0, hk] <;> omega
  off j hj := by
    simp only [wide]
    rw [if_neg]
    rintro ⟨h1, h2, -⟩
    refine hj ⟨⟨j.val % 128, by omega⟩, Fin.ext ?_⟩
    simp only [place]
    split <;> omega
  K k hk := by
    funext d
    simp only [lane, wide, place] at hk ⊢
    by_cases h0 : n = 0 <;> by_cases hik : i < k.val <;> simp [h0, hik] at hk ⊢
    · congr 1; omega
    · rw [show (b * 16 + n) * 128 + k.val - 128 = (b * 16 + (n - 1)) * 128 + k.val by omega]
    · rw [show (b * 16 + n) * 128 + (128 + k.val) - 128 = (b * 16 + n) * 128 + k.val by omega]
  V k hk := by
    funext d
    simp only [lane, wide, place] at hk ⊢
    by_cases h0 : n = 0 <;> by_cases hik : i < k.val <;> simp [h0, hik] at hk ⊢
    · congr 1; omega
    · rw [show (b * 16 + n) * 128 + k.val - 128 = (b * 16 + (n - 1)) * 128 + k.val by omega]
    · rw [show (b * 16 + n) * 128 + (128 + k.val) - 128 = (b * 16 + n) * 128 + k.val by omega]
  b k hk := by
    simp only [lane, wide, place]
    split <;> push_cast <;> ring

/-- The query's gradient at a token and a column. -/
def dq (r c : ℕ) : ℝ :=
  (A.lane (r / 2048) (r / 128 % 16) (c / 64) (r % 128)).dq ⟨c % 64, Nat.mod_lt _ (by decide)⟩

/-- What the queries of block `n` give the key of its own token `k`, -/
def dkc (b n kh : ℕ) (k : Fin 128) (d : Fin 64) : ℝ := ∑ g : Fin 8, ∑ i : Fin 128,
  (if i.val < k.val then 0 else (A.lane b n (kh * 8 + g) i).DS k) * (A.lane b n (kh * 8 + g) i).h d

/-- the key of token `k` of the block before, -/
def dkp (b n kh : ℕ) (k : Fin 128) (d : Fin 64) : ℝ := ∑ g : Fin 8, ∑ i : Fin 128,
  (if i.val < k.val then (A.lane b n (kh * 8 + g) i).DS k else 0) * (A.lane b n (kh * 8 + g) i).h d

/-- the value of its own token `k`, -/
def dvc (b n kh : ℕ) (k : Fin 128) (d : Fin 64) : ℝ := ∑ g : Fin 8, ∑ i : Fin 128,
  (if i.val < k.val then 0 else (A.lane b n (kh * 8 + g) i).P k) * (A.lane b n (kh * 8 + g) i).d d

/-- and the value of token `k` of the block before. -/
def dvp (b n kh : ℕ) (k : Fin 128) (d : Fin 64) : ℝ := ∑ g : Fin 8, ∑ i : Fin 128,
  (if i.val < k.val then (A.lane b n (kh * 8 + g) i).P k else 0) * (A.lane b n (kh * 8 + g) i).d d

/-- The gradient of a token's own keys and values, columns 0–127 the keys', from the queries of its block, -/
def dcur (r c : ℕ) : ℝ :=
  if c < 128 then A.dkc (r / 2048) (r / 128 % 16) (c / 64) ⟨r % 128, Nat.mod_lt _ (by decide)⟩ ⟨c % 64, Nat.mod_lt _ (by decide)⟩
  else A.dvc (r / 2048) (r / 128 % 16) ((c - 128) / 64) ⟨r % 128, Nat.mod_lt _ (by decide)⟩ ⟨c % 64, Nat.mod_lt _ (by decide)⟩

/-- and, for the token one block before row `r`, from the queries of `r`'s block. -/
def dprev (r c : ℕ) : ℝ :=
  if c < 128 then A.dkp (r / 2048) (r / 128 % 16) (c / 64) ⟨r % 128, Nat.mod_lt _ (by decide)⟩ ⟨c % 64, Nat.mod_lt _ (by decide)⟩
  else A.dvp (r / 2048) (r / 128 % 16) ((c - 128) / 64) ⟨r % 128, Nat.mod_lt _ (by decide)⟩ ⟨c % 64, Nat.mod_lt _ (by decide)⟩

/-- The query gain's gradient from the tokens at place `i` of their blocks. -/
def dg (d : Fin 64) (i : ℕ) : ℝ := ∑ b : Fin 4, ∑ n : Fin 16, ∑ h : Fin 16, (A.lane b n h i).dg d

/-- The gradient of a head's sink logit. -/
def dsink (h : ℕ) : ℝ := ∑ b : Fin 4, ∑ n : Fin 16, ∑ i : Fin 128, (A.lane b n h i).dsink

end Args

end Cert

end
-- ==== Proof.Words.lean ====
/-
  Small 32-bit words as integers and, converted, as reals.
-/
module

public import proofs.«01_k».proof.Proof.Global
public import Idealize.ShloMosaic.Lib.Pointwise

@[expose] public section

noncomputable section

namespace Cert

open Idealize.ShloMosaic

theorem toInt_small (n : ℕ) (h : n < 2 ^ 20) : (BitVec.ofNat 32 n).toInt = n := by
  rw [BitVec.toInt_eq_toNat_of_lt] <;> rw [BitVec.toNat_ofNat] <;> omega

theorem toInt_sub_small (a b : ℕ) (ha : a < 2 ^ 20) (hb : b < 2 ^ 20) :
    (BitVec.ofNat 32 a - BitVec.ofNat 32 b).toInt = (a : ℤ) - b := by
  rw [BitVec.toInt_sub, toInt_small a ha, toInt_small b hb]
  exact Int.bmod_eq_of_le (by omega) (by omega)

theorem sitofp_real {w : ℕ} (φ : FTy) (x : BitVec w) : (FloatOps.sitofp φ x : Ideal φ) = ((x.toInt : ℝ) : EReal) := rfl

/-- A word is greater than another exactly when the number is. -/
theorem cmpi_sgt (a b : ℕ) (ha : a < 2 ^ 20) (hb : b < 2 ^ 20) :
    IntOp.cmpi .sgt (BitVec.ofNat 32 a) (BitVec.ofNat 32 b) = if b < a then 1#1 else 0#1 := by
  simp only [IntOp.cmpi, BitVec.slt, toInt_small a ha, toInt_small b hb, Nat.cast_lt]
  by_cases h : b < a <;> simp [h]

theorem ofNat_add32 (a b : ℕ) : IntOp.addi (BitVec.ofNat 32 a) (BitVec.ofNat 32 b) = BitVec.ofNat 32 (a + b) :=
  (BitVec.ofNat_add a b).symm

theorem word_ln2 : Ideal.ofBits .f32 1060205080#32 = (ln2 : EReal) := by
  simp [Ideal.ofBits, Ideal.ieee, ln2, -EReal.coe_mul]; norm_num

theorem word_neg8 : Ideal.ofBits .f32 3238002688#32 = ((-8 : ℝ) : EReal) := by
  simp [Ideal.ofBits, Ideal.ieee, -EReal.coe_mul]; norm_num

theorem word_16 : Ideal.ofBits .f32 1098907648#32 = ((16 : ℝ) : EReal) := by
  simp [Ideal.ofBits, Ideal.ieee, -EReal.coe_mul]; norm_num

/-- A head's slope as both programs compute it: two to the power of minus eight sixteenths of the head's number. -/
theorem slope_real (h : ℕ) (r : EReal) (hr : r = (((h : ℝ) + 1 : ℝ) : EReal)) :
    Ideal.exp (Ideal.ofBits .f32 1060205080#32 * Ideal.div (Ideal.ofBits .f32 3238002688#32 * r)
      (Ideal.ofBits .f32 1098907648#32)) = (slope h : EReal) := by
  rw [hr, word_ln2, word_neg8, word_16, ← EReal.coe_mul, Ideal.div_coe (by norm_num), ← EReal.coe_mul, ← EReal.coe_mul,
    Ideal.exp_coe, slope]
  congr 3
  ring

end Cert

end
-- ==== Proof.HostVals.lean ====
/-
  What the kernel's host code hands the region: the gains, the triangle, the position bias and the sink logits.
-/
module

public import proofs.«01_k».proof.Proof.TileRead
public import proofs.«01_k».proof.Proof.Words
public import proofs.«01_k».proof.Proof.Gen.KernelIdeal.Value

@[expose] public section

set_option synthInstance.maxSize 4096

noncomputable section

namespace Cert.KernelIdeal.HostVals

open Idealize.ShloMosaic Idealize.ShloMosaic.TcCoe Idealize.SL.Sem
open Cert.KernelIdeal Cert.KernelIdeal.Gen

variable (m : (ℓ : Loc nD τ sig) → Buf (Elt Ideal) ℓ) (c : Dev nD)

theorem v1 (d : Fin 64) (l : Fin 1024) : V m c main_v1 (ix2 d l) = m ((c : Thread nD τ).loc main_arg3) (ix1 d) := by
  show StableHlo.after _ _ (Proc.devRef .tc main_v1) _ = _
  simp only [hostOps0, hostOps0_1, hostOps0_2, List.flatten_cons, List.flatten_nil, List.append_nil, List.cons_append,
      List.nil_append]
  after_results_simp
  pointwise

theorem v2 (d : Fin 64) : V m c main_v2 (ix2 0 d) = m ((c : Thread nD τ).loc main_arg4) (ix1 d) := by
  show StableHlo.after _ _ (Proc.devRef .tc main_v2) _ = _
  simp only [hostOps0, hostOps0_1, hostOps0_2, List.flatten_cons, List.flatten_nil, List.append_nil, List.cons_append,
      List.nil_append]
  after_results_simp
  pointwise

theorem v5 (kh : Fin 2) (l : Fin 1024) : V m c main_v5 (ix2 kh l) =
    m ((c : Thread nD τ).loc main_arg5) (ix1 ⟨kh.val * 8 + l.val / 128, by omega⟩) := by
  show StableHlo.after _ _ (Proc.devRef .tc main_v5) _ = _
  simp only [hostOps0, hostOps0_1, hostOps0_2, List.flatten_cons, List.flatten_nil, List.append_nil, List.cons_append,
      List.nil_append]
  after_results_simp
  pointwise

theorem v47 (k : Fin 128) (l : Fin 1024) : V m c main_v47 (ix2 k l) = (if l.val % 128 < k.val then 1 else 0 : EReal) := by
  show StableHlo.after _ _ (Proc.devRef .tc main_v47) _ = _
  simp only [hostOps0, hostOps0_1, hostOps0_2, List.flatten_cons, List.flatten_nil, List.append_nil, List.cons_append,
      List.nil_append]
  after_results_simp
  pointwise
  rw [cmpi_sgt _ _ (by omega) (by omega)]
  split
  · show ((((1#1).toNat : ℝ)) : EReal) = 1
    simp
  · show ((((0#1).toNat : ℝ)) : EReal) = 0
    simp

/-- A bias: minus the head's slope times the distance. -/
theorem v50 (kh : Fin 2) (k : Fin 128) (l : Fin 1024) : V m c main_v50 (ix3 kh k l) =
    ((-slope (kh.val * 8 + l.val / 128) * (if l.val % 128 < k.val then (((l.val % 128 : ℕ) : ℝ) + 128 - k.val)
      else (((l.val % 128 : ℕ) : ℝ) - k.val)) : ℝ) : EReal) := by
  show StableHlo.after _ _ (Proc.devRef .tc main_v50) _ = _
  simp only [hostOps0, hostOps0_1, hostOps0_2, List.flatten_cons, List.flatten_nil, List.append_nil, List.cons_append,
      List.nil_append]
  after_results_simp
  simp only [StableHlo.TRef.toBuf, StableHlo.TRef.ofBuf, cast_eq]
  pointwise
  rw [cmpi_sgt _ _ (by omega) (by omega)]
  have hd : FloatOps.sitofp (F := Ideal) .f32 (Scalar.select (if l.val % 128 < k.val then 1#1 else 0#1)
      (IntOp.subi (IntOp.addi (BitVec.ofNat 32 (l.val % 128)) 128#32) (BitVec.ofNat 32 k.val))
      (IntOp.subi (BitVec.ofNat 32 (l.val % 128)) (BitVec.ofNat 32 k.val))) =
      ((if l.val % 128 < k.val then (((l.val % 128 : ℕ) : ℝ) + 128 - k.val)
        else (((l.val % 128 : ℕ) : ℝ) - k.val) : ℝ) : EReal) := by
    rw [sitofp_real, ofNat_add32]
    split
    · rw [show Scalar.select 1#1 _ _ = _ from rfl]
      erw [toInt_sub_small _ _ (by omega) (by omega)]
      push_cast; rfl
    · rw [show Scalar.select 0#1 _ _ = _ from rfl]
      erw [toInt_sub_small _ _ (by omega) (by omega)]
      push_cast; rfl
  rw [hd]
  have hh (a : ℕ) (ha : a < 9) : (FloatOps.sitofp (F := Ideal) .f32
      (IntOp.addi (IntOp.addi (BitVec.ofNat 32 a) (BitVec.ofNat 32 (l.val / 128))) (BitVec.ofNat 32 1)) : EReal) =
      ((((a + l.val / 128 : ℕ) : ℝ) + 1 : ℝ) : EReal) := by
    rw [sitofp_real, ofNat_add32, ofNat_add32, toInt_small _ (by omega)]
    push_cast; rfl
  split
  · rw [slope_real _ _ (hh 0 (by omega)), ← EReal.coe_neg, ← EReal.coe_mul]
    rw [show kh.val * 8 + l.val / 128 = 0 + l.val / 128 by omega]
  · rw [slope_real _ _ (hh 8 (by omega)), ← EReal.coe_neg, ← EReal.coe_mul]
    rw [show kh.val * 8 + l.val / 128 = 8 + l.val / 128 by omega]

end Cert.KernelIdeal.HostVals

end
-- ==== Proof.Layout.lean ====
/-
  Where the body's re-arrangements put an entry: heads moved to lanes and back, and the sums over heads.
-/
module

public import proofs.«01_k».proof.Proof.Tile
public import Idealize.ShloMosaic.Lib.Pointwise

@[expose] public section

set_option synthInstance.maxSize 4096

noncomputable section

namespace Cert.Tile

open Idealize.ShloMosaic Idealize.SL.Sem
open Cert.KernelIdeal Cert.KernelIdeal.Gen

theorem ix2_congr {a b : ℕ} {i i' : Fin a} {j j' : Fin b} (hi : i.val = i'.val) (hj : j.val = j'.val) :
    ix2 i j = ix2 i' j' := by
  rw [Fin.ext hi, Fin.ext hj]

/-- A query lane of the first key-value head is a token's feature of the lane's head, -/
theorem lanes0_apply (x : Vec Ideal S128x1024 .f32) (d : Fin 64) (l : Fin 1024) : lanes0 (k0_pay3 x) (ix2 d l) =
    x (ix2 ⟨l.val % 128, by omega⟩ ⟨l.val / 128 * 64 + d.val, by omega⟩) := by
  have h (v : FVec Ideal S1024x128 .f32) : lanes0 v (ix2 d l) =
      v (ix2 ⟨l.val / 128 * 64 + d.val, by omega⟩ ⟨l.val % 128, by omega⟩) := by
    pointwise [lanes0, k0_pay8]
    split_ifs <;> exact congrArg v (ix2_congr (by dsimp only; omega) (by dsimp only; omega))
  rw [h]
  pointwise [k0_pay3]

/-- and the second's a feature of a head eight further on. -/
theorem lanes1_apply (x : Vec Ideal S128x1024 .f32) (d : Fin 64) (l : Fin 1024) : lanes1 (k0_pay3 x) (ix2 d l) =
    x (ix2 ⟨l.val % 128, by omega⟩ ⟨512 + l.val / 128 * 64 + d.val, by omega⟩) := by
  have h (v : FVec Ideal S1024x128 .f32) : lanes1 v (ix2 d l) =
      v (ix2 ⟨512 + l.val / 128 * 64 + d.val, by omega⟩ ⟨l.val % 128, by omega⟩) := by
    pointwise [lanes1, k0_pay53]
    split_ifs <;> exact congrArg v (ix2_congr (by dsimp only; omega) (by dsimp only; omega))
  rw [h]
  pointwise [k0_pay3]

/-- The arriving gradient is laid out alike. -/
theorem pay4_eq (x : Vec Ideal S128x1024 .bf16) : k0_pay4 x = k0_pay3 (F := Ideal) (fun i => x i) := by
  funext i
  rw [eq_ix2 i]
  pointwise [k0_pay3, k0_pay4]

set_option maxHeartbeats 1000000 in
/-- Lanes moved back to rows. -/
theorem toRows_apply (x : FVec Ideal S64x1024 .f32) (r : Fin 512) (c : Fin 128) : toRows x (ix2 r c) =
    x (ix2 ⟨r.val % 64, by omega⟩ ⟨r.val / 64 * 128 + c.val, by omega⟩) := by
  pointwise [toRows]
  split_ifs <;> exact congrArg x (ix2_congr (by dsimp only; omega) (by dsimp only; omega))

/-- The two halves of the query's gradient, a token per row. -/
theorem pay99_apply (x y : FVec Ideal S512x128 .f32) (r : Fin 128) (c : Fin 1024) : k0_pay99 x y (ix2 r c) =
    if h : c.val < 512 then x (ix2 ⟨c.val, h⟩ r) else y (ix2 ⟨c.val - 512, by omega⟩ r) := by
  pointwise [k0_pay99]

/-- What is there and the sum over the eight heads. -/
theorem addHeads_apply (x : FVec Ideal S64x1024 .f32) (o : Vec Ideal S64x128 .f32) (d : Fin 64) (i : Fin 128) :
    addHeads x o (ix2 d i) = o (ix2 d i) + ∑ g : Fin 8, x (ix2 d ⟨g.val * 128 + i.val, by omega⟩) := by
  rw [Fin.sum_univ_eight]
  pointwise [addHeads]

/-- A choice between a number and zero by the equality of two small words. -/
theorem select_eq (i c : ℕ) (hi : i < 128) (hc : c < 128) (x : EReal) :
    Scalar.select (IntOp.cmpi .eq (BitVec.ofNat 32 i) (BitVec.ofNat 32 c)) x 0 = if i = c then x else 0 := by
  have h : (BitVec.ofNat 32 i = BitVec.ofNat 32 c) ↔ i = c := by
    rw [← BitVec.toNat_inj, BitVec.toNat_ofNat, BitVec.toNat_ofNat]; omega
  by_cases hic : i = c
  · subst hic; simp [Scalar.select, IntOp.cmpi]
  · have hb : (BitVec.ofNat 32 i == BitVec.ofNat 32 c) = false := beq_eq_false_iff_ne.mpr fun e => hic (h.mp e)
    simp [Scalar.select, IntOp.cmpi, hb, hic]

/-- What is there and, at the lane of one of the first eight heads, the sum over that head's lanes. -/
theorem addSinks0_apply (x : FVec Ideal S1x1024 .f32) (o : Vec Ideal S1x128 .f32) (i : Fin 128) :
    addSinks0 x o (ix2 0 i) = o (ix2 0 i) +
      if h : i.val < 8 then ∑ t : Fin 128, x (ix2 0 ⟨i.val * 128 + t.val, by omega⟩) else 0 := by
  pointwise [addSinks0, k0_pay45, k0_pay42, k0_pay40, k0_pay41, k0_pay43, k0_pay44]
  congr 1
  obtain ⟨i, hi⟩ := i
  have e := fun c hc => select_eq i c hi hc
  rw [e 0 (by omega), e 1 (by omega), e 2 (by omega), e 3 (by omega), e 4 (by omega), e 5 (by omega), e 6 (by omega),
    e 7 (by omega)]
  by_cases h : i < 8
  · rw [dif_pos h]
    clear e
    interval_cases i <;> simp
  · have (c : ℕ) (hc : c < 8) : i ≠ c := by omega
    simp [h, this]

/-- What is there and, at the lane of one of the last eight heads, the sum over that head's lanes. -/
theorem addSinks1_apply (x : FVec Ideal S1x1024 .f32) (o : Vec Ideal S1x128 .f32) (i : Fin 128) :
    addSinks1 x o (ix2 0 i) = o (ix2 0 i) +
      if h : 8 ≤ i.val ∧ i.val < 16 then ∑ t : Fin 128, x (ix2 0 ⟨(i.val - 8) * 128 + t.val, by omega⟩) else 0 := by
  pointwise [addSinks1, k0_pay94, k0_pay92, k0_pay89, k0_pay90, k0_pay91, k0_pay93]
  congr 1
  obtain ⟨i, hi⟩ := i
  have e := fun c hc => select_eq i c hi hc
  rw [e 8 (by omega), e 9 (by omega), e 10 (by omega), e 11 (by omega), e 12 (by omega), e 13 (by omega),
    e 14 (by omega), e 15 (by omega)]
  by_cases h : 8 ≤ i ∧ i < 16
  · rw [dif_pos h]
    clear e
    obtain ⟨h₁, h₂⟩ := h
    interval_cases i <;> simp
  · have (c : ℕ) (hc : 8 ≤ c) (hc' : c < 16) : i ≠ c := by omega
    simp [h, this]

end Cert.Tile

end
-- ==== Proof.Pieces.lean ====
/-
  What the body leaves in its five result blocks at a grid point, in terms of one key-value head's functions.
-/
module

public import proofs.«01_k».proof.Proof.Gen.KernelIdeal.Value
public import proofs.«01_k».proof.Proof.Tile
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384
set_option pp.deepTerms false
set_option pp.deepTerms.threshold 6

noncomputable section

namespace Cert.KernelIdeal.Pieces

open Idealize.ShloMosaic Idealize.ShloMosaic.TcCoe Idealize.SL.Sem
open Cert.KernelIdeal Cert.KernelIdeal.Gen Cert.Tile

variable {F : FTy → Type} [FloatOps F] [Named F]

theorem hz : (![0, 0] : Fin 2 → Nat) = fun _ => 0 := funext fun a => by fin_cases a <;> rfl

variable (c : Dev nD) (i : grid0.Coords)
    (arg2 : Memref sig .tc .vmem S128x1024 .f32) (harg2 : arg2.IsWhole)
    (arg3 : Memref sig .tc .vmem S128x256 .f32) (harg3 : arg3.IsWhole)
    (arg4 : Memref sig .tc .vmem S128x256 .f32) (harg4 : arg4.IsWhole)
    (arg5 : Memref sig .tc .vmem S128x1024 .bf16) (harg5 : arg5.IsWhole)
    (arg6 : Memref sig .tc .vmem S64x1024 .f32) (harg6 : arg6.IsWhole)
    (arg7 : Memref sig .tc .vmem S1x64 .f32) (harg7 : arg7.IsWhole)
    (arg8 : Memref sig .tc .vmem S128x1024 .f32) (harg8 : arg8.IsWhole)
    (arg9 : Memref sig .tc .vmem S2x128x1024 .f32) (harg9 : arg9.IsWhole)
    (arg10 : Memref sig .tc .vmem S2x1024 .f32) (harg10 : arg10.IsWhole)
    (arg11 : Memref sig .tc .vmem S128x1024 .bf16) (harg11 : arg11.IsWhole)
    (arg12 : Memref sig .tc .vmem S128x256 .f32) (harg12 : arg12.IsWhole)
    (arg13 : Memref sig .tc .vmem S128x256 .f32) (harg13 : arg13.IsWhole)
    (arg14 : Memref sig .tc .vmem S64x128 .f32) (harg14 : arg14.IsWhole)
    (arg15 : Memref sig .tc .vmem S8x128 .f32) (harg15 : arg15.IsWhole)
    (x0 : Vec F S128x1024 .f32) (x1 x2 : Vec F S128x256 .f32) (x3 : Vec F S128x1024 .bf16)
    (x4 : Vec F S64x1024 .f32) (x5 : Vec F S1x64 .f32) (x6 : Vec F S128x1024 .f32) (x7 : Vec F S2x128x1024 .f32)
    (x8 : Vec F S2x1024 .f32)

/-- The two heads' inputs at the point. -/
abbrev h0 : In F := in0 (BitVec.ofNat 32 (i 1).val) x0 x1 x2 x3 x4 x5 x6 x7 x8
abbrev h1 : In F := in1 (BitVec.ofNat 32 (i 1).val) x0 x1 x2 x3 x4 x5 x6 x7 x8

/-- Four 64-column blocks side by side. -/
def cols4 (a b c d : FVec F S128x64 .f32) : Vec F S128x256 .f32 := fun y =>
  if h : (y 1).val < 64 then a (ix2 (y 0) ⟨(y 1).val, h⟩)
  else if h' : (y 1).val < 128 then b (ix2 (y 0) ⟨(y 1).val - 64, by omega⟩)
  else if h'' : (y 1).val < 192 then c (ix2 (y 0) ⟨(y 1).val - 128, by omega⟩)
  else d (ix2 (y 0) ⟨(y 1).val - 192, by have := (y 1).isLt; change (y 1).val < 256 at this; omega⟩)

/-- A block with its first row replaced. -/
def putRow (o : Vec F S8x128 .f32) (w : FVec F S1x128 .f32) : Vec F S8x128 .f32 := fun y =>
  if (y 0).val = 0 then w (ix2 (0 : Fin 1) (y 1)) else o y

/-- A block's first row. -/
def row0 (o : Vec F S8x128 .f32) : Vec F S1x128 .f32 := fun y => o (ix2 (0 : Fin 8) (y 1))

/-- The newest piece's payload, where it was written. -/
theorem canon_at {S : Shape} {e : EltTy} (r : Rect S) (w : r.shape.Idx → Elt F e) (L : List (View.Piece (Elt F) S e)) (y : S.Idx)
    (x : r.shape.Idx) (h : y = r.emb x) : View.canon ((⟨r, w⟩ : View.Piece (Elt F) S e) :: L) y = w x := by
  subst h; exact View.canon_cons_emb r w L x

/-- The older pieces, elsewhere. -/
theorem canon_skip {S : Shape} {e : EltTy} (r : Rect S) (w : r.shape.Idx → Elt F e) (L : List (View.Piece (Elt F) S e)) (y : S.Idx)
    (h : y ∉ r.set) : View.canon ((⟨r, w⟩ : View.Piece (Elt F) S e) :: L) y = View.canon L y :=
  View.canon_cons_of_not_mem _ _ h

/-- An index of a 64-column strip of a 256-column block, placed. -/
theorem emb_cols (o : Nat) (inb : ∀ a, (![0, o] : Fin 2 → Nat) a + S128x64.size a ≤ S128x256.size a) (y : S128x256.Idx) (k : Fin 64)
    (h : (y 1).val = o + k.val) :
    y = (Rect.unit (s := S128x256) ![0, o] S128x64.size inb).emb (ix2 (y 0) k : S128x64.Idx) :=
  funext fun a => Fin.ext (by
    match a with
    | ⟨0, _⟩ => show (y 0).val = 0 + 1 * (y 0).val; omega
    | ⟨1, _⟩ => show (y 1).val = o + 1 * k.val; omega)

theorem not_mem_cols (o : Nat) (inb : ∀ a, (![0, o] : Fin 2 → Nat) a + S128x64.size a ≤ S128x256.size a) (y : S128x256.Idx)
    (h : (y 1).val < o ∨ o + 64 ≤ (y 1).val) : y ∉ (Rect.unit (s := S128x256) ![0, o] S128x64.size inb).set := by
  rw [Rect.mem_set_unit]
  intro hh
  have h1 : o ≤ (y 1).val ∧ (y 1).val < o + 64 := hh 1
  omega

/-- A block filled by four 64-column strips. -/
theorem canon_cols (a b c d : FVec F S128x64 .f32) :
    View.canon [(⟨Rect.unit (s := S128x256) ![0, 192] S128x64.size inb_S128x256_S128x64_0_192, d⟩ : View.Piece (Elt F) S128x256 .f32),
      ⟨Rect.unit (s := S128x256) ![0, 64] S128x64.size inb_S128x256_S128x64_0_64, b⟩,
      ⟨Rect.unit (s := S128x256) ![0, 128] S128x64.size inb_S128x256_S128x64_0_128, c⟩,
      ⟨Rect.unit (s := S128x256) ![0, 0] S128x64.size inb_S128x256_S128x64_0_0, a⟩] = cols4 a b c d := by
  funext y
  have hlt : (y 1).val < 256 := (y 1).isLt
  unfold cols4
  by_cases h0 : (y 1).val < 64
  · rw [dif_pos h0, canon_skip _ _ _ _ (not_mem_cols 192 inb_S128x256_S128x64_0_192 y (by omega)),
      canon_skip _ _ _ _ (not_mem_cols 64 inb_S128x256_S128x64_0_64 y (by omega)), canon_skip _ _ _ _ (not_mem_cols 128 inb_S128x256_S128x64_0_128 y (by omega))]
    exact canon_at _ _ _ _ _ (emb_cols 0 inb_S128x256_S128x64_0_0 y ⟨(y 1).val, h0⟩ (by dsimp only; omega))
  rw [dif_neg h0]
  by_cases h1 : (y 1).val < 128
  · rw [dif_pos h1, canon_skip _ _ _ _ (not_mem_cols 192 inb_S128x256_S128x64_0_192 y (by omega))]
    exact canon_at _ _ _ _ _ (emb_cols 64 inb_S128x256_S128x64_0_64 y ⟨(y 1).val - 64, by omega⟩ (by dsimp only; omega))
  rw [dif_neg h1]
  by_cases h2 : (y 1).val < 192
  · rw [dif_pos h2, canon_skip _ _ _ _ (not_mem_cols 192 inb_S128x256_S128x64_0_192 y (by omega)),
      canon_skip _ _ _ _ (not_mem_cols 64 inb_S128x256_S128x64_0_64 y (by omega))]
    exact canon_at _ _ _ _ _ (emb_cols 128 inb_S128x256_S128x64_0_128 y ⟨(y 1).val - 128, by omega⟩ (by dsimp only; omega))
  rw [dif_neg h2]
  exact canon_at _ _ _ _ _ (emb_cols 192 inb_S128x256_S128x64_0_192 y ⟨(y 1).val - 192, by omega⟩ (by dsimp only; omega))

/-- A load of a block's first row. -/
theorem ld_row0 (o : Vec F S8x128 .f32) :
    View.ld o (Rect.unit (s := S8x128) ![0, 0] S1x128.size inb_S8x128_S1x128_0_0) = row0 o :=
  funext fun y => congrArg o (funext fun a => Fin.ext (by
    match a with
    | ⟨0, _⟩ => have := (y 0).isLt; change (y 0).val < 1 at this; show 0 + 1 * (y 0).val = 0; omega
    | ⟨1, _⟩ => show 0 + 1 * (y 1).val = (y 1).val; omega))

/-- The first row read back from a block just filled. -/
theorem readCov_fill_row0 {sg : RefSig} {κ : Kind} {sp : Space} (v : View sg κ sp S8x128 .f32) (o : Vec F S8x128 .f32) :
    v.readCov [(⟨Rect.unit (s := S8x128) ![0, 0] S8x128.size inb_S8x128_S8x128_0_0, o⟩ : View.Piece (Elt F) S8x128 .f32)]
      (Rect.unit (s := S8x128) ![0, 0] S1x128.size inb_S8x128_S1x128_0_0).toLoadRect = row0 o := by
  rw [View.readCov_eq_canon', View.canon_unit_zero hz]
  exact ld_row0 o

/-- A block filled and then twice overwritten in its first row. -/
theorem canon_rows (o : Vec F S8x128 .f32) (w w' : FVec F S1x128 .f32) :
    View.canon [(⟨Rect.unit (s := S8x128) ![0, 0] S1x128.size inb_S8x128_S1x128_0_0, w⟩ : View.Piece (Elt F) S8x128 .f32),
      ⟨Rect.unit (s := S8x128) ![0, 0] S1x128.size inb_S8x128_S1x128_0_0, w'⟩,
      ⟨Rect.unit (s := S8x128) ![0, 0] S8x128.size inb_S8x128_S8x128_0_0, o⟩] = putRow o w := by
  funext y
  unfold putRow
  by_cases h : (y 0).val = 0
  · rw [if_pos h]
    have e : y = (Rect.unit (s := S8x128) ![0, 0] S1x128.size inb_S8x128_S1x128_0_0).emb (ix2 (0 : Fin 1) (y 1)) :=
      funext fun a => Fin.ext (by
        match a with
        | ⟨0, _⟩ => show (y 0).val = 0 + 1 * 0; omega
        | ⟨1, _⟩ => show (y 1).val = 0 + 1 * (y 1).val; omega)
    exact canon_at _ _ _ _ _ e
  · rw [if_neg h]
    have hn : y ∉ (Rect.unit (s := S8x128) ![0, 0] S1x128.size inb_S8x128_S1x128_0_0).set := by
      rw [Rect.mem_set_unit]
      intro hh
      have h2 : (y 0).val < 0 + 1 := (hh 0).2
      omega
    rw [canon_skip _ _ _ _ hn, canon_skip _ _ _ _ hn, View.canon_unit_zero hz]

/-- A block twice overwritten in its first row. -/
theorem writes_rows (a : Memref sig .tc .vmem S8x128 .f32) (ha : a.IsWhole) (o : Vec F S8x128 .f32)
    (w w' : FVec F S1x128 .f32) :
    View.read (Elt F) a.view (a.view.writes (Elt F) (ha.unread o)
      [(⟨Rect.unit (s := S8x128) ![0, 0] S1x128.size inb_S8x128_S1x128_0_0, w⟩ : View.Piece (Elt F) S8x128 .f32),
      ⟨Rect.unit (s := S8x128) ![0, 0] S1x128.size inb_S8x128_S1x128_0_0, w'⟩]) = putRow o w := by
  funext y
  unfold putRow
  by_cases h : (y 0).val = 0
  · rw [if_pos h]
    exact View.read_writes_cons_unit_of_mem _ _ _ _ _ y (ix2 (0 : Fin 1) (y 1)) rfl fun b => by
      match b with
      | ⟨0, _⟩ => show (y 0).val = 0 + 0; omega
      | ⟨1, _⟩ => show (y 1).val = 0 + (y 1).val; omega
  · rw [if_neg h]
    have h2 : (y 0).val < (![0, 0] : Fin 2 → Nat) 0 ∨ (![0, 0] : Fin 2 → Nat) 0 + S1x128.size 0 ≤ (y 0).val := by
      right; show 0 + 1 ≤ (y 0).val; omega
    rw [View.read_writes_cons_unit_of_not_mem _ _ _ _ _ y rfl 0 h2, View.read_writes_cons_unit_of_not_mem _ _ _ _ _ y rfl 0 h2,
      View.writes_nil]
    exact congrFun (ha.read_unread o) y

set_option maxHeartbeats 400000 in
/-- The queries' gradient block at the first point. -/
theorem out_A_9 (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = k0_pay99 (toRows (dq (h0 i x0 x1 x2 x3 x4 x5 x6 x7 x8))) (toRows (dq (h1 i x0 x1 x2 x3 x4 x5 x6 x7 x8))) := by
  unfold out0_A_9
  rw [View.read_writes_eq_canon _ _ _ (cover0_A_9 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rfl

set_option maxHeartbeats 400000 in
/-- The gradient of the block's own keys and values, at the first point. -/
theorem out_A_10 (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = cols4 (overLanes (dsc (h0 i x0 x1 x2 x3 x4 x5 x6 x7 x8)) (qh (h0 i x0 x1 x2 x3 x4 x5 x6 x7 x8).q (h0 i x0 x1 x2 x3 x4 x5 x6 x7 x8).qg)) (overLanes (dsc (h1 i x0 x1 x2 x3 x4 x5 x6 x7 x8)) (qh (h1 i x0 x1 x2 x3 x4 x5 x6 x7 x8).q (h1 i x0 x1 x2 x3 x4 x5 x6 x7 x8).qg))
      (overLanes (pc (h0 i x0 x1 x2 x3 x4 x5 x6 x7 x8)) (db (h0 i x0 x1 x2 x3 x4 x5 x6 x7 x8))) (overLanes (pc (h1 i x0 x1 x2 x3 x4 x5 x6 x7 x8)) (db (h1 i x0 x1 x2 x3 x4 x5 x6 x7 x8))) := by
  unfold out0_A_10
  rw [View.read_writes_eq_canon _ _ _ (cover0_A_10 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rw [canon_cols]
  rfl

set_option maxHeartbeats 400000 in
/-- The gradient of the keys and values of the block before, at the first point. -/
theorem out_A_11 (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = cols4 (overLanes (dsp (h0 i x0 x1 x2 x3 x4 x5 x6 x7 x8)) (qh (h0 i x0 x1 x2 x3 x4 x5 x6 x7 x8).q (h0 i x0 x1 x2 x3 x4 x5 x6 x7 x8).qg)) (overLanes (dsp (h1 i x0 x1 x2 x3 x4 x5 x6 x7 x8)) (qh (h1 i x0 x1 x2 x3 x4 x5 x6 x7 x8).q (h1 i x0 x1 x2 x3 x4 x5 x6 x7 x8).qg))
      (overLanes (pp (h0 i x0 x1 x2 x3 x4 x5 x6 x7 x8)) (db (h0 i x0 x1 x2 x3 x4 x5 x6 x7 x8))) (overLanes (pp (h1 i x0 x1 x2 x3 x4 x5 x6 x7 x8)) (db (h1 i x0 x1 x2 x3 x4 x5 x6 x7 x8))) := by
  unfold out0_A_11
  rw [View.read_writes_eq_canon _ _ _ (cover0_A_11 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rw [canon_cols]
  rfl

set_option maxHeartbeats 400000 in
/-- The query gain's gradient at the first point. -/
theorem out_A_12 (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = addHeads (dgl (h1 i x0 x1 x2 x3 x4 x5 x6 x7 x8)) (addHeads (dgl (h0 i x0 x1 x2 x3 x4 x5 x6 x7 x8)) k0_pay1) := by
  unfold out0_A_12
  rw [View.read_writes_eq_canon _ _ _ (cover0_A_12 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread,
    harg14.read_unread, harg15.read_unread]
  rw [View.canon_cons_unit_zero (S := S64x128) hz]
  simp only [View.readCov_cons_toLoadRect]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rfl

set_option maxHeartbeats 400000 in
/-- The sinks' gradient at the first point. -/
theorem out_A_13 (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = putRow k0_pay2 (addSinks1 (dsink (h1 i x0 x1 x2 x3 x4 x5 x6 x7 x8)) (addSinks0 (dsink (h0 i x0 x1 x2 x3 x4 x5 x6 x7 x8)) (row0 k0_pay2))) := by
  unfold out0_A_13
  rw [View.read_writes_eq_canon _ _ _ (cover0_A_13 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread,
    harg14.read_unread, harg15.read_unread]
  simp only [View.readCov_cons_toLoadRect]
  rw [readCov_fill_row0]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  exact canon_rows k0_pay2 _ _

set_option maxHeartbeats 400000 in
/-- The queries' gradient block at a later point. -/
theorem out_B_9 (hc0 : ¬cond0_0 i)
    (xo12 : Vec F S64x128 .f32) (xo13 : Vec F S8x128 .f32) : out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13
    = k0_pay99 (toRows (dq (h0 i x0 x1 x2 x3 x4 x5 x6 x7 x8))) (toRows (dq (h1 i x0 x1 x2 x3 x4 x5 x6 x7 x8))) := by
  unfold out0_B_9
  rw [View.read_writes_eq_canon _ _ _ (cover0_B_9 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rfl

set_option maxHeartbeats 400000 in
/-- The gradient of the block's own keys and values, at a later point. -/
theorem out_B_10 (hc0 : ¬cond0_0 i)
    (xo12 : Vec F S64x128 .f32) (xo13 : Vec F S8x128 .f32) : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13
    = cols4 (overLanes (dsc (h0 i x0 x1 x2 x3 x4 x5 x6 x7 x8)) (qh (h0 i x0 x1 x2 x3 x4 x5 x6 x7 x8).q (h0 i x0 x1 x2 x3 x4 x5 x6 x7 x8).qg)) (overLanes (dsc (h1 i x0 x1 x2 x3 x4 x5 x6 x7 x8)) (qh (h1 i x0 x1 x2 x3 x4 x5 x6 x7 x8).q (h1 i x0 x1 x2 x3 x4 x5 x6 x7 x8).qg))
      (overLanes (pc (h0 i x0 x1 x2 x3 x4 x5 x6 x7 x8)) (db (h0 i x0 x1 x2 x3 x4 x5 x6 x7 x8))) (overLanes (pc (h1 i x0 x1 x2 x3 x4 x5 x6 x7 x8)) (db (h1 i x0 x1 x2 x3 x4 x5 x6 x7 x8))) := by
  unfold out0_B_10
  rw [View.read_writes_eq_canon _ _ _ (cover0_B_10 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13)]
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rw [canon_cols]
  rfl

set_option maxHeartbeats 400000 in
/-- The gradient of the keys and values of the block before, at a later point. -/
theorem out_B_11 (hc0 : ¬cond0_0 i)
    (xo12 : Vec F S64x128 .f32) (xo13 : Vec F S8x128 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13
    = cols4 (overLanes (dsp (h0 i x0 x1 x2 x3 x4 x5 x6 x7 x8)) (qh (h0 i x0 x1 x2 x3 x4 x5 x6 x7 x8).q (h0 i x0 x1 x2 x3 x4 x5 x6 x7 x8).qg)) (overLanes (dsp (h1 i x0 x1 x2 x3 x4 x5 x6 x7 x8)) (qh (h1 i x0 x1 x2 x3 x4 x5 x6 x7 x8).q (h1 i x0 x1 x2 x3 x4 x5 x6 x7 x8).qg))
      (overLanes (pp (h0 i x0 x1 x2 x3 x4 x5 x6 x7 x8)) (db (h0 i x0 x1 x2 x3 x4 x5 x6 x7 x8))) (overLanes (pp (h1 i x0 x1 x2 x3 x4 x5 x6 x7 x8)) (db (h1 i x0 x1 x2 x3 x4 x5 x6 x7 x8))) := by
  unfold out0_B_11
  rw [View.read_writes_eq_canon _ _ _ (cover0_B_11 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13)]
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rw [canon_cols]
  rfl

set_option maxHeartbeats 400000 in
/-- The query gain's gradient at a later point. -/
theorem out_B_12 (hc0 : ¬cond0_0 i)
    (xo12 : Vec F S64x128 .f32) (xo13 : Vec F S8x128 .f32) : out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13
    = addHeads (dgl (h1 i x0 x1 x2 x3 x4 x5 x6 x7 x8)) (addHeads (dgl (h0 i x0 x1 x2 x3 x4 x5 x6 x7 x8)) xo12) := by
  unfold out0_B_12
  rw [View.read_writes_eq_canon _ _ _ (cover0_B_12 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13)]
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread,
    harg14.read_unread, harg15.read_unread]
  rw [View.canon_cons_unit_zero (S := S64x128) hz]
  simp only [View.readCov_cons_toLoadRect]
  rw [View.ld_unit_zero (S := S64x128) hz _ xo12]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  rfl

set_option maxHeartbeats 400000 in
/-- The sinks' gradient at a later point. -/
theorem out_B_13 (hc0 : ¬cond0_0 i)
    (xo12 : Vec F S64x128 .f32) (xo13 : Vec F S8x128 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo12 xo13
    = putRow xo13 (addSinks1 (dsink (h1 i x0 x1 x2 x3 x4 x5 x6 x7 x8)) (addSinks0 (dsink (h0 i x0 x1 x2 x3 x4 x5 x6 x7 x8)) (row0 xo13))) := by
  unfold out0_B_13
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread,
    harg14.read_unread, harg15.read_unread]
  simp only [View.readCov_cons_toLoadRect]
  rw [ld_row0 xo13]
  rw [View.ld_unit_zero (S := S128x1024) hz _ x0, View.ld_unit_zero (S := S128x1024) hz _ x3,
    View.ld_unit_zero (S := S64x1024) hz _ x4, View.ld_unit_zero (S := S1x64) hz _ x5,
    View.ld_unit_zero (S := S128x1024) hz _ x6]
  exact writes_rows arg15 harg15 xo13 _ _

end Cert.KernelIdeal.Pieces

end
-- ==== Proof.Point.lean ====
/-
  What the kernel's body reads at a grid point: block `n` of sequence `b`, the point being `16 b + n`.
-/
module

public import proofs.«01_k».proof.Proof.HostVals
public import proofs.«01_k».proof.Proof.Layout
public import proofs.«01_k».proof.Proof.Pieces
public import Idealize.ShloMosaic.Lib.Pipeline.ValueKit

@[expose] public section

set_option synthInstance.maxSize 4096

noncomputable section

namespace Cert.KernelIdeal.Point

open Idealize.ShloMosaic Idealize.ShloMosaic.TcCoe Idealize.SL.Sem
open Cert.KernelIdeal Cert.KernelIdeal.Gen

/-- The memory's arguments are the reals `A`. -/
structure Holds (m : (ℓ : Loc nD τ sig) → Buf (Elt Ideal) ℓ) (c : Dev nD) (A : Args) : Prop where
  q : ∀ (r : Fin 8192) (k : Fin 1024), m ((c : Thread nD τ).loc main_arg0) (ix2 r k) = (A.q r k : EReal)
  kv : ∀ (r : Fin 8192) (k : Fin 256), m ((c : Thread nD τ).loc main_arg1) (ix2 r k) = (A.kv r k : EReal)
  d : ∀ (r : Fin 8192) (k : Fin 1024), m ((c : Thread nD τ).loc main_arg2) (ix2 r k) = (A.d r k : EReal)
  gq : ∀ d : Fin 64, m ((c : Thread nD τ).loc main_arg3) (ix1 d) = (A.gq d : EReal)
  gk : ∀ d : Fin 64, m ((c : Thread nD τ).loc main_arg4) (ix1 d) = (A.gk d : EReal)
  s : ∀ h : Fin 16, m ((c : Thread nD τ).loc main_arg5) (ix1 h) = (A.s h : EReal)

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 16 * 16 + (t.val % 16 - 1), 0] :=
  (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem coord1 : ∀ t : Fin cfg0.N, ((grid0.coords t) 1).val = t.val % 16 := (by decide +kernel : ∀ t : Fin grid0.N, _)

theorem lt64 (t : Fin cfg0.N) : t.val < 64 := lt_of_lt_of_eq t.isLt N_0

theorem blk0 (r : Fin 128) (k : Fin 1024) : (iblk m c 0 t : Vec Ideal S128x1024 .f32) (ix2 r k) =
    m ((c : Thread nD τ).loc main_arg0) (ix2 ⟨t.val * 128 + r.val, by have := lt64 t; omega⟩ k) := by
  rw [← V_main_arg0 m c]
  blk_ext! [iblk, idx0 t]

theorem blk1 (r : Fin 128) (k : Fin 256) : (iblk m c 1 t : Vec Ideal S128x256 .f32) (ix2 r k) =
    m ((c : Thread nD τ).loc main_arg1) (ix2 ⟨t.val * 128 + r.val, by have := lt64 t; omega⟩ k) := by
  rw [← V_main_arg1 m c]
  blk_ext! [iblk, idx1 t]

theorem blk2 (r : Fin 128) (k : Fin 256) : (iblk m c 2 t : Vec Ideal S128x256 .f32) (ix2 r k) =
    m ((c : Thread nD τ).loc main_arg1)
      (ix2 ⟨(t.val / 16 * 16 + (t.val % 16 - 1)) * 128 + r.val, by have := lt64 t; omega⟩ k) := by
  rw [← V_main_arg1 m c]
  blk_ext! [iblk, idx2 t]

theorem blk3 (r : Fin 128) (k : Fin 1024) : (iblk m c 3 t : Vec Ideal S128x1024 .bf16) (ix2 r k) =
    m ((c : Thread nD τ).loc main_arg2) (ix2 ⟨t.val * 128 + r.val, by have := lt64 t; omega⟩ k) := by
  rw [← V_main_arg2 m c]
  blk_ext! [iblk, idx3 t]

theorem blk4 (d : Fin 64) (l : Fin 1024) : (iblk m c 4 t : Vec Ideal S64x1024 .f32) (ix2 d l) =
    m ((c : Thread nD τ).loc main_arg3) (ix1 d) := by
  rw [← HostVals.v1 m c d l]
  blk_ext! [iblk, idx4 t]

theorem blk5 (d : Fin 64) : (iblk m c 5 t : Vec Ideal S1x64 .f32) (ix2 0 d) =
    m ((c : Thread nD τ).loc main_arg4) (ix1 d) := by
  rw [← HostVals.v2 m c d]
  blk_ext! [iblk, idx5 t]

theorem blk6 (k : Fin 128) (l : Fin 1024) : (iblk m c 6 t : Vec Ideal S128x1024 .f32) (ix2 k l) =
    (if l.val % 128 < k.val then 1 else 0 : EReal) := by
  rw [← HostVals.v47 m c k l]
  blk_ext! [iblk, idx6 t]

theorem blk7 (kh : Fin 2) (k : Fin 128) (l : Fin 1024) : (iblk m c 7 t : Vec Ideal S2x128x1024 .f32) (ix3 kh k l) =
    ((-slope (kh.val * 8 + l.val / 128) * (if l.val % 128 < k.val then (((l.val % 128 : ℕ) : ℝ) + 128 - k.val)
      else (((l.val % 128 : ℕ) : ℝ) - k.val)) : ℝ) : EReal) := by
  rw [← HostVals.v50 m c kh k l]
  blk_ext! [iblk, idx7 t]

theorem blk8 (kh : Fin 2) (l : Fin 1024) : (iblk m c 8 t : Vec Ideal S2x1024 .f32) (ix2 kh l) =
    m ((c : Thread nD τ).loc main_arg5) (ix1 ⟨kh.val * 8 + l.val / 128, by omega⟩) := by
  rw [← HostVals.v5 m c kh l]
  blk_ext! [iblk, idx8 t]

/-- What the first key-value head reads at a point, -/
abbrev a0 : Tile.In Ideal := Pieces.h0 (grid0.coords t) (iblk m c 0 t) (iblk m c 1 t) (iblk m c 2 t) (iblk m c 3 t)
  (iblk m c 4 t) (iblk m c 5 t) (iblk m c 6 t) (iblk m c 7 t) (iblk m c 8 t)

/-- and the second. -/
abbrev a1 : Tile.In Ideal := Pieces.h1 (grid0.coords t) (iblk m c 0 t) (iblk m c 1 t) (iblk m c 2 t) (iblk m c 3 t)
  (iblk m c 4 t) (iblk m c 5 t) (iblk m c 6 t) (iblk m c 7 t) (iblk m c 8 t)

variable {m c} {A : Args} (H : Holds m c A)

include H

/-- Blocks laid out as the body loads them for head `kh` hold the queries of that head's group and the keys and values
    of that head in the point's block and the one before. -/
theorem reads_of (a : Tile.In Ideal) (kh : Fin 2)
    (hq : ∀ d l, a.q (ix2 d l) = (iblk m c 0 t : Vec Ideal S128x1024 .f32) (ix2 ⟨l.val % 128, by omega⟩ ⟨kh.val * 512 + l.val / 128 * 64 + d.val, by omega⟩))
    (hd : ∀ d l, a.d (ix2 d l) = (iblk m c 3 t : Vec Ideal S128x1024 .bf16) (ix2 ⟨l.val % 128, by omega⟩ ⟨kh.val * 512 + l.val / 128 * 64 + d.val, by omega⟩))
    (hkp : ∀ k d, a.kp (ix2 k d) = (iblk m c 2 t : Vec Ideal S128x256 .f32) (ix2 k ⟨kh.val * 64 + d.val, by omega⟩))
    (hkc : ∀ k d, a.kc (ix2 k d) = (iblk m c 1 t : Vec Ideal S128x256 .f32) (ix2 k ⟨kh.val * 64 + d.val, by omega⟩))
    (hvp : ∀ k d, a.vp (ix2 k d) = (iblk m c 2 t : Vec Ideal S128x256 .f32) (ix2 k ⟨128 + kh.val * 64 + d.val, by omega⟩))
    (hvc : ∀ k d, a.vc (ix2 k d) = (iblk m c 1 t : Vec Ideal S128x256 .f32) (ix2 k ⟨128 + kh.val * 64 + d.val, by omega⟩))
    (hqg : a.qg = iblk m c 4 t) (hkg : a.kg = iblk m c 5 t) (htri : a.tri = iblk m c 6 t)
    (hbias : ∀ k l, a.bias (ix3 0 k l) = (iblk m c 7 t : Vec Ideal S2x128x1024 .f32) (ix3 kh k l))
    (hsink : ∀ l, a.sink (ix2 0 l) = (iblk m c 8 t : Vec Ideal S2x1024 .f32) (ix2 kh l))
    (hn : a.n = BitVec.ofNat 32 (t.val % 16)) :
    Tile.Reads a (t.val % 16)
      (fun k => A.key ((t.val / 16 * 16 + (t.val % 16 - 1)) * 128 + k) kh)
      (fun k => A.key ((t.val / 16 * 16 + t.val % 16) * 128 + k) kh)
      (fun k => A.val ((t.val / 16 * 16 + (t.val % 16 - 1)) * 128 + k) kh)
      (fun k => A.val ((t.val / 16 * 16 + t.val % 16) * 128 + k) kh)
      (fun l => A.lane (t.val / 16) (t.val % 16) (kh * 8 + l.val / 128) (l.val % 128)) := by
  have ht : t.val / 16 * 16 + t.val % 16 = t.val := Nat.div_add_mod' t.val 16
  have hh (l : Fin 1024) : (kh.val * 8 + l.val / 128) / 8 = kh.val := by omega
  have hc (l : Fin 1024) (d : Fin 64) : kh.val * 512 + l.val / 128 * 64 + d.val = (kh.val * 8 + l.val / 128) * 64 + d.val := by
    omega
  have hkg' (d : Fin 64) : a.kg (ix2 0 d) = (A.gk d : EReal) := by rw [hkg, blk5, H.gk]
  constructor
  · intro d l
    rw [hq, blk0, H.q]
    simp only [Args.lane, hc, ht]
  · intro d l
    rw [hd, blk3, H.d]
    simp only [Args.lane, hc, ht]
  · intro k d
    refine (Tile.kn_real a.kp a.kg (fun k d => A.kv ((t.val / 16 * 16 + (t.val % 16 - 1)) * 128 + k) (kh.val * 64 + d))
      A.gk ?_ hkg' k d)
    intro k d
    rw [hkp, blk2, H.kv]
  · intro k d
    refine (Tile.kn_real a.kc a.kg (fun k d => A.kv ((t.val / 16 * 16 + t.val % 16) * 128 + k) (kh.val * 64 + d))
      A.gk ?_ hkg' k d)
    intro k d
    rw [hkc, blk1, H.kv, ht]
  · intro k d
    rw [hvp, blk2, H.kv]; rfl
  · intro k d
    rw [hvc, blk1, H.kv, ht]; rfl
  · intro d l
    rw [hqg, blk4, H.gq]; rfl
  · intro k l
    rw [htri, blk6]
  · intro k l
    rw [hbias, blk7]; rfl
  · intro l
    rw [hsink, blk8, H.s]; rfl
  · exact hn
  · omega
  · intro k l
    simp only [Args.lane, hh]
  · intro k l
    simp only [Args.lane, hh]
  · intro k l
    rfl

theorem reads0 : Tile.Reads (a0 m c t) (t.val % 16)
      (fun k => A.key ((t.val / 16 * 16 + (t.val % 16 - 1)) * 128 + k) 0)
      (fun k => A.key ((t.val / 16 * 16 + t.val % 16) * 128 + k) 0)
      (fun k => A.val ((t.val / 16 * 16 + (t.val % 16 - 1)) * 128 + k) 0)
      (fun k => A.val ((t.val / 16 * 16 + t.val % 16) * 128 + k) 0)
      (fun l => A.lane (t.val / 16) (t.val % 16) (0 * 8 + l.val / 128) (l.val % 128)) := by
  refine reads_of t H (a0 m c t) 0 ?_ ?_ ?_ ?_ ?_ ?_ rfl rfl rfl ?_ ?_ ?_
  · intro d l
    refine (Tile.lanes0_apply _ d l).trans (congrArg _ (Tile.ix2_congr rfl ?_))
    dsimp only; omega
  · intro d l
    refine (congrFun (congrArg Tile.lanes0 (Tile.pay4_eq _)) _).trans
      ((Tile.lanes0_apply _ d l).trans (congrArg _ (Tile.ix2_congr rfl ?_)))
    dsimp only; omega
  · intro k d
    pointwise [Pieces.h0, Tile.in0]
  · intro k d
    pointwise [Pieces.h0, Tile.in0]
  · intro k d
    pointwise [Pieces.h0, Tile.in0]
  · intro k d
    pointwise [Pieces.h0, Tile.in0]
  · intro k l
    pointwise [Pieces.h0, Tile.in0]
  · intro l
    pointwise [Pieces.h0, Tile.in0]
  · exact congrArg (BitVec.ofNat 32) (coord1 t)

theorem reads1 : Tile.Reads (a1 m c t) (t.val % 16)
      (fun k => A.key ((t.val / 16 * 16 + (t.val % 16 - 1)) * 128 + k) 1)
      (fun k => A.key ((t.val / 16 * 16 + t.val % 16) * 128 + k) 1)
      (fun k => A.val ((t.val / 16 * 16 + (t.val % 16 - 1)) * 128 + k) 1)
      (fun k => A.val ((t.val / 16 * 16 + t.val % 16) * 128 + k) 1)
      (fun l => A.lane (t.val / 16) (t.val % 16) (1 * 8 + l.val / 128) (l.val % 128)) := by
  refine reads_of t H (a1 m c t) 1 ?_ ?_ ?_ ?_ ?_ ?_ rfl rfl rfl ?_ ?_ ?_
  · intro d l
    refine (Tile.lanes1_apply _ d l).trans (congrArg _ (Tile.ix2_congr rfl ?_))
    dsimp only; omega
  · intro d l
    refine (congrFun (congrArg Tile.lanes1 (Tile.pay4_eq _)) _).trans
      ((Tile.lanes1_apply _ d l).trans (congrArg _ (Tile.ix2_congr rfl ?_)))
    dsimp only; omega
  · intro k d
    pointwise [Pieces.h1, Tile.in1]
  · intro k d
    pointwise [Pieces.h1, Tile.in1]
  · intro k d
    pointwise [Pieces.h1, Tile.in1]
  · intro k d
    pointwise [Pieces.h1, Tile.in1]
  · intro k l
    pointwise [Pieces.h1, Tile.in1]
  · intro l
    pointwise [Pieces.h1, Tile.in1]
  · exact congrArg (BitVec.ofNat 32) (coord1 t)

end Cert.KernelIdeal.Point

end
-- ==== Proof.Arrays.lean ====
/-
  What the kernel's five result arrays hold after the run, when the arguments are real: the gradient's real functions.
-/
module

public import proofs.«01_k».proof.Proof.Point
public import proofs.«01_k».proof.Proof.Gen.KernelIdeal.Value

@[expose] public section

noncomputable section

namespace Cert.KernelIdeal.Arrays

open Cert.KernelIdeal Cert.KernelIdeal.Gen Cert.KernelIdeal.Point Idealize.ShloMosaic Idealize.ShloMosaic.TcCoe Idealize.SL.Sem
open Idealize.ShloMosaic.Pipeline (Dat)
open Tile Pieces

variable (m : (ℓ : Loc nD τ sig) → Buf (Elt Ideal) ℓ) (c : Dev nD) (t : Fin cfg0.N)

/-- The queries' gradient block at a point. -/
theorem at9 : (outsAt0 m c t.val t.isLt).1 = k0_pay99 (F := Ideal) (toRows (dq (a0 m c t))) (toRows (dq (a1 m c t))) := by
  by_cases h : t.val % 64 = 0
  · rw [outsAt0_A m c t h]; dsimp only; exact out_A_9 ..
  · rw [outsAt0_B m c t h]; dsimp only; exact out_B_9 ..

theorem at10 : (outsAt0 m c t.val t.isLt).2.1 =
    cols4 (overLanes (dsc (a0 m c t)) (qh (a0 m c t).q (a0 m c t).qg)) (overLanes (dsc (a1 m c t)) (qh (a1 m c t).q (a1 m c t).qg))
      (overLanes (pc (a0 m c t)) (db (a0 m c t))) (overLanes (pc (a1 m c t)) (db (a1 m c t))) := by
  by_cases h : t.val % 64 = 0
  · rw [outsAt0_A m c t h]; dsimp only; exact out_A_10 ..
  · rw [outsAt0_B m c t h]; dsimp only; exact out_B_10 ..

theorem at11 : (outsAt0 m c t.val t.isLt).2.2.1 =
    cols4 (overLanes (dsp (a0 m c t)) (qh (a0 m c t).q (a0 m c t).qg)) (overLanes (dsp (a1 m c t)) (qh (a1 m c t).q (a1 m c t).qg))
      (overLanes (pp (a0 m c t)) (db (a0 m c t))) (overLanes (pp (a1 m c t)) (db (a1 m c t))) := by
  by_cases h : t.val % 64 = 0
  · rw [outsAt0_A m c t h]; dsimp only; exact out_A_11 ..
  · rw [outsAt0_B m c t h]; dsimp only; exact out_B_11 ..

variable {m c} {A : Args} (H : Holds m c A)

theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- A sum over the 1024 lanes, head by head. -/
theorem sum_lanes (f : ℕ → ℕ → ℝ) : ∑ l : Fin 1024, f (l.val / 128) (l.val % 128) = ∑ g : Fin 8, ∑ i : Fin 128, f g i :=
  Fin.sum_divmod_fin (N := 1024) (A := 8) 128 fun g i => f g.val i.val

theorem dkc_lanes (b n kh : ℕ) (k : Fin 128) (d : Fin 64) : ∑ l : Fin 1024,
    (if l.val % 128 < k.val then 0 else (A.lane b n (kh * 8 + l.val / 128) (l.val % 128)).DS k) * (A.lane b n (kh * 8 + l.val / 128) (l.val % 128)).h d
      = A.dkc b n kh k d :=
  sum_lanes fun g i => (if i < k.val then 0 else (A.lane b n (kh * 8 + g) (i)).DS k) * (A.lane b n (kh * 8 + g) i).h d

theorem dkp_lanes (b n kh : ℕ) (k : Fin 128) (d : Fin 64) : ∑ l : Fin 1024,
    (if l.val % 128 < k.val then (A.lane b n (kh * 8 + l.val / 128) (l.val % 128)).DS k else 0) * (A.lane b n (kh * 8 + l.val / 128) (l.val % 128)).h d
      = A.dkp b n kh k d :=
  sum_lanes fun g i => (if i < k.val then (A.lane b n (kh * 8 + g) (i)).DS k else 0) * (A.lane b n (kh * 8 + g) i).h d

theorem dvc_lanes (b n kh : ℕ) (k : Fin 128) (d : Fin 64) : ∑ l : Fin 1024,
    (if l.val % 128 < k.val then 0 else (A.lane b n (kh * 8 + l.val / 128) (l.val % 128)).P k) * (A.lane b n (kh * 8 + l.val / 128) (l.val % 128)).d d
      = A.dvc b n kh k d :=
  sum_lanes fun g i => (if i < k.val then 0 else (A.lane b n (kh * 8 + g) (i)).P k) * (A.lane b n (kh * 8 + g) i).d d

theorem dvp_lanes (b n kh : ℕ) (k : Fin 128) (d : Fin 64) : ∑ l : Fin 1024,
    (if l.val % 128 < k.val then (A.lane b n (kh * 8 + l.val / 128) (l.val % 128)).P k else 0) * (A.lane b n (kh * 8 + l.val / 128) (l.val % 128)).d d
      = A.dvp b n kh k d :=
  sum_lanes fun g i => (if i < k.val then (A.lane b n (kh * 8 + g) (i)).P k else 0) * (A.lane b n (kh * 8 + g) i).d d

/-- Four blocks side by side, at a row and a column. -/
theorem cols4_apply (x y z w : FVec Ideal S128x64 .f32) (r : Fin 128) (k : Fin 256) : cols4 x y z w (ix2 r k) =
    if h : k.val < 64 then x (ix2 r ⟨k.val, h⟩)
    else if h' : k.val < 128 then y (ix2 r ⟨k.val - 64, by omega⟩)
    else if h'' : k.val < 192 then z (ix2 r ⟨k.val - 128, by omega⟩)
    else w (ix2 r ⟨k.val - 192, by omega⟩) := rfl

include H

theorem dq_at (r : Fin 128) (k : Fin 1024) :
    k0_pay99 (F := Ideal) (toRows (dq (a0 m c t))) (toRows (dq (a1 m c t))) (ix2 r k) = (A.dq (t.val * 128 + r.val) k.val : EReal) := by
  have hN : t.val < 64 := lt64 t
  have h1 : (t.val * 128 + r.val) / 2048 = t.val / 16 := by omega
  have h2 : (t.val * 128 + r.val) / 128 % 16 = t.val % 16 := by omega
  have h3 : (t.val * 128 + r.val) % 128 = r.val := by omega
  refine (pay99_apply _ _ r k).trans ?_
  unfold Args.dq
  simp only [h1, h2, h3]
  split
  · rename_i h
    refine (toRows_apply _ _ _).trans ((Reads.dq (reads0 t H) _ _).trans ?_)
    dsimp only
    rw [show (0 * 8 + (k.val / 64 * 128 + r.val) / 128) = k.val / 64 by omega, show (k.val / 64 * 128 + r.val) % 128 = r.val by omega]
  · rename_i h
    refine (toRows_apply _ _ _).trans ((Reads.dq (reads1 t H) _ _).trans ?_)
    dsimp only
    rw [show (1 * 8 + ((k.val - 512) / 64 * 128 + r.val) / 128) = k.val / 64 by omega, show ((k.val - 512) / 64 * 128 + r.val) % 128 = r.val by omega]
    congr 3; omega

/-- The gradient block of a point's own keys and values, -/
theorem cur_at (r : Fin 128) (k : Fin 256) :
    cols4 (overLanes (dsc (a0 m c t)) (qh (a0 m c t).q (a0 m c t).qg)) (overLanes (dsc (a1 m c t)) (qh (a1 m c t).q (a1 m c t).qg))
      (overLanes (pc (a0 m c t)) (db (a0 m c t))) (overLanes (pc (a1 m c t)) (db (a1 m c t))) (ix2 r k)
      = (A.dcur (t.val * 128 + r.val) k.val : EReal) := by
  have hN : t.val < 64 := lt64 t
  have h1 : (t.val * 128 + r.val) / 2048 = t.val / 16 := by omega
  have h2 : (t.val * 128 + r.val) / 128 % 16 = t.val % 16 := by omega
  have h3 (h) : (⟨(t.val * 128 + r.val) % 128, h⟩ : Fin 128) = r := Fin.ext (by dsimp only; omega)
  have hk := k.isLt
  unfold Args.dcur
  rw [cols4_apply, h1, h2, h3]
  by_cases c1 : k.val < 64
  · rw [dif_pos c1, if_pos (by omega)]
    refine (Reads.dkc (reads0 t H) _ _).trans (congrArg _ ((@dkc_lanes A _ _ 0 r _).trans ?_))
    congr 1 <;> first | omega | exact Fin.ext (by dsimp only; omega)
  rw [dif_neg c1]
  by_cases c2 : k.val < 128
  · rw [dif_pos c2, if_pos c2]
    refine (Reads.dkc (reads1 t H) _ _).trans (congrArg _ ((@dkc_lanes A _ _ 1 r _).trans ?_))
    congr 1 <;> first | omega | exact Fin.ext (by dsimp only; omega)
  rw [dif_neg c2, if_neg c2]
  by_cases c3 : k.val < 192
  · rw [dif_pos c3]
    refine (Reads.dvc (reads0 t H) _ _).trans (congrArg _ ((@dvc_lanes A _ _ 0 r _).trans ?_))
    congr 1 <;> first | omega | exact Fin.ext (by dsimp only; omega)
  · rw [dif_neg c3]
    refine (Reads.dvc (reads1 t H) _ _).trans (congrArg _ ((@dvc_lanes A _ _ 1 r _).trans ?_))
    congr 1 <;> first | omega | exact Fin.ext (by dsimp only; omega)

/-- and of the block before. -/
theorem prev_at (r : Fin 128) (k : Fin 256) :
    cols4 (overLanes (dsp (a0 m c t)) (qh (a0 m c t).q (a0 m c t).qg)) (overLanes (dsp (a1 m c t)) (qh (a1 m c t).q (a1 m c t).qg))
      (overLanes (pp (a0 m c t)) (db (a0 m c t))) (overLanes (pp (a1 m c t)) (db (a1 m c t))) (ix2 r k)
      = (A.dprev (t.val * 128 + r.val) k.val : EReal) := by
  have hN : t.val < 64 := lt64 t
  have h1 : (t.val * 128 + r.val) / 2048 = t.val / 16 := by omega
  have h2 : (t.val * 128 + r.val) / 128 % 16 = t.val % 16 := by omega
  have h3 (h) : (⟨(t.val * 128 + r.val) % 128, h⟩ : Fin 128) = r := Fin.ext (by dsimp only; omega)
  have hk := k.isLt
  unfold Args.dprev
  rw [cols4_apply, h1, h2, h3]
  by_cases c1 : k.val < 64
  · rw [dif_pos c1, if_pos (by omega)]
    refine (Reads.dkp (reads0 t H) _ _).trans (congrArg _ ((@dkp_lanes A _ _ 0 r _).trans ?_))
    congr 1 <;> first | omega | exact Fin.ext (by dsimp only; omega)
  rw [dif_neg c1]
  by_cases c2 : k.val < 128
  · rw [dif_pos c2, if_pos c2]
    refine (Reads.dkp (reads1 t H) _ _).trans (congrArg _ ((@dkp_lanes A _ _ 1 r _).trans ?_))
    congr 1 <;> first | omega | exact Fin.ext (by dsimp only; omega)
  rw [dif_neg c2, if_neg c2]
  by_cases c3 : k.val < 192
  · rw [dif_pos c3]
    refine (Reads.dvp (reads0 t H) _ _).trans (congrArg _ ((@dvp_lanes A _ _ 0 r _).trans ?_))
    congr 1 <;> first | omega | exact Fin.ext (by dsimp only; omega)
  · rw [dif_neg c3]
    refine (Reads.dvp (reads1 t H) _ _).trans (congrArg _ ((@dvp_lanes A _ _ 1 r _).trans ?_))
    congr 1 <;> first | omega | exact Fin.ext (by dsimp only; omega)

theorem arr9 : (dats m 0 c).arrAt 9 cfg0.N = fun i => (A.dq (i 0).val (i 1).val : EReal) := by
  refine (dats m 0 c).arrAt_eq_of_covers 9 _ (by decide +kernel) fun t hf y => ?_
  blk_simp
  rw [after0_9, at9, show win0_9.index t 0 = t.val from congrFun (idx9 t) 0, show win0_9.index t 1 = 0 from congrFun (idx9 t) 1,
    zero_mul, zero_add]
  obtain ⟨r, k, rfl⟩ : ∃ (r : Fin 128) (k : Fin 1024), y = ix2 r k := ⟨_, _, eq_ix2 y⟩
  exact dq_at t H r k

theorem arr10 : (dats m 0 c).arrAt 10 cfg0.N = fun i => (A.dcur (i 0).val (i 1).val : EReal) := by
  refine (dats m 0 c).arrAt_eq_of_covers 10 _ (by decide +kernel) fun t hf y => ?_
  blk_simp
  rw [after0_10, at10, show win0_10.index t 0 = t.val from congrFun (idx10 t) 0, show win0_10.index t 1 = 0 from congrFun (idx10 t) 1,
    zero_mul, zero_add]
  obtain ⟨r, k, rfl⟩ : ∃ (r : Fin 128) (k : Fin 256), y = ix2 r k := ⟨_, _, eq_ix2 y⟩
  exact cur_at t H r k

theorem arr11 : (dats m 0 c).arrAt 11 cfg0.N = fun i => (A.dprev (i 0).val (i 1).val : EReal) := by
  refine (dats m 0 c).arrAt_eq_of_covers 11 _ (by decide +kernel) fun t hf y => ?_
  blk_simp
  rw [after0_11, at11, show win0_11.index t 0 = t.val from congrFun (idx11 t) 0, show win0_11.index t 1 = 0 from congrFun (idx11 t) 1,
    zero_mul, zero_add]
  obtain ⟨r, k, rfl⟩ : ∃ (r : Fin 128) (k : Fin 256), y = ix2 r k := ⟨_, _, eq_ix2 y⟩
  exact prev_at t H r k

/-- What a point adds to the query gain's gradient, -/
theorem step12 (o : Vec Ideal S64x128 .f32) (j : S64x128.Idx) : addHeads (dgl (a1 m c t)) (addHeads (dgl (a0 m c t)) o) j =
    o j + ((∑ h : Fin 16, (A.lane (t.val / 16) (t.val % 16) h (j 1).val).dg (j 0) : ℝ) : EReal) := by
  obtain ⟨d, i, rfl⟩ : ∃ (d : Fin 64) (i : Fin 128), j = ix2 d i := ⟨_, _, eq_ix2 j⟩
  change _ = _ + ((∑ h : Fin 16, (A.lane (t.val / 16) (t.val % 16) h i.val).dg d : ℝ) : EReal)
  rw [addHeads_apply, addHeads_apply, add_assoc, Fin.sum_univ_add (a := 8) (b := 8) fun h => (A.lane (t.val / 16) (t.val % 16) h.val i.val).dg d]
  congr 1
  have e (g : Fin 8) : (g.val * 128 + i.val) / 128 = g.val ∧ (g.val * 128 + i.val) % 128 = i.val := by omega
  simp only [Reads.dgl (reads0 t H), Reads.dgl (reads1 t H), sum_coe, EReal.coe_add, e, Fin.val_castAdd, Fin.val_natAdd, zero_mul, zero_add,
    one_mul]

/-- and to the sinks'. -/
theorem step13 (o : Vec Ideal S8x128 .f32) (j : S8x128.Idx) :
    putRow o (addSinks1 (dsink (a1 m c t)) (addSinks0 (dsink (a0 m c t)) (row0 o))) j =
      o j + ((if (j 0).val = 0 ∧ (j 1).val < 16 then ∑ i : Fin 128, (A.lane (t.val / 16) (t.val % 16) (j 1).val i).dsink else 0 : ℝ) : EReal) := by
  obtain ⟨r, h, rfl⟩ : ∃ (r : Fin 8) (h : Fin 128), j = ix2 r h := ⟨_, _, eq_ix2 j⟩
  have hput (w : FVec Ideal S1x128 .f32) : putRow o w (ix2 r h) = if r.val = 0 then w (ix2 0 h) else o (ix2 r h) := rfl
  change _ = _ + ((if r.val = 0 ∧ h.val < 16 then ∑ i : Fin 128, (A.lane (t.val / 16) (t.val % 16) h.val i).dsink else 0 : ℝ) : EReal)
  rw [hput]
  by_cases hr : r.val = 0
  · obtain rfl : r = 0 := Fin.ext hr
    rw [if_pos hr, addSinks1_apply, addSinks0_apply, add_assoc]
    change o (ix2 0 h) + _ = _
    congr 1
    simp only [Reads.dsink (reads0 t H), Reads.dsink (reads1 t H), sum_coe]
    have e (g : ℕ) (i : Fin 128) : (g * 128 + i.val) / 128 = g ∧ (g * 128 + i.val) % 128 = i.val := by omega
    simp only [e]
    by_cases c1 : h.val < 8
    · rw [dif_pos c1, dif_neg (by omega), if_pos (by omega), add_zero, zero_mul, zero_add]
    · rw [dif_neg c1, zero_add]
      by_cases c2 : h.val < 16
      · rw [dif_pos (by omega), if_pos (by omega), show 1 * 8 + (h.val - 8) = h.val by omega]
      · rw [dif_neg (by omega), if_neg (by omega), EReal.coe_zero]
  · rw [if_neg hr, if_neg (by omega), EReal.coe_zero, add_zero]

/-- The last point. -/
abbrev tlast : Fin cfg0.N := ⟨63, by rw [show cfg0.N = 64 from N_0]; decide⟩

theorem arr12 : (dats m 0 c).arrAt 12 cfg0.N = fun i => (A.dg (i 0) (i 1).val : EReal) := by
  refine (dats m 0 c).arrAt_eq_of_after_last 12 tlast (by decide +kernel) _ fun j => ?_
  blk_simp
  rw [after0_12]
  rw [Pipeline.eq_sum_fin_of_reset_step_apply_last (fun n h => (outsAt0 m c n h).2.2.2.1) 64 (fun _ => 0)
    (fun t j => ((∑ h : Fin 16, (A.lane (t.val / 16) (t.val % 16) h (j 1).val).dg (j 0) : ℝ) : EReal))
    (fun t h j => by
      rw [outsAt0_A m c t h]; dsimp only; rw [out_A_12]; exact (step12 t H _ j).trans (congrArg (· + _) (by unfold k0_pay1; pointwise)))
    (fun t h j => by rw [outsAt0_B m c t h]; dsimp only; rw [out_B_12]; exact step12 t H _ j)
    (le_of_eq N_0) tlast rfl j, zero_add, sum_coe]
  congr 1
  exact Fin.sum_divmod_fin (N := cfg0.N) (A := 4) 16 (fun b n => ∑ h : Fin 16, (A.lane b n h (j 1).val).dg (j 0)) N_0

theorem arr13 : (dats m 0 c).arrAt 13 cfg0.N =
    fun i => ((if (i 0).val = 0 ∧ (i 1).val < 16 then A.dsink (i 1).val else 0 : ℝ) : EReal) := by
  refine (dats m 0 c).arrAt_eq_of_after_last 13 tlast (by decide +kernel) _ fun j => ?_
  blk_simp
  rw [after0_13]
  rw [Pipeline.eq_sum_fin_of_reset_step_apply_last (fun n h => (outsAt0 m c n h).2.2.2.2) 64 (fun _ => 0)
    (fun t j => ((if (j 0).val = 0 ∧ (j 1).val < 16 then
      ∑ i : Fin 128, (A.lane (t.val / 16) (t.val % 16) (j 1).val i).dsink else 0 : ℝ) : EReal))
    (fun t h j => by
      rw [outsAt0_A m c t h]; dsimp only; rw [out_A_13]; exact (step13 t H _ j).trans (congrArg (· + _) (by unfold k0_pay2; pointwise)))
    (fun t h j => by rw [outsAt0_B m c t h]; dsimp only; rw [out_B_13]; exact step13 t H _ j)
    (le_of_eq N_0) tlast rfl j, zero_add, sum_coe]
  congr 1
  change _ = if (j 0).val = 0 ∧ (j 1).val < 16 then A.dsink (j 1).val else 0
  by_cases h : (j 0).val = 0 ∧ (j 1).val < 16
  · simp only [if_pos h]
    exact Fin.sum_divmod_fin (N := cfg0.N) (A := 4) 16 (fun b n => ∑ i : Fin 128, (A.lane b n (j 1).val i).dsink) N_0
  · simp only [if_neg h, Finset.sum_const_zero]

end Cert.KernelIdeal.Arrays
-- ==== Proof.Stages.lean ====
/-
  The reference's values by stages, as functions of its arguments: the terms that its run states, with names.
-/
module

public import proofs.«01_k».proof.Proof.Gen.ReferenceIdeal

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S8192x1024, .f32⟩ : BufTy).Contents (Elt F)) (x1 : (⟨S8192x256, .f32⟩ : BufTy).Contents (Elt F))
  (x2 : (⟨S8192x1024, .bf16⟩ : BufTy).Contents (Elt F)) (x3 x4 : (⟨S64, .f32⟩ : BufTy).Contents (Elt F))
  (x5 : (⟨S16, .f32⟩ : BufTy).Contents (Elt F))

/-- The values, padded by a block in front, by blocks. -/
def vRows : (⟨S4x17x128x2x64, .f32⟩ : BufTy).Contents (Elt F) :=
  shapeCast _ (pad S4x2176x2x64 ![0, 128, 0, 0] ![0, 0, 0, 0] ![0, 0, 0, 0] (shapeCast _ (extractStridedSlice
  S8192x128 ![0, 128] x1 slices_S8192x256_S8192x128_0_128) shapeCasts_S8192x128_S4x2048x2x64) (sitofp .f32 (constantI
  S_ 32 0#32)) pads_S4x2048x2x64_S4x2176x2x64_000_12800_000_000 h_S_) shapeCasts_S4x2176x2x64_S4x17x128x2x64

/-- The values of each block and the one before. -/
def vWin : (⟨S4x16x256x2x64, .f32⟩ : BufTy).Contents (Elt F) :=
  concatenate S4x16x256x2x64 2 [⟨S4x16x128x2x64, (extractStridedSlice S4x16x128x2x64 ![0, 0, 0, 0, 0] (vRows x1)
  slices_S4x17x128x2x64_S4x16x128x2x64_0_0_0_0_0)⟩, ⟨S4x16x128x2x64, (extractStridedSlice S4x16x128x2x64 ![0, 1, 0, 0,
  0] (vRows x1) slices_S4x17x128x2x64_S4x16x128x2x64_0_1_0_0_0)⟩]
  concatenates_S4x16x128x2x64_S4x16x128x2x64_S4x16x256x2x64_d2

/-- The keys as they arrive. -/
def kRows : (⟨S4x2048x2x64, .f32⟩ : BufTy).Contents (Elt F) :=
  shapeCast _ (extractStridedSlice S8192x128 ![0, 0] x1 slices_S8192x256_S8192x128_0_0)
  shapeCasts_S8192x128_S4x2048x2x64

/-- The keys at unit mean square and by their gain, padded and by blocks. -/
def kNorm : (⟨S4x17x128x2x64, .f32⟩ : BufTy).Contents (Elt F) :=
  shapeCast _ (pad S4x2176x2x64 ![0, 128, 0, 0] ![0, 0, 0, 0] ![0, 0, 0, 0] (mulf (mulf (kRows x1) (broadcastInDim
  S4x2048x2x64 ![0, 1, 2, 3] bcast_S4x2048x2x1_S4x2048x2x64_0_1_2_3 (Host.rsqrt (addf (Host.divf (broadcastInDim
  S4x2048x2x1 ![0, 1, 2] bcast_S4x2048x2_S4x2048x2x1_0_1_2 (Host.reduceAdd (mulf (kRows x1) (kRows x1)) (constant S_
  .f32 0x00000000#32) reducesTo_S4x2048x2x64_S4x2048x2_d3 h_S_)) (broadcastInDim S4x2048x2x1 ![] bcast_S_S4x2048x2x1
  (constant S_ .f32 0x42800000#32))) (broadcastInDim S4x2048x2x1 ![] bcast_S_S4x2048x2x1 (constant S_ .f32
  0x358637BD#32)))))) (broadcastInDim S4x2048x2x64 ![0, 1, 2, 3] bcast_S1x1x1x64_S4x2048x2x64_0_1_2_3 (broadcastInDim
  S1x1x1x64 ![3] bcast_S64_S1x1x1x64_3 x4))) (sitofp .f32 (constantI S_ 32 0#32))
  pads_S4x2048x2x64_S4x2176x2x64_000_12800_000_000 h_S_) shapeCasts_S4x2176x2x64_S4x17x128x2x64

/-- The keys of each block and the one before. -/
def kWin : (⟨S4x16x256x2x64, .f32⟩ : BufTy).Contents (Elt F) :=
  concatenate S4x16x256x2x64 2 [⟨S4x16x128x2x64, (extractStridedSlice S4x16x128x2x64 ![0, 0, 0, 0, 0] (kNorm x1 x4)
  slices_S4x17x128x2x64_S4x16x128x2x64_0_0_0_0_0)⟩, ⟨S4x16x128x2x64, (extractStridedSlice S4x16x128x2x64 ![0, 1, 0, 0,
  0] (kNorm x1 x4) slices_S4x17x128x2x64_S4x16x128x2x64_0_1_0_0_0)⟩]
  concatenates_S4x16x128x2x64_S4x16x128x2x64_S4x16x256x2x64_d2

/-- The queries by block, token and head. -/
def qRows : (⟨S4x16x128x2x8x64, .f32⟩ : BufTy).Contents (Elt F) :=
  shapeCast _ x0 shapeCasts_S8192x1024_S4x16x128x2x8x64

/-- Their mean squares. -/
def qVar : (⟨S4x16x128x2x8x1, .f32⟩ : BufTy).Contents (Elt F) :=
  addf (Host.divf (broadcastInDim S4x16x128x2x8x1 ![0, 1, 2, 3, 4] bcast_S4x16x128x2x8_S4x16x128x2x8x1_0_1_2_3_4
  (Host.reduceAdd (mulf (qRows x0) (qRows x0)) (constant S_ .f32 0x00000000#32)
  reducesTo_S4x16x128x2x8x64_S4x16x128x2x8_d5 h_S_)) (broadcastInDim S4x16x128x2x8x1 ![] bcast_S_S4x16x128x2x8x1
  (constant S_ .f32 0x42800000#32))) (broadcastInDim S4x16x128x2x8x1 ![] bcast_S_S4x16x128x2x8x1 (constant S_ .f32
  0x358637BD#32))

/-- The reciprocal roots. -/
def qRms : (⟨S4x16x128x2x8x1, .f32⟩ : BufTy).Contents (Elt F) :=
  Host.rsqrt (qVar x0)

/-- The queries at unit mean square, -/
def qUnit : (⟨S4x16x128x2x8x64, .f32⟩ : BufTy).Contents (Elt F) :=
  mulf (qRows x0) (broadcastInDim S4x16x128x2x8x64 ![0, 1, 2, 3, 4, 5]
  bcast_S4x16x128x2x8x1_S4x16x128x2x8x64_0_1_2_3_4_5 (qRms x0))

/-- The gain, for every token of a block. -/
def gain : (⟨S1x1x128x1x1x64, .f32⟩ : BufTy).Contents (Elt F) :=
  broadcastInDim S1x1x128x1x1x64 ![2, 3, 4, 5] bcast_S128x1x1x64_S1x1x128x1x1x64_2_3_4_5 (broadcastInDim S128x1x1x64
  ![0, 3] bcast_S128x64_S128x1x1x64_0_3 (broadcastInDim S128x64 ![1] bcast_S64_S128x64_1 x3))

/-- and by their gain. -/
def qNorm : (⟨S4x16x128x2x8x64, .f32⟩ : BufTy).Contents (Elt F) :=
  mulf (qUnit x0) (broadcastInDim S4x16x128x2x8x64 ![0, 1, 2, 3, 4, 5]
  bcast_S1x1x128x1x1x64_S4x16x128x2x8x64_0_1_2_3_4_5 (gain x3))

/-- The numbers of the 256 keys. -/
def keyIx : (⟨S1x256, .i32⟩ : BufTy).Contents (Elt F) :=
  broadcastInDim S1x256 ![1] bcast_S256_S1x256_1 (iotaInDim S256 32 0)

/-- How far a key lies behind a query. -/
def dist : (⟨S128x256, .i32⟩ : BufTy).Contents (Elt F) :=
  subi (broadcastInDim S128x256 ![0, 1] bcast_S128x1_S128x256_0_1 (addi (broadcastInDim S128x1 ![0]
  bcast_S128_S128x1_0 (iotaInDim S128 32 0)) (broadcastInDim S128x1 ![] bcast_S_S128x1 (constantI S_ 32 128#32))))
  (broadcastInDim S128x256 ![0, 1] bcast_S1x256_S128x256_0_1 (keyIx (F := F)))

/-- Whether a query sees a key. -/
def valid : (⟨S4x16x2x8x128x256, .i1⟩ : BufTy).Contents (Elt F) :=
  broadcastInDim S4x16x2x8x128x256 ![0, 1, 2, 3, 4, 5] bcast_S1x16x1x1x128x256_S4x16x2x8x128x256_0_1_2_3_4_5
  (broadcastInDim S1x16x1x1x128x256 ![1, 4, 5] bcast_S16x128x256_S1x16x1x1x128x256_1_4_5 (andi (broadcastInDim
  S16x128x256 ![0, 1, 2] bcast_S1x128x256_S16x128x256_0_1_2 (broadcastInDim S1x128x256 ![1, 2]
  bcast_S128x256_S1x128x256_1_2 (andi (cmpi .sge (dist (F := F)) (broadcastInDim S128x256 ![] bcast_S_S128x256
  (constantI S_ 32 0#32))) (cmpi .slt (dist (F := F)) (broadcastInDim S128x256 ![] bcast_S_S128x256 (constantI S_ 32
  128#32)))))) (broadcastInDim S16x128x256 ![0, 1, 2] bcast_S16x1x256_S16x128x256_0_1_2 (cmpi .sge (addi
  (broadcastInDim S16x1x256 ![0, 1, 2] bcast_S16x1x1_S16x1x256_0_1_2 (subi (muli (broadcastInDim S16x1x1 ![0]
  bcast_S16_S16x1x1_0 (iotaInDim S16 32 0)) (broadcastInDim S16x1x1 ![] bcast_S_S16x1x1 (constantI S_ 32 128#32)))
  (broadcastInDim S16x1x1 ![] bcast_S_S16x1x1 (constantI S_ 32 128#32)))) (broadcastInDim S16x1x256 ![0, 1, 2]
  bcast_S1x1x256_S16x1x256_0_1_2 (broadcastInDim S1x1x256 ![1, 2] bcast_S1x256_S1x1x256_1_2 (keyIx (F := F)))))
  (broadcastInDim S16x1x256 ![] bcast_S_S16x1x256 (constantI S_ 32 0#32))))))

/-- The scores, minus infinity where the key is not seen. -/
def score : (⟨S4x16x2x8x128x256, .f32⟩ : BufTy).Contents (Elt F) :=
  select (valid (F := F)) (addf (mulf (transpose S4x16x2x8x128x256 [0, 1, 2, 5, 4, 3] (Host.dotGeneral
  dot_S4x16x256x2x64_S4x16x128x2x8x64_S4x16x2x256x128x8_4_5_2_24_013_013 none (kWin x1 x4) (qNorm x0 x3))
  transposes_S4x16x2x256x128x8_S4x16x2x8x128x256_0_1_2_5_4_3) (broadcastInDim S4x16x2x8x128x256 ![]
  bcast_S_S4x16x2x8x128x256 (constant S_ .f32 0x3E000000#32))) (broadcastInDim S4x16x2x8x128x256 ![0, 1, 2, 3, 4, 5]
  bcast_S1x1x2x8x128x256_S4x16x2x8x128x256_0_1_2_3_4_5 (broadcastInDim S1x1x2x8x128x256 ![2, 3, 4, 5]
  bcast_S2x8x128x256_S1x1x2x8x128x256_2_3_4_5 (mulf (broadcastInDim S2x8x128x256 ![0, 1, 2, 3]
  bcast_S2x8x1x1_S2x8x128x256_0_1_2_3 (Host.negf (shapeCast _ (Host.exp (mulf (broadcastInDim S16 ![] bcast_S_S16
  (constant S_ .f32 0x3F317218#32)) (Host.divf (mulf (broadcastInDim S16 ![] bcast_S_S16 (constant S_ .f32
  0xC1000000#32)) (addf (broadcastInDim S16 ![] bcast_S_S16 (constant S_ .f32 0x3F800000#32)) (sitofp .f32 (iotaInDim
  S16 32 0)))) (broadcastInDim S16 ![] bcast_S_S16 (constant S_ .f32 0x41800000#32))))) shapeCasts_S16_S2x8x1x1)))
  (broadcastInDim S2x8x128x256 ![0, 1, 2, 3] bcast_S1x1x128x256_S2x8x128x256_0_1_2_3 (broadcastInDim S1x1x128x256 ![2,
  3] bcast_S128x256_S1x1x128x256_2_3 (sitofp .f32 (dist (F := F))))))))) (broadcastInDim S4x16x2x8x128x256 ![]
  bcast_S_S4x16x2x8x128x256 (id (constant S_ .f32 0xFF800000#32)))

/-- The sink logits. -/
def sink : (⟨S2x8x1x1, .f32⟩ : BufTy).Contents (Elt F) :=
  shapeCast _ x5 shapeCasts_S16_S2x8x1x1

/-- The largest score of a query. -/
def top : (⟨S4x16x2x8x128, .f32⟩ : BufTy).Contents (Elt F) :=
  Host.reduce FloatOps.maximumf (score x0 x1 x3 x4) (constant S_ .f32 0xFF800000#32)
  reducesTo_S4x16x2x8x128x256_S4x16x2x8x128_d5 h_S_

/-- The same, as a column. -/
def topCol : (⟨S4x16x2x8x128x1, .f32⟩ : BufTy).Contents (Elt F) :=
  broadcastInDim S4x16x2x8x128x1 ![0, 1, 2, 3, 4] bcast_S4x16x2x8x128_S4x16x2x8x128x1_0_1_2_3_4 (top x0 x1 x3 x4)

/-- The sink logits, as columns. -/
def sinkCol : (⟨S1x1x2x8x1x1, .f32⟩ : BufTy).Contents (Elt F) :=
  broadcastInDim S1x1x2x8x1x1 ![2, 3, 4, 5] bcast_S2x8x1x1_S1x1x2x8x1x1_2_3_4_5 (sink x5)

/-- What is taken off the scores. -/
def shift : (⟨S4x16x2x8x128x1, .f32⟩ : BufTy).Contents (Elt F) :=
  maximumf (topCol x0 x1 x3 x4) (broadcastInDim S4x16x2x8x128x1 ![0, 1, 2, 3, 4, 5]
  bcast_S1x1x2x8x1x1_S4x16x2x8x128x1_0_1_2_3_4_5 (sinkCol x5))

/-- The exponentials of the scores, -/
def expS : (⟨S4x16x2x8x128x256, .f32⟩ : BufTy).Contents (Elt F) :=
  Host.exp (subf (score x0 x1 x3 x4) (broadcastInDim S4x16x2x8x128x256 ![0, 1, 2, 3, 4, 5]
  bcast_S4x16x2x8x128x1_S4x16x2x8x128x256_0_1_2_3_4_5 (shift x0 x1 x3 x4 x5)))

/-- of the sink, -/
def expSink : (⟨S4x16x2x8x128x1, .f32⟩ : BufTy).Contents (Elt F) :=
  Host.exp (subf (broadcastInDim S4x16x2x8x128x1 ![0, 1, 2, 3, 4, 5] bcast_S1x1x2x8x1x1_S4x16x2x8x128x1_0_1_2_3_4_5
  (broadcastInDim S1x1x2x8x1x1 ![2, 3, 4, 5] bcast_S2x8x1x1_S1x1x2x8x1x1_2_3_4_5 (sink x5))) (shift x0 x1 x3 x4 x5))

/-- and their sum. -/
def denom : (⟨S4x16x2x8x128x1, .f32⟩ : BufTy).Contents (Elt F) :=
  addf (broadcastInDim S4x16x2x8x128x1 ![0, 1, 2, 3, 4] bcast_S4x16x2x8x128_S4x16x2x8x128x1_0_1_2_3_4 (Host.reduceAdd
  (expS x0 x1 x3 x4 x5) (constant S_ .f32 0x00000000#32) reducesTo_S4x16x2x8x128x256_S4x16x2x8x128_d5 h_S_)) (expSink
  x0 x1 x3 x4 x5)

/-- The probabilities. -/
def prob : (⟨S4x16x2x8x128x256, .f32⟩ : BufTy).Contents (Elt F) :=
  Host.divf (expS x0 x1 x3 x4 x5) (broadcastInDim S4x16x2x8x128x256 ![0, 1, 2, 3, 4, 5]
  bcast_S4x16x2x8x128x1_S4x16x2x8x128x256_0_1_2_3_4_5 (denom x0 x1 x3 x4 x5))

/-- The arriving gradient by head. -/
def cot : (⟨S4x16x2x64x8x128, .f32⟩ : BufTy).Contents (Elt F) :=
  transpose S4x16x2x64x8x128 [0, 1, 3, 5, 4, 2] (shapeCast _ (shapeCast _ (extf .f32 x2 bitsLt_bf16_f32)
  shapeCasts_S8192x1024_S4x2048x1024) shapeCasts_S4x2048x1024_S4x16x128x2x8x64)
  transposes_S4x16x128x2x8x64_S4x16x2x64x8x128_0_1_3_5_4_2

/-- The gradient of the probabilities. -/
def dProb : (⟨S4x16x2x8x128x256, .f32⟩ : BufTy).Contents (Elt F) :=
  Host.dotGeneral dot_S4x16x2x64x8x128_S4x16x256x2x64_S4x16x2x8x128x256_3_4_45_2_012_013 none (cot x2) (vWin x1)

/-- The gradient of the values. -/
def dVal : (⟨S4x16x256x2x64, .f32⟩ : BufTy).Contents (Elt F) :=
  transpose S4x16x256x2x64 [0, 1, 4, 2, 3] (Host.dotGeneral
  dot_S4x16x2x64x8x128_S4x16x2x8x128x256_S4x16x2x64x256_45_34_3_5_012_012 none (cot x2) (prob x0 x1 x3 x4 x5))
  transposes_S4x16x2x64x256_S4x16x256x2x64_0_1_4_2_3

/-- The gradient of the sum. -/
def dDenom : (⟨S4x16x2x8x128x1, .f32⟩ : BufTy).Contents (Elt F) :=
  Host.negf (shapeCast _ (Host.reduceAdd (mulf (mulf (dProb x1 x2) (broadcastInDim S4x16x2x8x128x256 ![0, 1, 2, 3, 4,
  5] bcast_S4x16x2x8x128x1_S4x16x2x8x128x256_0_1_2_3_4_5 (Host.divf (broadcastInDim S4x16x2x8x128x1 ![]
  bcast_S_S4x16x2x8x128x1 (constant S_ .f32 0x3F800000#32)) (mulf (denom x0 x1 x3 x4 x5) (denom x0 x1 x3 x4 x5)))))
  (expS x0 x1 x3 x4 x5)) (constant S_ .f32 0x00000000#32) reducesTo_S4x16x2x8x128x256_S4x16x2x8x128_d5 h_S_)
  shapeCasts_S4x16x2x8x128_S4x16x2x8x128x1)

/-- The gradient of the products of queries and keys. -/
def dScore : (⟨S4x16x2x256x128x8, .f32⟩ : BufTy).Contents (Elt F) :=
  transpose S4x16x2x256x128x8 [0, 1, 2, 5, 4, 3] (mulf (select (valid (F := F)) (mulf (addf (Host.divf (dProb x1 x2)
  (broadcastInDim S4x16x2x8x128x256 ![0, 1, 2, 3, 4, 5] bcast_S4x16x2x8x128x1_S4x16x2x8x128x256_0_1_2_3_4_5 (denom x0
  x1 x3 x4 x5))) (broadcastInDim S4x16x2x8x128x256 ![0, 1, 2, 3, 4] bcast_S4x16x2x8x128_S4x16x2x8x128x256_0_1_2_3_4
  (Host.reduceAdd (dDenom x0 x1 x2 x3 x4 x5) (constant S_ .f32 0x00000000#32)
  reducesTo_S4x16x2x8x128x1_S4x16x2x8x128_d5 h_S_))) (expS x0 x1 x3 x4 x5)) (broadcastInDim S4x16x2x8x128x256 ![]
  bcast_S_S4x16x2x8x128x256 (constant S_ .f32 0x00000000#32))) (broadcastInDim S4x16x2x8x128x256 ![]
  bcast_S_S4x16x2x8x128x256 (constant S_ .f32 0x3E000000#32)))
  transposes_S4x16x2x8x128x256_S4x16x2x256x128x8_0_1_2_5_4_3

/-- The gradient of the normalised queries. -/
def dqNorm : (⟨S4x16x128x2x8x64, .f32⟩ : BufTy).Contents (Elt F) :=
  transpose S4x16x128x2x8x64 [0, 1, 3, 2, 4, 5] (Host.dotGeneral
  dot_S4x16x2x256x128x8_S4x16x256x2x64_S4x16x2x128x8x64_3_2_45_4_012_013 none (dScore x0 x1 x2 x3 x4 x5) (kWin x1 x4))
  transposes_S4x16x2x128x8x64_S4x16x128x2x8x64_0_1_3_2_4_5

/-- The gradient of the keys. -/
def dKey : (⟨S4x16x256x2x64, .f32⟩ : BufTy).Contents (Elt F) :=
  transpose S4x16x256x2x64 [0, 1, 3, 2, 4] (Host.dotGeneral
  dot_S4x16x2x256x128x8_S4x16x128x2x8x64_S4x16x2x256x64_45_24_3_5_012_013 none (dScore x0 x1 x2 x3 x4 x5) (qNorm x0
  x3)) transposes_S4x16x2x256x64_S4x16x256x2x64_0_1_3_2_4

/-- The gradient before the gain. -/
def dqUnit : (⟨S4x16x128x2x8x64, .f32⟩ : BufTy).Contents (Elt F) :=
  mulf (dqNorm x0 x1 x2 x3 x4 x5) (broadcastInDim S4x16x128x2x8x64 ![0, 1, 2, 3, 4, 5]
  bcast_S1x1x128x1x1x64_S4x16x128x2x8x64_0_1_2_3_4_5 (gain x3))

/-- What the mean square passes on. -/
def dVar : (⟨S4x16x128x2x8x64, .f32⟩ : BufTy).Contents (Elt F) :=
  broadcastInDim S4x16x128x2x8x64 ![0, 1, 2, 3, 4] bcast_S4x16x128x2x8_S4x16x128x2x8x64_0_1_2_3_4 (Host.reduceAdd
  (Host.divf (mulf (shapeCast _ (Host.reduceAdd (mulf (qRows x0) (dqUnit x0 x1 x2 x3 x4 x5)) (constant S_ .f32
  0x00000000#32) reducesTo_S4x16x128x2x8x64_S4x16x128x2x8_d5 h_S_) shapeCasts_S4x16x128x2x8_S4x16x128x2x8x1) (mulf
  (broadcastInDim S4x16x128x2x8x1 ![] bcast_S_S4x16x128x2x8x1 (constant S_ .f32 0xBF000000#32)) (Host.divf (qRms x0)
  (qVar x0)))) (broadcastInDim S4x16x128x2x8x1 ![] bcast_S_S4x16x128x2x8x1 (constant S_ .f32 0x42800000#32)))
  (constant S_ .f32 0x00000000#32) reducesTo_S4x16x128x2x8x1_S4x16x128x2x8_d5 h_S_)

/-- The first result: the gradient of the queries. -/
def dQ : (⟨S8192x1024, .bf16⟩ : BufTy).Contents (Elt F) :=
  truncf .bf16 (shapeCast _ (addf (addf (mulf (dqUnit x0 x1 x2 x3 x4 x5) (broadcastInDim S4x16x128x2x8x64 ![0, 1, 2,
  3, 4, 5] bcast_S4x16x128x2x8x1_S4x16x128x2x8x64_0_1_2_3_4_5 (qRms x0))) (mulf (qRows x0) (dVar x0 x1 x2 x3 x4 x5)))
  (mulf (dVar x0 x1 x2 x3 x4 x5) (qRows x0))) shapeCasts_S4x16x128x2x8x64_S8192x1024) bitsLt_bf16_f32

/-- The second: of the keys and values of the own block. -/
def dCur : (⟨S8192x256, .f32⟩ : BufTy).Contents (Elt F) :=
  shapeCast _ (concatenate S4x16x128x256 3 [⟨S4x16x128x128, (shapeCast _ (extractStridedSlice S4x16x1x128x128 ![0, 0,
  1, 0, 0] (shapeCast _ (dKey x0 x1 x2 x3 x4 x5) shapeCasts_S4x16x256x2x64_S4x16x2x128x128)
  slices_S4x16x2x128x128_S4x16x1x128x128_0_0_1_0_0) shapeCasts_S4x16x1x128x128_S4x16x128x128)⟩, ⟨S4x16x128x128,
  (shapeCast _ (extractStridedSlice S4x16x1x128x128 ![0, 0, 1, 0, 0] (shapeCast _ (dVal x0 x1 x2 x3 x4 x5)
  shapeCasts_S4x16x256x2x64_S4x16x2x128x128) slices_S4x16x2x128x128_S4x16x1x128x128_0_0_1_0_0)
  shapeCasts_S4x16x1x128x128_S4x16x128x128)⟩] concatenates_S4x16x128x128_S4x16x128x128_S4x16x128x256_d3)
  shapeCasts_S4x16x128x256_S8192x256

/-- The third: of those of the block before. -/
def dPrev : (⟨S8192x256, .f32⟩ : BufTy).Contents (Elt F) :=
  shapeCast _ (concatenate S4x16x128x256 3 [⟨S4x16x128x128, (shapeCast _ (extractStridedSlice S4x16x1x128x128 ![0, 0,
  0, 0, 0] (shapeCast _ (dKey x0 x1 x2 x3 x4 x5) shapeCasts_S4x16x256x2x64_S4x16x2x128x128)
  slices_S4x16x2x128x128_S4x16x1x128x128_0_0_0_0_0) shapeCasts_S4x16x1x128x128_S4x16x128x128)⟩, ⟨S4x16x128x128,
  (shapeCast _ (extractStridedSlice S4x16x1x128x128 ![0, 0, 0, 0, 0] (shapeCast _ (dVal x0 x1 x2 x3 x4 x5)
  shapeCasts_S4x16x256x2x64_S4x16x2x128x128) slices_S4x16x2x128x128_S4x16x1x128x128_0_0_0_0_0)
  shapeCasts_S4x16x1x128x128_S4x16x128x128)⟩] concatenates_S4x16x128x128_S4x16x128x128_S4x16x128x256_d3)
  shapeCasts_S4x16x128x256_S8192x256

/-- The fourth: of the query gain, by the token in its block. -/
def dGain : (⟨S64x128, .f32⟩ : BufTy).Contents (Elt F) :=
  transpose S64x128 [1, 0] (Host.reduceAdd (broadcastInDim S128x1x1x64 ![0, 3] bcast_S128x64_S128x1x1x64_0_3
  (Host.reduceAdd (shapeCast _ (Host.reduceAdd (mulf (qUnit x0) (dqNorm x0 x1 x2 x3 x4 x5)) (constant S_ .f32
  0x00000000#32) reducesTo_S4x16x128x2x8x64_S128x64_d0_1_3_4 h_S_) shapeCasts_S128x64_S1x1x128x1x1x64) (constant S_
  .f32 0x00000000#32) reducesTo_S1x1x128x1x1x64_S128x64_d0_1_3_4 h_S_)) (constant S_ .f32 0x00000000#32)
  reducesTo_S128x1x1x64_S128x64_d1_2 h_S_) transposes_S128x64_S64x128_1_0

/-- The fifth: of the sink logits, padded. -/
def dSink : (⟨S8x128, .f32⟩ : BufTy).Contents (Elt F) :=
  pad S8x128 ![0, 0] ![7, 112] ![0, 0] (shapeCast _ (shapeCast _ (broadcastInDim S2x8x1x1 ![0, 1]
  bcast_S2x8_S2x8x1x1_0_1 (Host.reduceAdd (shapeCast _ (broadcastInDim S2x8x1 ![0, 1] bcast_S2x8_S2x8x1_0_1
  (Host.reduceAdd (mulf (dDenom x0 x1 x2 x3 x4 x5) (expSink x0 x1 x3 x4 x5)) (constant S_ .f32 0x00000000#32)
  reducesTo_S4x16x2x8x128x1_S2x8_d0_1_4_5 h_S_)) shapeCasts_S2x8x1_S1x1x2x8x1x1) (constant S_ .f32 0x00000000#32)
  reducesTo_S1x1x2x8x1x1_S2x8_d0_1_4_5 h_S_)) shapeCasts_S2x8x1x1_S16) shapeCasts_S16_S1x16) (sitofp .f32 (constantI
  S_ 32 0#32)) pads_S1x16_S8x128_070_01120 h_S_

end Cert.ReferenceIdeal.Ref

end
-- ==== Proof.Sums6.lean ====
/-
  Host reductions over axes of a six-dimensional array, read at an index.
-/
module

public import Idealize.ShloMosaic.Lib.Pointwise

@[expose] public section

noncomputable section

namespace Cert

open Idealize.ShloMosaic

variable {n0 n1 n2 n3 n4 n5 : ℕ}

/-- What drops to an index, the last axis reduced. -/
theorem drop_last (h : (⟨6, ![n0, n1, n2, n3, n4, n5]⟩ : Shape).ReducesTo [5] ⟨5, ![n0, n1, n2, n3, n4]⟩)
    (a : Fin n0) (b : Fin n1) (c : Fin n2) (e : Fin n3) (f : Fin n4) (x : (⟨6, ![n0, n1, n2, n3, n4, n5]⟩ : Shape).Idx) :
    h.drop x = ix5 a b c e f ↔ ∃ k : Fin n5, ix6 a b c e f k = x := by
  constructor
  · intro w
    have at' (p : Fin 5) := congrArg Fin.val (congrFun w p)
    refine ⟨x 5, funext fun p => Fin.ext ?_⟩
    match p with
    | ⟨0, _⟩ => exact (at' 0).symm
    | ⟨1, _⟩ => exact (at' 1).symm
    | ⟨2, _⟩ => exact (at' 2).symm
    | ⟨3, _⟩ => exact (at' 3).symm
    | ⟨4, _⟩ => exact (at' 4).symm
    | ⟨5, _⟩ => rfl
  · rintro ⟨k, rfl⟩
    exact funext fun p => match p with
      | ⟨0, _⟩ => rfl | ⟨1, _⟩ => rfl | ⟨2, _⟩ => rfl | ⟨3, _⟩ => rfl | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (e : Fin n3) (f : Fin n4) :
    Ideal.hostReduceAdd h v z (ix5 a b c e f) = z + ∑ k : Fin n5, v (ix6 a b c e f k) :=
  congrArg (z + ·) (Finset.sum_filter_eq_sum_of_fiber _ _ (fun _ _ w => congrFun w 5) (drop_last h a b c e f) v)

theorem max_last {u : Shape} (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : u.Idx → EReal) (hu : 0 < u.numel)
    (a : Fin n0) (b : Fin n1) (c : Fin n2) (e : Fin n3) (f : Fin n4) :
    Host.reduce (FloatOps.maximumf (F := Ideal) (φ := .f32)) v z h hu (ix5 a b c e f) =
      (Finset.univ : Finset (Fin n5)).fold max (z (Shape.Idx.first hu)) (fun k => v (ix6 a b c e f k)) := by
  rw [show (FloatOps.maximumf (F := Ideal) (φ := .f32)) = (max : EReal → EReal → EReal) from rfl, Host.reduce_eq_fold]
  exact Finset.fold_filter_eq_fold_of_fiber max _ _ (fun _ _ w => congrFun w 5) (drop_last h a b c e f) _ v

/-- The first, second, fourth and fifth axes reduced. -/
theorem sum_0134 (h : (⟨6, ![n0, n1, n2, n3, n4, n5]⟩ : Shape).ReducesTo [0, 1, 3, 4] ⟨2, ![n2, n5]⟩)
    (v : (⟨6, ![n0, n1, n2, n3, n4, n5]⟩ : Shape).Idx → EReal) (z : EReal) (c : Fin n2) (k : Fin n5) :
    Ideal.hostReduceAdd h v z (ix2 c k) =
      z + ∑ a : Fin n0, ∑ b : Fin n1, ∑ e : Fin n3, ∑ f : Fin n4, v (ix6 a b c e f k) := by
  refine congrArg (z + ·) (Eq.trans (Finset.sum_filter_eq_sum_of_fiber _
    (fun q : Fin n0 × Fin n1 × Fin n3 × Fin n4 => ix6 q.1 q.2.1 c q.2.2.1 q.2.2.2 k) ?_ ?_ v) ?_)
  · exact fun _ _ w => Prod.ext (congrFun w 0) (Prod.ext (congrFun w 1) (Prod.ext (congrFun w 3) (congrFun w 4)))
  · intro x
    constructor
    · intro w
      have at' (p : Fin 2) := congrArg Fin.val (congrFun w p)
      refine ⟨(x 0, x 1, x 3, x 4), funext fun p => Fin.ext ?_⟩
      match p with
      | ⟨0, _⟩ => rfl
      | ⟨1, _⟩ => rfl
      | ⟨2, _⟩ => exact (at' 0).symm
      | ⟨3, _⟩ => rfl
      | ⟨4, _⟩ => rfl
      | ⟨5, _⟩ => exact (at' 1).symm
    · rintro ⟨q, rfl⟩
      exact funext fun p => match p with | ⟨0, _⟩ => rfl | ⟨1, _⟩ => rfl
  · simp only [Fintype.sum_prod_type]

/-- The first, second, fifth and sixth axes reduced. -/
theorem sum_0145 (h : (⟨6, ![n0, n1, n2, n3, n4, n5]⟩ : Shape).ReducesTo [0, 1, 4, 5] ⟨2, ![n2, n3]⟩)
    (v : (⟨6, ![n0, n1, n2, n3, n4, n5]⟩ : Shape).Idx → EReal) (z : EReal) (c : Fin n2) (e : Fin n3) :
    Ideal.hostReduceAdd h v z (ix2 c e) =
      z + ∑ a : Fin n0, ∑ b : Fin n1, ∑ f : Fin n4, ∑ k : Fin n5, v (ix6 a b c e f k) := by
  refine congrArg (z + ·) (Eq.trans (Finset.sum_filter_eq_sum_of_fiber _
    (fun q : Fin n0 × Fin n1 × Fin n4 × Fin n5 => ix6 q.1 q.2.1 c e q.2.2.1 q.2.2.2) ?_ ?_ v) ?_)
  · exact fun _ _ w => Prod.ext (congrFun w 0) (Prod.ext (congrFun w 1) (Prod.ext (congrFun w 4) (congrFun w 5)))
  · intro x
    constructor
    · intro w
      have at' (p : Fin 2) := congrArg Fin.val (congrFun w p)
      refine ⟨(x 0, x 1, x 4, x 5), funext fun p => Fin.ext ?_⟩
      match p with
      | ⟨0, _⟩ => rfl
      | ⟨1, _⟩ => rfl
      | ⟨2, _⟩ => exact (at' 0).symm
      | ⟨3, _⟩ => exact (at' 1).symm
      | ⟨4, _⟩ => rfl
      | ⟨5, _⟩ => rfl
    · rintro ⟨q, rfl⟩
      exact funext fun p => match p with | ⟨0, _⟩ => rfl | ⟨1, _⟩ => rfl
  · simp only [Fintype.sum_prod_type]

/-- The two middle axes of four reduced. -/
theorem sum_12 (h : (⟨4, ![n0, n1, n2, n3]⟩ : Shape).ReducesTo [1, 2] ⟨2, ![n0, n3]⟩)
    (v : (⟨4, ![n0, n1, n2, n3]⟩ : Shape).Idx → EReal) (z : EReal) (c : Fin n0) (e : Fin n3) :
    Ideal.hostReduceAdd h v z (ix2 c e) = z + ∑ a : Fin n1, ∑ b : Fin n2, v (ix4 c a b e) := by
  refine congrArg (z + ·) (Eq.trans (Finset.sum_filter_eq_sum_of_fiber _
    (fun q : Fin n1 × Fin n2 => ix4 c q.1 q.2 e) ?_ ?_ v) ?_)
  · exact fun _ _ w => Prod.ext (congrFun w 1) (congrFun w 2)
  · intro x
    constructor
    · intro w
      have at' (p : Fin 2) := congrArg Fin.val (congrFun w p)
      refine ⟨(x 1, x 2), funext fun p => Fin.ext ?_⟩
      match p with
      | ⟨0, _⟩ => exact (at' 0).symm
      | ⟨1, _⟩ => rfl
      | ⟨2, _⟩ => rfl
      | ⟨3, _⟩ => exact (at' 1).symm
    · rintro ⟨q, rfl⟩
      exact funext fun p => match p with | ⟨0, _⟩ => rfl | ⟨1, _⟩ => rfl
  · simp only [Fintype.sum_prod_type]

end Cert

end
-- ==== Proof.RefForward.lean ====
/-
  The reference's forward stages over real arguments: the numbers of `Args.wide`.
-/
module

public import proofs.«01_k».proof.Proof.Stages
public import proofs.«01_k».proof.Proof.Sums6
public import proofs.«01_k».proof.Proof.TileRead
public import proofs.«01_k».proof.Proof.Words

@[expose] public section

noncomputable section

namespace Cert.ReferenceIdeal.Ref

open Cert Cert.ReferenceIdeal Cert.ReferenceIdeal.Gen Idealize.ShloMosaic Idealize.ShloMosaic.TcCoe Idealize.SL.Sem Idealize.ShloMosaic.StableHlo

/-- The mean square of 64 reals, as the reference has it. -/
theorem msq_real (f : Fin 64 → EReal) (x : Fin 64 → ℝ) (h : ∀ d, f d = (x d : EReal)) :
    Ideal.div (∑ d, f d * f d) (Ideal.ofBits .f32 1115684864#32) + Ideal.ofBits .f32 897988541#32 =
      (((∑ d, x d * x d) / 64 + eps : ℝ) : EReal) := by
  simp only [h, ← EReal.coe_mul, sum_coe]
  rw [show Ideal.ofBits .f32 1115684864#32 = ((64 : ℝ) : EReal) from word_64,
    show Ideal.ofBits .f32 897988541#32 = (eps : EReal) from word_eps, div_real (by norm_num), ← EReal.coe_add]

theorem rms_real (x : Fin 64 → ℝ) : Ideal.rsqrt (((∑ d, x d * x d) / 64 + eps : ℝ) : EReal) = (rms x : EReal) :=
  rsqrt_real (msq_pos x)

variable (x0 : (⟨S8192x1024, .f32⟩ : BufTy).Contents (Elt Ideal)) (x1 : (⟨S8192x256, .f32⟩ : BufTy).Contents (Elt Ideal))
  (x2 : (⟨S8192x1024, .bf16⟩ : BufTy).Contents (Elt Ideal)) (x3 x4 : (⟨S64, .f32⟩ : BufTy).Contents (Elt Ideal))
  (x5 : (⟨S16, .f32⟩ : BufTy).Contents (Elt Ideal))

/-- The reference's arguments hold reals. -/
structure Holds (A : Args) : Prop where
  q : ∀ (r : Fin 8192) (k : Fin 1024), x0 (ix2 r k) = (A.q r k : EReal)
  kv : ∀ (r : Fin 8192) (k : Fin 256), x1 (ix2 r k) = (A.kv r k : EReal)
  d : ∀ (r : Fin 8192) (k : Fin 1024), x2 (ix2 r k) = (A.d r k : EReal)
  gq : ∀ d : Fin 64, x3 (ix1 d) = (A.gq d : EReal)
  gk : ∀ d : Fin 64, x4 (ix1 d) = (A.gk d : EReal)
  s : ∀ h : Fin 16, x5 (ix1 h) = (A.s h : EReal)

variable {x0 x1 x2 x3 x4 x5} {A : Args} (H : Holds x0 x1 x2 x3 x4 x5 A)
variable (b : Fin 4) (n : Fin 16) (i : Fin 128) (kh : Fin 2) (g : Fin 8) (d : Fin 64) (j : Fin 256) (z : Fin 1)

/-- The distance of a key behind a query, as a word. -/
theorem dist_word : dist (F := Ideal) (ix2 i j) = BitVec.ofNat 32 (i + 128) - BitVec.ofNat 32 j := by
  pointwise [dist, keyIx]
  rw [show IntOp.addi (BitVec.ofNat 32 i) 128#32 = BitVec.ofNat 32 (i + 128) from ofNat_add32 i 128]
  rfl

theorem cmpi_sge_zero (a b : ℕ) (ha : a < 2 ^ 20) (hb : b < 2 ^ 20) :
    IntOp.cmpi .sge (BitVec.ofNat 32 a - BitVec.ofNat 32 b) 0#32 = if b ≤ a then 1#1 else 0#1 := by
  simp only [IntOp.cmpi, BitVec.sle, toInt_sub_small a b ha hb, BitVec.toInt_zero]
  by_cases h : b ≤ a
  · simp [h]
  · simp [h]

theorem cmpi_slt_128 (a b : ℕ) (ha : a < 2 ^ 20) (hb : b < 2 ^ 20) :
    IntOp.cmpi .slt (BitVec.ofNat 32 a - BitVec.ofNat 32 b) 128#32 = if a < b + 128 then 1#1 else 0#1 := by
  simp only [IntOp.cmpi, BitVec.slt, toInt_sub_small a b ha hb]
  rw [show (128#32).toInt = 128 from rfl]
  by_cases h : a < b + 128
  · simp [h, show (a : ℤ) - b < 128 by omega]
  · simp [h, show ¬(a : ℤ) - b < 128 by omega]

/-- Whether a query sees a key. -/
abbrev Seen : Prop := i.val < j.val ∧ j.val ≤ i.val + 128 ∧ ¬(n.val = 0 ∧ j.val < 128)

theorem valid_word : valid (F := Ideal) (ix6 b n kh g i j) = if Seen n i j then 1#1 else 0#1 := by
  have e : IntOp.addi (IntOp.subi (IntOp.muli (BitVec.ofNat 32 n) 128#32) 128#32) (BitVec.ofNat 32 j) =
      BitVec.ofNat 32 (n * 128 + j) - BitVec.ofNat 32 128 := by
    rw [BitVec.ofNat_add, BitVec.ofNat_mul]
    show _ * 128#32 - 128#32 + _ = _ * 128#32 + _ - 128#32
    rw [BitVec.sub_eq_add_neg, BitVec.sub_eq_add_neg, BitVec.add_assoc, BitVec.add_assoc, BitVec.add_comm (-128#32)]
  pointwise [valid, keyIx]
  rw [dist_word, e, cmpi_sge_zero _ _ (by omega) (by omega), cmpi_sge_zero _ _ (by omega) (by omega),
    cmpi_slt_128 _ _ (by omega) (by omega)]
  by_cases h1 : j.val ≤ i.val + 128 <;> by_cases h2 : i.val < j.val <;> by_cases h3 : 128 ≤ n.val * 128 + j.val <;>
    simp [Seen, h1, h2, h3, IntOp.andi, show (i.val + 128 < j.val + 128) = (i.val < j.val) by simp] <;> omega

/-! ## The maximum, read apart from what it is taken of -/

theorem max_read (t : S4x16x2x8x128x1.Idx → Ideal .f32) (u : S1x1x2x8x1x1.Idx → Ideal .f32) :
    maximumf t (broadcastInDim S4x16x2x8x128x1 ![0, 1, 2, 3, 4, 5] bcast_S1x1x2x8x1x1_S4x16x2x8x128x1_0_1_2_3_4_5 u)
      (ix6 b n kh g i z) = max (t (ix6 b n kh g i z)) (u (ix6 0 0 kh g 0 0)) := by
  pointwise

theorem col_read (t : S4x16x2x8x128.Idx → Ideal .f32) :
    broadcastInDim S4x16x2x8x128x1 ![0, 1, 2, 3, 4] bcast_S4x16x2x8x128_S4x16x2x8x128x1_0_1_2_3_4 t (ix6 b n kh g i z) =
      t (ix5 b n kh g i) := by
  pointwise

theorem top_read (t : S4x16x2x8x128x256.Idx → Ideal .f32) (u : S_.Idx → Ideal .f32) :
    Host.reduce FloatOps.maximumf t u reducesTo_S4x16x2x8x128x256_S4x16x2x8x128_d5 h_S_ (ix5 b n kh g i) =
      (Finset.univ : Finset (Fin 256)).fold max (u (Shape.Idx.first h_S_)) (fun j => t (ix6 b n kh g i j)) :=
  max_last reducesTo_S4x16x2x8x128x256_S4x16x2x8x128_d5 t u h_S_ b n kh g i

theorem sinkCol_apply (o p q r : Fin 1) : sinkCol x5 (ix6 o p kh g q r) = x5 (ix1 ⟨kh * 8 + g, by omega⟩) := by
  pointwise [sinkCol, sink]

theorem shift_apply : shift x0 x1 x3 x4 x5 (ix6 b n kh g i z) =
    max ((Finset.univ : Finset (Fin 256)).fold max (Ideal.ofBits .f32 0xFF800000#32)
      (fun j => score x0 x1 x3 x4 (ix6 b n kh g i j))) (x5 (ix1 ⟨kh * 8 + g, by omega⟩)) :=
  (max_read b n i kh g z (topCol x0 x1 x3 x4) (sinkCol x5)).trans (congrArg₂ max
    ((col_read b n i kh g z (top x0 x1 x3 x4)).trans
      (top_read b n i kh g (score x0 x1 x3 x4) (constant S_ .f32 0xFF800000#32)))
    (sinkCol_apply kh g 0 0 0 0))

theorem zero_word : (FloatOps.sitofp .f32 0#32 : Ideal .f32) = ((0 : ℝ) : EReal) := by
  rw [sitofp_real]; simp

include H

theorem vWin_real : vWin x1 (ix5 b n j kh d) = ((A.wide b n (kh * 8 + g) i).V j d : EReal) := by
  have e : (kh.val * 8 + g.val) / 8 = kh.val := by omega
  pointwise [vWin, vRows]
  simp only [H.kv, Args.wide, Args.val, e, zero_word]
  split_ifs <;> first | omega | rfl | (congr 2 <;> omega)

theorem kWin_real : kWin x1 x4 (ix5 b n j kh d) = ((A.wide b n (kh * 8 + g) i).K j d : EReal) := by
  have e : (kh.val * 8 + g.val) / 8 = kh.val := by omega
  have rd (r : ℕ) (hr : r < 8192) :
      (A.kv r (kh * 64 + d) : EReal) * Ideal.rsqrt (Ideal.div (∑ x : Fin 64, (A.kv r (kh * 64 + x) : EReal) * (A.kv r (kh * 64 + x) : EReal))
        (Ideal.ofBits .f32 1115684864#32) + Ideal.ofBits .f32 897988541#32) * (A.gk d : EReal) = (A.key r kh d : EReal) := by
    rw [msq_real _ (fun x => A.kv r (kh * 64 + x)) (fun _ => rfl), rms_real, ← EReal.coe_mul, ← EReal.coe_mul, Args.key]
  pointwise [kWin, kNorm, kRows]
  simp only [H.kv, H.gk, Args.wide, e, zero_word]
  split_ifs
  all_goals first
    | omega
    | rfl
    | (refine (rd _ (by omega)).trans ?_
       congr 2
       omega)

theorem qUnit_real : qUnit x0 (ix6 b n i kh g d) = ((A.wide b n (kh * 8 + g) i).y d : EReal) := by
  pointwise [qUnit, qRms, qVar, qRows, sum_last]
  simp only [H.q]
  rw [msq_real _ (A.wide b n (kh * 8 + g) i).q ?_, rms_real, Lane.y, EReal.coe_mul]
  · congr 2
    simp only [Args.wide]
    congr 1 <;> omega
  · intro x
    simp only [Args.wide]
    congr 2 <;> omega

theorem qNorm_real : qNorm x0 x3 (ix6 b n i kh g d) =
    ((A.wide b n (kh * 8 + g) i).y d * A.gq d : ℝ) := by
  pointwise [qNorm, gain]
  rw [qUnit_real H, H.gq, ← EReal.coe_mul]

theorem score_real : score x0 x1 x3 x4 (ix6 b n kh g i j) =
    if Seen n i j then ((A.wide b n (kh * 8 + g) i).L j : EReal) else ⊥ := by
  pointwise [score]
  rw [slope_real (kh * 8 + g) _ ?_, valid_word, dist_word]
  · simp only [kWin_real H b n i kh g, qNorm_real H, ← EReal.coe_mul, sum_coe]
    rw [sitofp_real, toInt_sub_small _ _ (by omega) (by omega),
      show Ideal.ofBits .f32 1040187392#32 = ((1 / 8 : ℝ) : EReal) from word_eighth, ← EReal.coe_mul, ← EReal.coe_neg,
      ← EReal.coe_mul, ← EReal.coe_add]
    split_ifs with h
    · refine congrArg Real.toEReal ?_
      rw [Lane.L, Finset.sum_mul]
      congr 1
      · exact Finset.sum_congr rfl fun x _ => by rw [Lane.h]; simp only [Args.wide]; ring
      · simp only [Args.wide]; push_cast; ring
    · exact word_bot
  · rw [sitofp_real, toInt_small _ (by omega)]
    push_cast
    rw [add_comm]

/-- What is taken off the scores is real. -/
theorem exists_shift : ∃ M : ℝ, ∀ z : Fin 1, shift x0 x1 x3 x4 x5 (ix6 b n kh g i z) = (M : EReal) := by
  obtain ⟨M, hM⟩ := exists_max_real (Finset.univ : Finset (Fin 256)) (fun j => score x0 x1 x3 x4 (ix6 b n kh g i j))
    (fun j => by
      rw [score_real H]
      split_ifs
      · exact EReal.coe_ne_top _
      · exact bot_ne_top) (A.s (kh * 8 + g))
  refine ⟨M, fun z => ?_⟩
  rw [shift_apply, H.s, word_bot]
  exact hM

variable {M : ℝ} (hM : ∀ z : Fin 1, shift x0 x1 x3 x4 x5 (ix6 b n kh g i z) = (M : EReal))

include hM

theorem expS_real : expS x0 x1 x3 x4 x5 (ix6 b n kh g i j) = ((A.wide b n (kh * 8 + g) i).E M j : EReal) := by
  pointwise [expS]
  rw [hM, score_real H, Lane.E]
  split_ifs with h
  · rw [← EReal.coe_sub, Ideal.exp_coe]
    simp only [Args.wide]
    rw [if_pos h, one_mul]
  · simp only [Args.wide]
    rw [if_neg h, zero_mul, EReal.bot_sub]
    exact Ideal.exp_bot

theorem expSink_real : expSink x0 x1 x3 x4 x5 (ix6 b n kh g i z) = (Real.exp (A.s (kh * 8 + g) - M) : EReal) := by
  pointwise [expSink, sink]
  rw [hM, H.s, ← EReal.coe_sub, Ideal.exp_coe]

theorem denom_real : denom x0 x1 x3 x4 x5 (ix6 b n kh g i z) = ((A.wide b n (kh * 8 + g) i).Z M : EReal) := by
  pointwise [denom, sum_last]
  simp only [expS_real H b n i kh g _ hM, expSink_real H b n i kh g z hM, sum_coe]
  rw [← EReal.coe_add]
  rfl

end Cert.ReferenceIdeal.Ref

end
-- ==== Proof.RefBackward.lean ====
/-
  The reference's backward stages over real arguments: the numbers of `Args.wide`.
-/
module

public import proofs.«01_k».proof.Proof.RefForward

@[expose] public section

noncomputable section

namespace Cert.ReferenceIdeal.Ref

open Cert Cert.ReferenceIdeal Cert.ReferenceIdeal.Gen Idealize.ShloMosaic Idealize.ShloMosaic.TcCoe Idealize.SL.Sem Idealize.ShloMosaic.StableHlo

variable {x0 : (⟨S8192x1024, .f32⟩ : BufTy).Contents (Elt Ideal)} {x1 : (⟨S8192x256, .f32⟩ : BufTy).Contents (Elt Ideal)}
  {x2 : (⟨S8192x1024, .bf16⟩ : BufTy).Contents (Elt Ideal)} {x3 x4 : (⟨S64, .f32⟩ : BufTy).Contents (Elt Ideal)}
  {x5 : (⟨S16, .f32⟩ : BufTy).Contents (Elt Ideal)}
variable {A : Args} (H : Holds x0 x1 x2 x3 x4 x5 A)
variable (b : Fin 4) (n : Fin 16) (i : Fin 128) (kh : Fin 2) (g : Fin 8) (d : Fin 64) (j : Fin 256) (z : Fin 1)

theorem wide_w (h : ℕ) : 0 ≤ (A.wide b n h i).w j := by
  simp only [Args.wide]
  split_ifs <;> norm_num

include H

theorem prob_real : prob x0 x1 x3 x4 x5 (ix6 b n kh g i j) = ((A.wide b n (kh * 8 + g) i).P j : EReal) := by
  obtain ⟨M, hM⟩ := exists_shift H b n i kh g
  have e : prob x0 x1 x3 x4 x5 (ix6 b n kh g i j) =
      Ideal.div (expS x0 x1 x3 x4 x5 (ix6 b n kh g i j)) (denom x0 x1 x3 x4 x5 (ix6 b n kh g i 0)) := by
    pointwise [prob]
  rw [e, expS_real H b n i kh g j hM, denom_real H b n i kh g 0 hM,
    div_real (Lane.Z_pos _ (fun k => wide_w b n i k _) M).ne', ← Lane.P_eq _ M, mul_one_div]

theorem dProb_real : dProb x1 x2 (ix6 b n kh g i j) = ((A.wide b n (kh * 8 + g) i).dP j : EReal) := by
  pointwise [dProb, cot]
  simp only [vWin_real H b n i kh g, H.d, ← EReal.coe_mul, sum_coe]
  refine congrArg Real.toEReal ?_
  rw [Lane.dP]
  refine Finset.sum_congr rfl fun x _ => ?_
  rw [mul_comm]
  congr 1
  simp only [Args.wide]
  congr 1 <;> omega

theorem dVal_real : dVal x0 x1 x2 x3 x4 x5 (ix5 b n j kh d) =
    ((∑ g : Fin 8, ∑ i : Fin 128, (A.wide b n (kh * 8 + g) i).P j * (A.wide b n (kh * 8 + g) i).d d : ℝ) : EReal) := by
  pointwise [dVal, cot]
  simp only [prob_real H, H.d, ← EReal.coe_mul, sum_coe]
  refine congrArg Real.toEReal (Finset.sum_congr rfl fun g _ => Finset.sum_congr rfl fun i _ => ?_)
  rw [mul_comm]
  congr 1
  simp only [Args.wide]
  congr 1 <;> omega

variable {M : ℝ} (hM : ∀ z : Fin 1, shift x0 x1 x3 x4 x5 (ix6 b n kh g i z) = (M : EReal))

include hM in
theorem dDenom_real : dDenom x0 x1 x2 x3 x4 x5 (ix6 b n kh g i z) =
    ((-((A.wide b n (kh * 8 + g) i).δ / (A.wide b n (kh * 8 + g) i).Z M) : ℝ) : EReal) := by
  have hZ := (Lane.Z_pos (A.wide b n (kh * 8 + g) i) (fun k => wide_w b n i k _) M).ne'
  pointwise [dDenom, sum_last]
  simp only [dProb_real H, expS_real H b n i kh g _ hM, denom_real H b n i kh g _ hM]
  rw [← EReal.coe_mul, show (1 : EReal) = ((1 : ℝ) : EReal) from rfl, div_real (mul_ne_zero hZ hZ)]
  simp only [← EReal.coe_mul, sum_coe, ← EReal.coe_neg]
  refine congrArg Real.toEReal (congrArg Neg.neg ?_)
  rw [Lane.δ, Finset.sum_div]
  refine Finset.sum_congr rfl fun k _ => ?_
  rw [← Lane.P_eq _ M]
  field_simp

theorem dScore_real : dScore x0 x1 x2 x3 x4 x5 (ix6 b n kh j i g) =
    (((A.wide b n (kh * 8 + g) i).DS j * (1 / 8) : ℝ) : EReal) := by
  obtain ⟨M, hM⟩ := exists_shift H b n i kh g
  have hZ := (Lane.Z_pos (A.wide b n (kh * 8 + g) i) (fun k => wide_w b n i k _) M).ne'
  pointwise [dScore, sum_last]
  rw [valid_word]
  simp only [dProb_real H, expS_real H b n i kh g _ hM, denom_real H b n i kh g _ hM, dDenom_real H b n i kh g _ hM,
    sum_coe]
  rw [div_real hZ, show Ideal.ofBits .f32 1040187392#32 = ((1 / 8 : ℝ) : EReal) from word_eighth, ← EReal.coe_add,
    ← EReal.coe_mul, ← EReal.coe_mul]
  split_ifs with h
  · refine congrArg Real.toEReal ?_
    rw [Lane.DS, ← Lane.P_eq _ M]
    simp only [Finset.univ_unique, Finset.sum_const, Finset.card_singleton, one_smul]
    field_simp
    ring
  · refine congrArg Real.toEReal ?_
    rw [Lane.DS, Lane.P, Lane.E]
    simp only [Args.wide]
    rw [if_neg h]
    simp

theorem dqNorm_real : dqNorm x0 x1 x2 x3 x4 x5 (ix6 b n i kh g d) = ((A.wide b n (kh * 8 + g) i).dh d : EReal) := by
  pointwise [dqNorm]
  simp only [dScore_real H, kWin_real H b n i kh g, ← EReal.coe_mul, sum_coe]
  refine congrArg Real.toEReal ?_
  rw [Lane.dh, Finset.sum_mul]
  exact Finset.sum_congr rfl fun x _ => by ring

theorem dKey_real : dKey x0 x1 x2 x3 x4 x5 (ix5 b n j kh d) =
    ((∑ g : Fin 8, ∑ i : Fin 128, (A.wide b n (kh * 8 + g) i).DS j * (A.wide b n (kh * 8 + g) i).h d : ℝ) : EReal) := by
  pointwise [dKey]
  simp only [dScore_real H, qNorm_real H, ← EReal.coe_mul, sum_coe]
  rw [Finset.sum_comm]
  refine congrArg Real.toEReal (Finset.sum_congr rfl fun g _ => Finset.sum_congr rfl fun i _ => ?_)
  rw [Lane.h]
  simp only [Args.wide]
  ring

end Cert.ReferenceIdeal.Ref

end
-- ==== Proof.RefResults.lean ====
/-
  The reference's five results over real arguments.
-/
module

public import proofs.«01_k».proof.Proof.RefBackward

@[expose] public section

noncomputable section

namespace Cert.ReferenceIdeal.Ref

open Cert Cert.ReferenceIdeal Cert.ReferenceIdeal.Gen Idealize.ShloMosaic Idealize.ShloMosaic.TcCoe Idealize.SL.Sem Idealize.ShloMosaic.StableHlo

variable {x0 : (⟨S8192x1024, .f32⟩ : BufTy).Contents (Elt Ideal)} {x1 : (⟨S8192x256, .f32⟩ : BufTy).Contents (Elt Ideal)}
  {x2 : (⟨S8192x1024, .bf16⟩ : BufTy).Contents (Elt Ideal)} {x3 x4 : (⟨S64, .f32⟩ : BufTy).Contents (Elt Ideal)}
  {x5 : (⟨S16, .f32⟩ : BufTy).Contents (Elt Ideal)}
variable {A : Args}

/-! ## Sums over the two blocks' keys against sums over places -/

section Places

variable (A) (b n h i : ℕ) (hi : i < 128) (k : Fin 128)

include hi

theorem wide_P_cur : (A.wide b n h i).P ⟨128 + k, by omega⟩ = if i < k.val then 0 else (A.lane b n h i).P k := by
  split_ifs with hk
  · rw [Lane.P, Lane.E]
    simp only [Args.wide]
    rw [if_neg (by omega), zero_mul, zero_div]
  · rw [(A.fold b n h i hi).P]
    simp only [Args.place, if_neg hk]

theorem wide_P_prev : (A.wide b n h i).P ⟨k, by omega⟩ = if i < k.val then (A.lane b n h i).P k else 0 := by
  split_ifs with hk
  · rw [(A.fold b n h i hi).P]
    simp only [Args.place, if_pos hk]
  · rw [Lane.P, Lane.E]
    simp only [Args.wide]
    rw [if_neg (by omega), zero_mul, zero_div]

theorem wide_DS_cur : (A.wide b n h i).DS ⟨128 + k, by omega⟩ = if i < k.val then 0 else (A.lane b n h i).DS k := by
  split_ifs with hk
  · rw [Lane.DS, wide_P_cur A b n h i hi, if_pos hk, zero_mul]
  · rw [(A.fold b n h i hi).DS]
    simp only [Args.place, if_neg hk]

theorem wide_DS_prev : (A.wide b n h i).DS ⟨k, by omega⟩ = if i < k.val then (A.lane b n h i).DS k else 0 := by
  split_ifs with hk
  · rw [(A.fold b n h i hi).DS]
    simp only [Args.place, if_pos hk]
  · rw [Lane.DS, wide_P_prev A b n h i hi, if_neg hk, zero_mul]

end Places

variable (H : Holds x0 x1 x2 x3 x4 x5 A)
variable (b : Fin 4) (n : Fin 16) (i : Fin 128) (kh : Fin 2) (g : Fin 8) (d : Fin 64) (k : Fin 128) (z : Fin 1)

theorem word_neg_half : Ideal.ofBits .f32 3204448256#32 = ((-(1 / 2) : ℝ) : EReal) := by
  simp [Ideal.ofBits, Ideal.ieee, -EReal.coe_mul]; norm_num

/-- The gradient through the scaling to unit mean square, as the reference spells it, is `Lane.dq`. -/
theorem dq_spelled {ι : Type} [Fintype ι] (a : Lane ι) (d : Fin 64) :
    a.dy d * rms a.q + a.q d * ((∑ x, a.q x * a.dy x) * (-(1 / 2) * (rms a.q / ((∑ x, a.q x * a.q x) / 64 + eps))) / 64) +
      ((∑ x, a.q x * a.dy x) * (-(1 / 2) * (rms a.q / ((∑ x, a.q x * a.q x) / 64 + eps))) / 64) * a.q d = a.dq d := by
  have hv := msq_pos a.q
  have e : rms a.q / ((∑ x, a.q x * a.q x) / 64 + eps) = rms a.q * rms a.q * rms a.q := by
    rw [div_eq_mul_inv, ← Real.mul_self_sqrt hv.le, mul_inv]
    simp only [rms]
    ring
  have s : ∑ x, a.dy x * a.y x = (∑ x, a.q x * a.dy x) * rms a.q := by
    rw [Finset.sum_mul]
    exact Finset.sum_congr rfl fun x _ => by rw [Lane.y]; ring
  rw [e, Lane.dq, s, Lane.y]
  ring

include H

theorem qRows_real : qRows x0 (ix6 b n i kh g d) = ((A.wide b n (kh * 8 + g) i).q d : EReal) := by
  pointwise [qRows]
  rw [H.q]
  simp only [Args.wide]
  congr 2 <;> omega

theorem qVar_real : qVar x0 (ix6 b n i kh g z) =
    (((∑ d, (A.wide b n (kh * 8 + g) i).q d * (A.wide b n (kh * 8 + g) i).q d) / 64 + eps : ℝ) : EReal) := by
  pointwise [qVar, sum_last]
  exact msq_real _ _ fun d => qRows_real H b n i kh g d

theorem dqUnit_real : dqUnit x0 x1 x2 x3 x4 x5 (ix6 b n i kh g d) = ((A.wide b n (kh * 8 + g) i).dy d : EReal) := by
  pointwise [dqUnit, gain]
  rw [dqNorm_real H, H.gq, ← EReal.coe_mul]
  rfl

theorem dVar_real : dVar x0 x1 x2 x3 x4 x5 (ix6 b n i kh g d) =
    (((∑ x, (A.wide b n (kh * 8 + g) i).q x * (A.wide b n (kh * 8 + g) i).dy x) * (-(1 / 2) *
      (rms (A.wide b n (kh * 8 + g) i).q / ((∑ x, (A.wide b n (kh * 8 + g) i).q x * (A.wide b n (kh * 8 + g) i).q x) / 64 + eps))) / 64 : ℝ)
        : EReal) := by
  pointwise [dVar, qRms, sum_last]
  simp only [qRows_real H, dqUnit_real H, qVar_real H, rms_real, ← EReal.coe_mul, sum_coe]
  rw [div_real (msq_pos _).ne', word_neg_half, ← EReal.coe_mul, ← EReal.coe_mul,
    show Ideal.ofBits .f32 1115684864#32 = ((64 : ℝ) : EReal) from word_64, div_real (by norm_num)]
  simp only [Finset.univ_unique, Finset.sum_const, Finset.card_singleton, one_smul]

theorem dQ_real : dQ x0 x1 x2 x3 x4 x5 = fun i => (A.dq (i 0).val (i 1).val : EReal) := by
  funext i
  obtain ⟨r, c, rfl⟩ : ∃ r c, i = ix2 r c := ⟨_, _, eq_ix2 i⟩
  show _ = (A.dq r.val c.val : EReal)
  pointwise [dQ, qRms]
  rw [dqUnit_real H, qVar_real H, qRows_real H, dVar_real H, rms_real]
  simp only [← EReal.coe_mul, ← EReal.coe_add]
  rw [dq_spelled, Args.dq, (A.fold _ _ _ _ (Nat.mod_lt _ (by decide))).dq]
  show ((A.wide (r / 2048) (r / 128 % 16) (c / 512 * 8 + c / 64 % 8) (r % 128)).dq _ : EReal) = _
  rw [show c.val / 512 * 8 + c.val / 64 % 8 = c.val / 64 by omega]

theorem dKey_cur : dKey x0 x1 x2 x3 x4 x5 (ix5 b n ⟨128 + k, by omega⟩ kh d) = (A.dkc b n kh k d : EReal) := by
  rw [dKey_real H, Args.dkc]
  refine congrArg Real.toEReal (Finset.sum_congr rfl fun g _ => Finset.sum_congr rfl fun i _ => ?_)
  rw [wide_DS_cur A _ _ _ _ i.isLt, (A.fold _ _ _ _ i.isLt).h]

theorem dKey_prev : dKey x0 x1 x2 x3 x4 x5 (ix5 b n ⟨k, by omega⟩ kh d) = (A.dkp b n kh k d : EReal) := by
  rw [dKey_real H, Args.dkp]
  refine congrArg Real.toEReal (Finset.sum_congr rfl fun g _ => Finset.sum_congr rfl fun i _ => ?_)
  rw [wide_DS_prev A _ _ _ _ i.isLt, (A.fold _ _ _ _ i.isLt).h]

theorem dVal_cur : dVal x0 x1 x2 x3 x4 x5 (ix5 b n ⟨128 + k, by omega⟩ kh d) = (A.dvc b n kh k d : EReal) := by
  rw [dVal_real H, Args.dvc]
  refine congrArg Real.toEReal (Finset.sum_congr rfl fun g _ => Finset.sum_congr rfl fun i _ => ?_)
  rw [wide_P_cur A _ _ _ _ i.isLt, (A.fold _ _ _ _ i.isLt).d]

theorem dVal_prev : dVal x0 x1 x2 x3 x4 x5 (ix5 b n ⟨k, by omega⟩ kh d) = (A.dvp b n kh k d : EReal) := by
  rw [dVal_real H, Args.dvp]
  refine congrArg Real.toEReal (Finset.sum_congr rfl fun g _ => Finset.sum_congr rfl fun i _ => ?_)
  rw [wide_P_prev A _ _ _ _ i.isLt, (A.fold _ _ _ _ i.isLt).d]

theorem dCur_real : dCur x0 x1 x2 x3 x4 x5 = fun i => (A.dcur (i 0).val (i 1).val : EReal) := by
  funext i
  obtain ⟨r, c, rfl⟩ : ∃ r c, i = ix2 r c := ⟨_, _, eq_ix2 i⟩
  show _ = (A.dcur r.val c.val : EReal)
  pointwise [dCur]
  rw [Args.dcur]
  split_ifs with h
  · exact dKey_cur H ⟨r / 2048, by omega⟩ ⟨r / 128 % 16, by omega⟩ ⟨c / 64, by omega⟩ ⟨c % 64, by omega⟩ ⟨r % 128, by omega⟩
  all_goals
    refine (dVal_cur H ⟨r / 2048, by omega⟩ ⟨r / 128 % 16, by omega⟩ ⟨(c - 128) / 64, by omega⟩ ⟨(c - 128) % 64, by omega⟩
      ⟨r % 128, by omega⟩).trans ?_
    congr 2
    exact Fin.ext (by simp only; omega)

theorem dPrev_real : dPrev x0 x1 x2 x3 x4 x5 = fun i => (A.dprev (i 0).val (i 1).val : EReal) := by
  funext i
  obtain ⟨r, c, rfl⟩ : ∃ r c, i = ix2 r c := ⟨_, _, eq_ix2 i⟩
  show _ = (A.dprev r.val c.val : EReal)
  pointwise [dPrev]
  rw [Args.dprev]
  split_ifs with h
  · exact dKey_prev H ⟨r / 2048, by omega⟩ ⟨r / 128 % 16, by omega⟩ ⟨c / 64, by omega⟩ ⟨c % 64, by omega⟩ ⟨r % 128, by omega⟩
  all_goals
    refine (dVal_prev H ⟨r / 2048, by omega⟩ ⟨r / 128 % 16, by omega⟩ ⟨(c - 128) / 64, by omega⟩ ⟨(c - 128) % 64, by omega⟩
      ⟨r % 128, by omega⟩).trans ?_
    congr 2
    exact Fin.ext (by simp only; omega)

theorem dGain_real : dGain x0 x1 x2 x3 x4 x5 = fun i => (A.dg (i 0) (i 1).val : EReal) := by
  funext i
  obtain ⟨d, k, rfl⟩ : ∃ d k, i = ix2 d k := ⟨_, _, eq_ix2 i⟩
  show _ = (A.dg d k.val : EReal)
  pointwise [dGain, sum_0134, sum_12]
  simp only [qUnit_real H, dqNorm_real H, ← EReal.coe_mul, sum_coe]
  simp only [Finset.univ_unique, Finset.sum_const, Finset.card_singleton, one_smul]
  rw [Args.dg]
  refine congrArg Real.toEReal (Finset.sum_congr rfl fun b _ => Finset.sum_congr rfl fun n _ => ?_)
  rw [Fin.sum_univ_tiles 2 8 rfl]
  refine Finset.sum_congr rfl fun kh _ => Finset.sum_congr rfl fun g _ => ?_
  rw [(A.fold _ _ _ _ k.isLt).dg, Lane.dg, mul_comm]

theorem dSink_real : dSink x0 x1 x2 x3 x4 x5 =
    fun i => ((if (i 0).val = 0 ∧ (i 1).val < 16 then A.dsink (i 1).val else 0 : ℝ) : EReal) := by
  funext i
  obtain ⟨p, e, rfl⟩ : ∃ p e, i = ix2 p e := ⟨_, _, eq_ix2 i⟩
  show _ = ((if p.val = 0 ∧ e.val < 16 then A.dsink e.val else 0 : ℝ) : EReal)
  have term (b : Fin 4) (n : Fin 16) (i : Fin 128) (kh : Fin 2) (g : Fin 8) (z : Fin 1) :
      dDenom x0 x1 x2 x3 x4 x5 (ix6 b n kh g i z) * expSink x0 x1 x3 x4 x5 (ix6 b n kh g i z) =
        ((A.lane b n (kh * 8 + g) i).dsink : EReal) := by
    obtain ⟨M, hM⟩ := exists_shift H b n i kh g
    rw [dDenom_real H b n i kh g z hM, expSink_real H b n i kh g z hM, ← EReal.coe_mul,
      (A.fold _ _ _ _ i.isLt).dsink, Lane.dsink, ← Lane.PS_eq _ M]
    refine congrArg Real.toEReal ?_
    simp only [Args.wide]
    ring
  pointwise [dSink, sum_0145]
  simp only [term, sum_coe, zero_word]
  simp only [Finset.univ_unique, Finset.sum_const, Finset.card_singleton, one_smul]
  by_cases h : p.val = 0 ∧ e.val < 16
  · rw [dif_pos (by omega), if_pos h, Args.dsink]
    simp only [show e.val / 8 * 8 + e.val % 8 = e.val by omega]
  · rw [dif_neg (by omega), if_neg h]

end Cert.ReferenceIdeal.Ref

end
-- ==== Proof.Links.lean ====
/-
  The terms that the reference's run states are the stages.
-/
module

public import proofs.«01_k».proof.Proof.Gen.ReferenceIdeal.Run
public import proofs.«01_k».proof.Proof.Stages

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem vRows_eq : Value.res_main_v3 V0 = vRows (F := F) (V0 (Proc.devRef .tc main_arg1)) := rfl

theorem vWin_eq : Value.res_main_v6 V0 = vWin (F := F) (V0 (Proc.devRef .tc main_arg1)) := rfl

theorem kRows_eq : Value.res_main_v8 V0 = kRows (F := F) (V0 (Proc.devRef .tc main_arg1)) := rfl

theorem kNorm_eq : Value.res_main_v23 V0 = kNorm (F := F) (V0 (Proc.devRef .tc main_arg1)) (V0 (Proc.devRef .tc main_arg4)) := rfl

theorem kWin_eq : Value.res_main_v26 V0 = kWin (F := F) (V0 (Proc.devRef .tc main_arg1)) (V0 (Proc.devRef .tc main_arg4)) := rfl

theorem qRows_eq : Value.res_main_v30 V0 = qRows (F := F) (V0 (Proc.devRef .tc main_arg0)) := rfl

theorem qVar_eq : Value.res_main_v38 V0 = qVar (F := F) (V0 (Proc.devRef .tc main_arg0)) := rfl

theorem qRms_eq : Value.res_main_v39 V0 = qRms (F := F) (V0 (Proc.devRef .tc main_arg0)) := rfl

theorem qUnit_eq : Value.res_main_v44 V0 = qUnit (F := F) (V0 (Proc.devRef .tc main_arg0)) := rfl

theorem gain_eq : Value.res_main_v45 V0 = gain (F := F) (V0 (Proc.devRef .tc main_arg3)) := rfl

theorem qNorm_eq : Value.res_main_v47 V0 = qNorm (F := F) (V0 (Proc.devRef .tc main_arg0)) (V0 (Proc.devRef .tc main_arg3)) := rfl

theorem keyIx_eq : Value.res_main_v55 V0 = keyIx (F := F) := rfl

theorem dist_eq : Value.res_main_v60 V0 = dist (F := F) := rfl

theorem valid_eq : Value.res_main_v103_1 V0 = valid (F := F) := rfl

theorem score_eq : Value.res_main_v103_0 V0 = score (F := F) (V0 (Proc.devRef .tc main_arg0)) (V0 (Proc.devRef .tc main_arg1)) (V0 (Proc.devRef .tc main_arg3)) (V0 (Proc.devRef .tc main_arg4)) := rfl

theorem sink_eq : Value.res_main_v104 V0 = sink (F := F) (V0 (Proc.devRef .tc main_arg5)) := rfl

theorem top_eq : Value.res_main_v105 V0 = top (F := F) (V0 (Proc.devRef .tc main_arg0)) (V0 (Proc.devRef .tc main_arg1)) (V0 (Proc.devRef .tc main_arg3)) (V0 (Proc.devRef .tc main_arg4)) := rfl

theorem topCol_eq : Value.res_main_v111 V0 = topCol (F := F) (V0 (Proc.devRef .tc main_arg0)) (V0 (Proc.devRef .tc main_arg1)) (V0 (Proc.devRef .tc main_arg3)) (V0 (Proc.devRef .tc main_arg4)) := rfl

theorem sinkCol_eq : Value.res_main_v112 V0 = sinkCol (F := F) (V0 (Proc.devRef .tc main_arg5)) := rfl

theorem shift_eq : Value.res_main_v114 V0 = shift (F := F) (V0 (Proc.devRef .tc main_arg0)) (V0 (Proc.devRef .tc main_arg1)) (V0 (Proc.devRef .tc main_arg3)) (V0 (Proc.devRef .tc main_arg4)) (V0 (Proc.devRef .tc main_arg5)) := rfl

theorem expS_eq : Value.res_main_v135 V0 = expS (F := F) (V0 (Proc.devRef .tc main_arg0)) (V0 (Proc.devRef .tc main_arg1)) (V0 (Proc.devRef .tc main_arg3)) (V0 (Proc.devRef .tc main_arg4)) (V0 (Proc.devRef .tc main_arg5)) := rfl

theorem expSink_eq : Value.res_main_v141 V0 = expSink (F := F) (V0 (Proc.devRef .tc main_arg0)) (V0 (Proc.devRef .tc main_arg1)) (V0 (Proc.devRef .tc main_arg3)) (V0 (Proc.devRef .tc main_arg4)) (V0 (Proc.devRef .tc main_arg5)) := rfl

theorem denom_eq : Value.res_main_v142 V0 = denom (F := F) (V0 (Proc.devRef .tc main_arg0)) (V0 (Proc.devRef .tc main_arg1)) (V0 (Proc.devRef .tc main_arg3)) (V0 (Proc.devRef .tc main_arg4)) (V0 (Proc.devRef .tc main_arg5)) := rfl

theorem prob_eq : Value.res_main_v144 V0 = prob (F := F) (V0 (Proc.devRef .tc main_arg0)) (V0 (Proc.devRef .tc main_arg1)) (V0 (Proc.devRef .tc main_arg3)) (V0 (Proc.devRef .tc main_arg4)) (V0 (Proc.devRef .tc main_arg5)) := rfl

theorem cot_eq : Value.res_main_v152 V0 = cot (F := F) (V0 (Proc.devRef .tc main_arg2)) := rfl

theorem dProb_eq : Value.res_main_v153 V0 = dProb (F := F) (V0 (Proc.devRef .tc main_arg1)) (V0 (Proc.devRef .tc main_arg2)) := rfl

theorem dVal_eq : Value.res_main_v155 V0 = dVal (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dDenom_eq : Value.res_main_v161 V0 = dDenom (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dScore_eq : Value.res_main_v178 V0 = dScore (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dqNorm_eq : Value.res_main_v180 V0 = dqNorm (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dKey_eq : Value.res_main_v182 V0 = dKey (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dqUnit_eq : Value.res_main_v187 V0 = dqUnit (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

theorem dVar_eq : Value.res_main_v199 V0 = dVar (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

end Cert.ReferenceIdeal.Ref

end
-- ==== Proof.RefRun.lean ====
/-
  The reference's run ends with the stages' five results.
-/
module

public import proofs.«01_k».proof.Proof.Links

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The five results and the six arguments after the run. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = dQ (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v214) = dCur (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v222) = dPrev (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v223) = dGain (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v225) = dSink (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h0, h1, h2, h3, h4, rest⟩ := h c
  rw [dqUnit_eq, qRms_eq, qRows_eq, dVar_eq] at h0
  rw [dKey_eq, dVal_eq] at h1 h2
  rw [qUnit_eq, dqNorm_eq] at h3
  rw [dDenom_eq, expSink_eq] at h4
  exact ⟨h0, h1, h2, h3, h4, rest⟩

end Cert.ReferenceIdeal.Ref

end
-- ==== Proof.Assembly.lean ====
/-
  The value claim: from finite arguments both programs end with the gradient's real arrays.
-/
module

public import proofs.«01_k».proof.Defs
public import proofs.«01_k».proof.Proof.Arrays
public import proofs.«01_k».proof.Proof.RefResults
public import proofs.«01_k».proof.Proof.RefRun

@[expose] public section

noncomputable section

namespace Cert.Proof

open Idealize.ShloMosaic Idealize.SL.Sem

/-- The side conditions that the precondition's operations take. -/
instance finiteFacts : Cert.Pre_finite.Facts where
  bcast_S_S8192x1024 := by decide
  bcast_S_S8192x256 := by decide
  bcast_S_S64 := by decide
  bcast_S_S16 := by decide

/-- A number whose absolute value is below infinity is real. -/
theorem real_of_abs {x : EReal} (h : Ideal.cmp .olt (max x (-x)) ⊤ = 1#1) : x = (x.toReal : EReal) := by
  refine (EReal.coe_toReal ?_ ?_).symm <;> rintro rfl <;> simp [Ideal.cmp] at h

theorem word_top : Ideal.ofBits .f32 0x7F800000#32 = ⊤ := by
  simp [Ideal.ofBits, Ideal.ieee]

theorem word_top16 : Ideal.ofBits .bf16 0x7F80#16 = ⊤ := by
  simp [Ideal.ofBits, Ideal.ieee]

theorem real_f32 {s : Shape} (x : s.Idx → Ideal .f32) (h : Cert.Pre_finite.S_.BroadcastsInDim s (![] : Fin 0 → Fin s.rank))
    (e : cmpf .olt (Host.absf x) (broadcastInDim s ![] h (constant Cert.Pre_finite.S_ .f32 0x7F800000#32)) = fun _ => 1#1)
    (i : s.Idx) : (x i : EReal) = ((EReal.toReal (x i) : ℝ) : EReal) :=
  real_of_abs (word_top ▸ congrFun e i)

theorem real_bf16 {s : Shape} (x : s.Idx → Ideal .bf16) (h : Cert.Pre_finite.S_.BroadcastsInDim s (![] : Fin 0 → Fin s.rank))
    (e : cmpf .olt (Host.absf x) (broadcastInDim s ![] h (constant Cert.Pre_finite.S_ .bf16 0x7F80#16)) = fun _ => 1#1)
    (i : s.Idx) : (x i : EReal) = ((EReal.toReal (x i) : ℝ) : EReal) :=
  real_of_abs (word_top16 ▸ congrFun e i)

/-- Arrays of extended reals as functions of numbers. -/
def argsOf (x0 : Cert.Pre_finite.S8192x1024.Idx → EReal) (x1 : Cert.Pre_finite.S8192x256.Idx → EReal)
    (x2 : Cert.Pre_finite.S8192x1024.Idx → EReal) (x3 x4 : Cert.Pre_finite.S64.Idx → EReal)
    (x5 : Cert.Pre_finite.S16.Idx → EReal) : Cert.Args where
  q r k := if h : r < 8192 ∧ k < 1024 then (x0 (ix2 ⟨r, h.1⟩ ⟨k, h.2⟩)).toReal else 0
  kv r k := if h : r < 8192 ∧ k < 256 then (x1 (ix2 ⟨r, h.1⟩ ⟨k, h.2⟩)).toReal else 0
  d r k := if h : r < 8192 ∧ k < 1024 then (x2 (ix2 ⟨r, h.1⟩ ⟨k, h.2⟩)).toReal else 0
  gq d := (x3 (ix1 d)).toReal
  gk d := (x4 (ix1 d)).toReal
  s h := if hh : h < 16 then (x5 (ix1 ⟨h, hh⟩)).toReal else 0

open Cert.Pre_finite in
theorem holds (x0 : FVec Ideal S8192x1024 .f32) (x1 : FVec Ideal S8192x256 .f32) (x2 : FVec Ideal S8192x1024 .bf16)
    (x3 x4 : FVec Ideal S64 .f32) (x5 : FVec Ideal S16 .f32)
    (h0 : (fn x0 x1 x2 x3 x4 x5).1 = fun _ => 1#1) (h1 : (fn x0 x1 x2 x3 x4 x5).2.1 = fun _ => 1#1)
    (h2 : (fn x0 x1 x2 x3 x4 x5).2.2.1 = fun _ => 1#1) (h3 : (fn x0 x1 x2 x3 x4 x5).2.2.2.1 = fun _ => 1#1)
    (h4 : (fn x0 x1 x2 x3 x4 x5).2.2.2.2.1 = fun _ => 1#1) (h5 : (fn x0 x1 x2 x3 x4 x5).2.2.2.2.2 = fun _ => 1#1) :
    Cert.ReferenceIdeal.Ref.Holds x0 x1 x2 x3 x4 x5 (argsOf x0 x1 x2 x3 x4 x5) where
  q r k := (real_f32 x0 _ h0 (ix2 r k)).trans (by simp only [argsOf]; rw [dif_pos ⟨r.isLt, k.isLt⟩])
  kv r k := (real_f32 x1 _ h1 (ix2 r k)).trans (by simp only [argsOf]; rw [dif_pos ⟨r.isLt, k.isLt⟩])
  d r k := (real_bf16 x2 _ h2 (ix2 r k)).trans (by simp only [argsOf]; rw [dif_pos ⟨r.isLt, k.isLt⟩])
  gq d := real_f32 x3 _ h3 (ix1 d)
  gk d := real_f32 x4 _ h4 (ix1 d)
  s h := (real_f32 x5 _ h5 (ix1 h)).trans (by simp only [argsOf]; rw [dif_pos h.isLt])

/-- The kernel's arguments are the reference's. -/
theorem holds_kernel (m : (ℓ : Loc Cert.KernelIdeal.nD Cert.KernelIdeal.τ Cert.KernelIdeal.sig) → Buf (Elt Ideal) ℓ)
    (c : Dev Cert.KernelIdeal.nD) (A : Cert.Args)
    (H : Cert.ReferenceIdeal.Ref.Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) A) :
    Cert.KernelIdeal.Point.Holds m c A :=
  ⟨H.q, H.kv, H.d, H.gq, H.gk, H.s⟩

/-- The reference runs, keeps its arguments and has no semaphore. -/
theorem frame_reference : Cert.quiescent_ReferenceIdeal := fun m g _ =>
  (θ_run Cert.ReferenceIdeal.defs _ _).mono (fun r h => ⟨fun c => (h c).2.2.2.2.2,
    sem_eq_zero_of_no_sems (by decide) r.2⟩) (Cert.ReferenceIdeal.Ref.run_stages (F := Ideal) m g)

/-- Both programs end with the same five arrays. -/
theorem value : Cert.algebraic_KernelIdeal_ReferenceIdeal_pre_finite := by
  intro m g m' g' pre agree
  have H (c : Dev Cert.KernelIdeal.nD) := holds _ _ _ _ _ _ (pre c).1 (pre c).2.1 (pre c).2.2.1 (pre c).2.2.2.1
    (pre c).2.2.2.2.1 (pre c).2.2.2.2.2
  have K (c : Dev Cert.KernelIdeal.nD) := holds_kernel m c _ (H c)
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run Cert.ReferenceIdeal.defs _ _).mono (fun r h c => ?_) (Cert.ReferenceIdeal.Ref.run_stages (F := Ideal) m' g')
  obtain ⟨h0, h1, h2, h3, h4, rest⟩ := h c
  obtain ⟨a0, a1, a2, a3, a4, a5⟩ := agree c
  rw [a0, a1, a2, a3, a4, a5] at h0 h1 h2 h3 h4
  refine ⟨h0.trans ?_, h1.trans ?_, h2.trans ?_, h3.trans ?_, h4.trans ?_, rest⟩
  · exact (Cert.ReferenceIdeal.Ref.dQ_real (H c)).trans (Cert.KernelIdeal.Arrays.arr9 (K c)).symm
  · exact (Cert.ReferenceIdeal.Ref.dCur_real (H c)).trans (Cert.KernelIdeal.Arrays.arr10 (K c)).symm
  · exact (Cert.ReferenceIdeal.Ref.dPrev_real (H c)).trans (Cert.KernelIdeal.Arrays.arr11 (K c)).symm
  · exact (Cert.ReferenceIdeal.Ref.dGain_real (H c)).trans (Cert.KernelIdeal.Arrays.arr12 (K c)).symm
  · exact (Cert.ReferenceIdeal.Ref.dSink_real (H c)).trans (Cert.KernelIdeal.Arrays.arr13 (K c)).symm

end Cert.Proof

end
-- ==== Proof.Weights.lean ====
/-
  A product summed over 8192 rows, gathered over four grid points of 2048 rows each.
-/
module

public import Idealize.ShloMosaic.Lib.Pipeline.Value
public import Idealize.ShloMosaic.Lib.Pipeline.ValueKit

@[expose] public section

noncomputable section

namespace Cert.Weights

open Idealize.ShloMosaic

/-- Four sums over 2048 rows are the sum over all rows. -/
theorem rows (f : ℕ → EReal) : ∑ s ∈ Finset.range 4, ∑ k : Fin 2048, f (s * 2048 + k.val) = ∑ r : Fin 8192, f r.val := by
  rw [Finset.sum_range]
  refine (Fin.sum_divmod_fin (N := 8192) (A := 4) 2048 fun s k => f (s.val * 2048 + k.val)).symm.trans ?_
  refine Finset.sum_congr rfl fun r _ => congrArg f ?_
  dsimp only
  omega

/-- A buffer that is set at the first of four points and added to at the others, each time by the sum over the point's
    2048 rows, ends with the sum over all rows. -/
theorem fold {N : ℕ} {ι : Type} (reset : (n : ℕ) → n < N → ι → EReal) (step : (n : ℕ) → n < N → (ι → EReal) → ι → EReal)
    (g : ℕ → ℕ → ι → EReal)
    (first : ∀ n h i, reset n h i = ∑ k : Fin 2048, g (n / 4) (n % 4 * 2048 + k.val) i)
    (next : ∀ n h acc i, step n h acc i = acc i + ∑ k : Fin 2048, g (n / 4) (n % 4 * 2048 + k.val) i)
    (q : ℕ) (h : 4 * q + 3 < N) (i : ι) :
    Pipeline.accAt reset step (4 * q) 3 h i = ∑ r : Fin 8192, g q r.val i := by
  rw [Pipeline.accAt_add_apply reset step (fun _ => 0) (fun n i => ∑ k : Fin 2048, g (n / 4) (n % 4 * 2048 + k.val) i)
    (4 * q) 3 (fun h i => (first _ h i).trans (zero_add _).symm) (fun n h acc i _ _ => next n h acc i) 3 (le_refl _) h i,
    zero_add, ← rows fun r => g q r i]
  refine Finset.sum_congr rfl fun s hs => ?_
  have := Finset.mem_range.mp hs
  rw [show (4 * q + s) / 4 = q by omega, show (4 * q + s) % 4 = s by omega]

/-- The entry of an array at a row and a column that are numbers. -/
def entry {R K : ℕ} (x : (⟨2, ![R, K]⟩ : Shape).Idx → EReal) (r k : ℕ) : EReal :=
  if h : r < R ∧ k < K then x (ix2 ⟨r, h.1⟩ ⟨k, h.2⟩) else 0

theorem entry_of {R K : ℕ} (x : (⟨2, ![R, K]⟩ : Shape).Idx → EReal) {r k : ℕ} (hr : r < R) (hk : k < K) :
    entry x r k = x (ix2 ⟨r, hr⟩ ⟨k, hk⟩) := dif_pos ⟨hr, hk⟩

end Cert.Weights

end
-- ==== Proof.WeightsUp.lean ====
/-
  The gradient of the feed-forward part's first weight, in four blocks of columns.
-/
module

public import proofs.«01_k».proof.Defs
public import proofs.«01_k».proof.Proof.Weights
public import proofs.«01_k».proof.Proof.Gen.KernelUpIdeal.Value
public import proofs.«01_k».proof.Proof.Gen.ReferenceUpIdeal.Run
public import Idealize.ShloMosaic.Lib.Pointwise

@[expose] public section

noncomputable section

namespace Cert.KernelUpIdeal.Product

open Cert.KernelUpIdeal Cert.KernelUpIdeal.Gen Idealize.ShloMosaic Idealize.ShloMosaic.TcCoe Idealize.SL.Sem
open Cert.Weights

variable (m : (ℓ : Loc nD τ sig) → Buf (Elt Ideal) ℓ) (c : Dev nD)

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem lt16 (t : Fin cfg0.N) : t.val < 16 := lt_of_lt_of_eq t.isLt N_0

/-- The two arguments by numbers. -/
abbrev left : ℕ → ℕ → EReal := entry (R := 8192) (K := 1024) (m ((c : Thread nD τ).loc main_arg0))
abbrev right : ℕ → ℕ → EReal := entry (R := 8192) (K := 5632) (m ((c : Thread nD τ).loc main_arg1))

theorem blk0 (t : Fin cfg0.N) (r : Fin 2048) (k : Fin 1024) : (iblk m c 0 t : Vec Ideal S2048x1024 .bf16) (ix2 r k) =
    left m c (t.val % 4 * 2048 + r.val) k.val := by
  have := lt16 t
  rw [left, entry_of _ (by omega) (by omega), ← V_main_arg0 m c]
  blk_ext! [iblk, idx0 t]

theorem blk1 (t : Fin cfg0.N) (r : Fin 2048) (k : Fin 1408) : (iblk m c 1 t : Vec Ideal S2048x1408 .bf16) (ix2 r k) =
    right m c (t.val % 4 * 2048 + r.val) (t.val / 4 * 1408 + k.val) := by
  have := lt16 t
  rw [right, entry_of _ (by omega) (by omega), ← V_main_arg1 m c]
  blk_ext! [iblk, idx1 t]

/-- One term of an entry of the product. -/
def term (q r : ℕ) (i : S1x1024x1408.Idx) : EReal := left m c r (i 1).val * right m c r (q * 1408 + (i 2).val)

theorem first (n : ℕ) (h : n < cfg0.N) (i : S1x1024x1408.Idx) :
    Value.reset2 m c n h i = ∑ k : Fin 2048, term m c (n / 4) (n % 4 * 2048 + k.val) i := by
  obtain ⟨z, x, y, rfl⟩ : ∃ z x y, i = ix3 z x y := ⟨_, _, _, (ix3_eta i).symm⟩
  pointwise [Value.reset2, k0_pay1, k0_pay2, dot_S2048x1024_S2048x1408_S1024x1408_0_0_1_1_n_n]
  simp only [blk0, blk1]
  rfl

theorem next (n : ℕ) (h : n < cfg0.N) (acc : S1x1024x1408.Idx → EReal) (i : S1x1024x1408.Idx) :
    Value.step2 m c n h acc i = acc i + ∑ k : Fin 2048, term m c (n / 4) (n % 4 * 2048 + k.val) i := by
  obtain ⟨z, x, y, rfl⟩ : ∃ z x y, i = ix3 z x y := ⟨_, _, _, (ix3_eta i).symm⟩
  obtain rfl : z = 0 := Subsingleton.elim _ _
  pointwise [Value.step2, k0_pay2, dot_S2048x1024_S2048x1408_S1024x1408_0_0_1_1_n_n]
  simp only [blk0, blk1]
  rfl

/-- Each entry of the result is a column of the one argument times a column of the other. -/
theorem result (z : Fin 4) (x : Fin 1024) (y : Fin 1408) :
    Value.G2 m c (ix3 z x y) = ∑ r : Fin 8192, left m c r.val x.val * right m c r.val (z.val * 1408 + y.val) := by
  have hx := x.isLt
  have hy := y.isLt
  have hz := z.isLt
  have hr : Value.run2Of (ix3 z x y) = z.val := by
    show 1 * (z.val / 1 - 0) + 1 * (x.val / 1024 - 0) + 1 * (y.val / 1408 - 0) = _; omega
  unfold Value.G2
  rw [dif_pos (by rw [hr, show cfg0.N = 16 from N_0]; omega)]
  refine (fold _ _ (term m c) (first m c) (next m c) _ _ _).trans (Finset.sum_congr rfl fun r _ => ?_)
  rw [hr]
  show left m c _ (x.val % 1024) * right m c _ (z.val * 1408 + y.val % 1408) = _
  rw [show x.val % 1024 = x.val by omega, show y.val % 1408 = y.val by omega]

end Cert.KernelUpIdeal.Product

namespace Cert.Proof

open Idealize.ShloMosaic Idealize.SL.Sem Cert.Weights

section
open Cert.ReferenceUpIdeal Cert.ReferenceUpIdeal.Gen

/-- The reference's entry. -/
theorem up_reference (x : S8192x1024.Idx → Ideal .bf16) (y : S8192x5632.Idx → Ideal .bf16) (z : Fin 4) (i : Fin 1024) (j : Fin 1408) :
    transpose S4x1024x1408 [1, 0, 2] (shapeCast S1024x4x1408 (transpose S1024x5632 [1, 0]
      (Host.dotGeneral dot_S8192x5632_S8192x1024_S5632x1024_0_0_1_1_n_n none (extf .f32 y bitsLt_bf16_f32)
        (extf .f32 x bitsLt_bf16_f32) : FVec Ideal S5632x1024 .f32) transposes_S5632x1024_S1024x5632_1_0)
      shapeCasts_S1024x5632_S1024x4x1408) transposes_S1024x4x1408_S4x1024x1408_1_0_2 (ix3 z i j)
      = ∑ r : Fin 8192, entry (R := 8192) (K := 1024) x r.val i.val * entry (R := 8192) (K := 5632) y r.val (z.val * 1408 + j.val) := by
  have hz := z.isLt
  have hj := j.isLt
  pointwise [dot_S8192x5632_S8192x1024_S5632x1024_0_0_1_1_n_n]
  refine Finset.sum_congr rfl fun r _ => ?_
  rw [entry_of x r.isLt i.isLt, entry_of y r.isLt (by omega), mul_comm]

end

theorem frame_up_reference : Cert.quiescent_ReferenceUpIdeal := fun m g _ =>
  (θ_run Cert.ReferenceUpIdeal.defs _ _).mono (fun r h => ⟨fun c => (h c).2, sem_eq_zero_of_no_sems (by decide) r.2⟩)
    (Cert.ReferenceUpIdeal.Value.run (F := Ideal) m g)

theorem up : Cert.algebraic_KernelUpIdeal_ReferenceUpIdeal := by
  intro m g m' g' _ agree
  refine ⟨fun c => Cert.KernelUpIdeal.Value.G2 m c, Cert.KernelUpIdeal.Value.run m g, ?_⟩
  refine (θ_run Cert.ReferenceUpIdeal.defs _ _).mono (fun r h c => ?_) (Cert.ReferenceUpIdeal.Value.run (F := Ideal) m' g')
  obtain ⟨h0, rest⟩ := h c
  obtain ⟨a0, a1⟩ := agree c
  rw [a0, a1] at h0
  refine ⟨h0.trans (funext fun i => ?_), rest⟩
  obtain ⟨z, x, y, rfl⟩ : ∃ z x y, i = ix3 z x y := ⟨_, _, _, (ix3_eta i).symm⟩
  exact (up_reference _ _ z x y).trans (Cert.KernelUpIdeal.Product.result m c z x y).symm

end Cert.Proof

end
-- ==== Proof.WeightsDown.lean ====
/-
  The gradient of the feed-forward part's second weight.
-/
module

public import proofs.«01_k».proof.Defs
public import proofs.«01_k».proof.Proof.Weights
public import proofs.«01_k».proof.Proof.Gen.KernelDownIdeal.Value
public import proofs.«01_k».proof.Proof.Gen.ReferenceDownIdeal.Run
public import Idealize.ShloMosaic.Lib.Pointwise

@[expose] public section

noncomputable section

namespace Cert.KernelDownIdeal.Product

open Cert.KernelDownIdeal Cert.KernelDownIdeal.Gen Idealize.ShloMosaic Idealize.ShloMosaic.TcCoe Idealize.SL.Sem
open Cert.Weights

variable (m : (ℓ : Loc nD τ sig) → Buf (Elt Ideal) ℓ) (c : Dev nD)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem lt8 (t : Fin cfg0.N) : t.val < 8 := lt_of_lt_of_eq t.isLt N_0

/-- The two arguments by numbers. -/
abbrev left : ℕ → ℕ → EReal := entry (R := 8192) (K := 2816) (m ((c : Thread nD τ).loc main_arg0))
abbrev right : ℕ → ℕ → EReal := entry (R := 8192) (K := 1024) (m ((c : Thread nD τ).loc main_arg1))

theorem blk0 (t : Fin cfg0.N) (r : Fin 2048) (k : Fin 1408) : (iblk m c 0 t : Vec Ideal S2048x1408 .bf16) (ix2 r k) =
    left m c (t.val % 4 * 2048 + r.val) (t.val / 4 * 1408 + k.val) := by
  have := lt8 t
  rw [left, entry_of _ (by omega) (by omega), ← V_main_arg0 m c]
  blk_ext! [iblk, idx0 t]

theorem blk1 (t : Fin cfg0.N) (r : Fin 2048) (k : Fin 1024) : (iblk m c 1 t : Vec Ideal S2048x1024 .bf16) (ix2 r k) =
    right m c (t.val % 4 * 2048 + r.val) k.val := by
  have := lt8 t
  rw [right, entry_of _ (by omega) (by omega), ← V_main_arg1 m c]
  blk_ext! [iblk, idx1 t]

/-- One term of an entry of the product. -/
def term (q r : ℕ) (i : S1408x1024.Idx) : EReal := left m c r (q * 1408 + (i 0).val) * right m c r (i 1).val

theorem first (n : ℕ) (h : n < cfg0.N) (i : S1408x1024.Idx) :
    Value.reset2 m c n h i = ∑ k : Fin 2048, term m c (n / 4) (n % 4 * 2048 + k.val) i := by
  obtain ⟨x, y, rfl⟩ : ∃ x y, i = ix2 x y := ⟨_, _, (ix2_eta i).symm⟩
  pointwise [Value.reset2, k0_pay1, k0_pay2, dot_S2048x1408_S2048x1024_S1408x1024_0_0_1_1_n_n]
  simp only [blk0, blk1]
  rfl

theorem next (n : ℕ) (h : n < cfg0.N) (acc : S1408x1024.Idx → EReal) (i : S1408x1024.Idx) :
    Value.step2 m c n h acc i = acc i + ∑ k : Fin 2048, term m c (n / 4) (n % 4 * 2048 + k.val) i := by
  obtain ⟨x, y, rfl⟩ : ∃ x y, i = ix2 x y := ⟨_, _, (ix2_eta i).symm⟩
  pointwise [Value.step2, k0_pay2, dot_S2048x1408_S2048x1024_S1408x1024_0_0_1_1_n_n]
  simp only [blk0, blk1]
  rfl

/-- Each entry of the result is a column of the one argument times a column of the other. -/
theorem result (x : Fin 2816) (y : Fin 1024) :
    Value.G2 m c (ix2 x y) = ∑ r : Fin 8192, left m c r.val x.val * right m c r.val y.val := by
  have hx := x.isLt
  have hy := y.isLt
  have hr : Value.run2Of (ix2 x y) = x.val / 1408 := by
    show 1 * (x.val / 1408 - 0) + 1 * (y.val / 1024 - 0) = _; omega
  unfold Value.G2
  rw [dif_pos (by rw [hr, show cfg0.N = 8 from N_0]; omega)]
  refine (fold _ _ (term m c) (first m c) (next m c) _ _ _).trans (Finset.sum_congr rfl fun r _ => ?_)
  rw [hr]
  show left m c _ (x.val / 1408 * 1408 + x.val % 1408) * right m c _ (y.val % 1024) = _
  rw [show x.val / 1408 * 1408 + x.val % 1408 = x.val by omega, show y.val % 1024 = y.val by omega]

end Cert.KernelDownIdeal.Product

namespace Cert.Proof

open Idealize.ShloMosaic Idealize.SL.Sem Cert.Weights

section
open Cert.ReferenceDownIdeal Cert.ReferenceDownIdeal.Gen

/-- The reference's entry. -/
theorem down_reference (x : S8192x2816.Idx → Ideal .bf16) (y : S8192x1024.Idx → Ideal .bf16) (i : Fin 2816) (j : Fin 1024) :
    transpose S2816x1024 [1, 0] (Host.dotGeneral dot_S8192x1024_S8192x2816_S1024x2816_0_0_1_1_n_n none (extf .f32 y bitsLt_bf16_f32)
      (extf .f32 x bitsLt_bf16_f32) : FVec Ideal S1024x2816 .f32) transposes_S1024x2816_S2816x1024_1_0 (ix2 i j)
      = ∑ r : Fin 8192, entry (R := 8192) (K := 2816) x r.val i.val * entry (R := 8192) (K := 1024) y r.val j.val := by
  pointwise [dot_S8192x1024_S8192x2816_S1024x2816_0_0_1_1_n_n]
  refine Finset.sum_congr rfl fun r _ => ?_
  rw [entry_of x r.isLt i.isLt, entry_of y r.isLt j.isLt, mul_comm]

end

theorem frame_down_reference : Cert.quiescent_ReferenceDownIdeal := fun m g _ =>
  (θ_run Cert.ReferenceDownIdeal.defs _ _).mono (fun r h => ⟨fun c => (h c).2, sem_eq_zero_of_no_sems (by decide) r.2⟩)
    (Cert.ReferenceDownIdeal.Value.run (F := Ideal) m g)

theorem down : Cert.algebraic_KernelDownIdeal_ReferenceDownIdeal := by
  intro m g m' g' _ agree
  refine ⟨fun c => Cert.KernelDownIdeal.Value.G2 m c, Cert.KernelDownIdeal.Value.run m g, ?_⟩
  refine (θ_run Cert.ReferenceDownIdeal.defs _ _).mono (fun r h c => ?_) (Cert.ReferenceDownIdeal.Value.run (F := Ideal) m' g')
  obtain ⟨h0, rest⟩ := h c
  obtain ⟨a0, a1⟩ := agree c
  rw [a0, a1] at h0
  refine ⟨h0.trans (funext fun i => ?_), rest⟩
  obtain ⟨x, y, rfl⟩ : ∃ x y, i = ix2 x y := ⟨_, _, (ix2_eta i).symm⟩
  exact (down_reference _ _ x y).trans (Cert.KernelDownIdeal.Product.result m c x y).symm

end Cert.Proof

end
-- ==== Proof.WeightsSquare.lean ====
/-
  The gradient of a square weight: that of the merge, and alike the two mixers' output and the queries' weights.
-/
module

public import proofs.«01_k».proof.Defs
public import proofs.«01_k».proof.Proof.Weights
public import proofs.«01_k».proof.Proof.Gen.KernelSquareIdeal.Value
public import proofs.«01_k».proof.Proof.Gen.ReferenceSquareIdeal.Run
public import Idealize.ShloMosaic.Lib.Pointwise

@[expose] public section

noncomputable section

namespace Cert.KernelSquareIdeal.Product

open Cert.KernelSquareIdeal Cert.KernelSquareIdeal.Gen Idealize.ShloMosaic Idealize.ShloMosaic.TcCoe Idealize.SL.Sem
open Cert.Weights

variable (m : (ℓ : Loc nD τ sig) → Buf (Elt Ideal) ℓ) (c : Dev nD)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem lt4 (t : Fin cfg0.N) : t.val < 4 := lt_of_lt_of_eq t.isLt N_0

/-- The two arguments by numbers. -/
abbrev left : ℕ → ℕ → EReal := entry (R := 8192) (K := 1024) (m ((c : Thread nD τ).loc main_arg0))
abbrev right : ℕ → ℕ → EReal := entry (R := 8192) (K := 1024) (m ((c : Thread nD τ).loc main_arg1))

theorem blk0 (t : Fin cfg0.N) (r : Fin 2048) (k : Fin 1024) : (iblk m c 0 t : Vec Ideal S2048x1024 .bf16) (ix2 r k) =
    left m c (t.val % 4 * 2048 + r.val) (t.val / 4 * 1024 + k.val) := by
  have := lt4 t
  rw [left, entry_of _ (by omega) (by omega), ← V_main_arg0 m c]
  blk_ext! [iblk, idx0 t]

theorem blk1 (t : Fin cfg0.N) (r : Fin 2048) (k : Fin 1024) : (iblk m c 1 t : Vec Ideal S2048x1024 .bf16) (ix2 r k) =
    right m c (t.val % 4 * 2048 + r.val) k.val := by
  have := lt4 t
  rw [right, entry_of _ (by omega) (by omega), ← V_main_arg1 m c]
  blk_ext! [iblk, idx1 t]

/-- One term of an entry of the product. -/
def term (q r : ℕ) (i : S1024x1024.Idx) : EReal := left m c r (q * 1024 + (i 0).val) * right m c r (i 1).val

theorem first (n : ℕ) (h : n < cfg0.N) (i : S1024x1024.Idx) :
    Value.reset2 m c n h i = ∑ k : Fin 2048, term m c (n / 4) (n % 4 * 2048 + k.val) i := by
  obtain ⟨x, y, rfl⟩ : ∃ x y, i = ix2 x y := ⟨_, _, (ix2_eta i).symm⟩
  pointwise [Value.reset2, k0_pay1, k0_pay2, dot_S2048x1024_S2048x1024_S1024x1024_0_0_1_1_n_n]
  simp only [blk0, blk1]
  rfl

theorem next (n : ℕ) (h : n < cfg0.N) (acc : S1024x1024.Idx → EReal) (i : S1024x1024.Idx) :
    Value.step2 m c n h acc i = acc i + ∑ k : Fin 2048, term m c (n / 4) (n % 4 * 2048 + k.val) i := by
  obtain ⟨x, y, rfl⟩ : ∃ x y, i = ix2 x y := ⟨_, _, (ix2_eta i).symm⟩
  pointwise [Value.step2, k0_pay2, dot_S2048x1024_S2048x1024_S1024x1024_0_0_1_1_n_n]
  simp only [blk0, blk1]
  rfl

/-- Each entry of the result is a column of the one argument times a column of the other. -/
theorem result (x : Fin 1024) (y : Fin 1024) :
    Value.G2 m c (ix2 x y) = ∑ r : Fin 8192, left m c r.val x.val * right m c r.val y.val := by
  have hx := x.isLt
  have hy := y.isLt
  have hr : Value.run2Of (ix2 x y) = x.val / 1024 := by
    show 1 * (x.val / 1024 - 0) + 1 * (y.val / 1024 - 0) = _; omega
  unfold Value.G2
  rw [dif_pos (by rw [hr, show cfg0.N = 4 from N_0]; omega)]
  refine (fold _ _ (term m c) (first m c) (next m c) _ _ _).trans (Finset.sum_congr rfl fun r _ => ?_)
  rw [hr]
  show left m c _ (x.val / 1024 * 1024 + x.val % 1024) * right m c _ (y.val % 1024) = _
  rw [show x.val / 1024 * 1024 + x.val % 1024 = x.val by omega, show y.val % 1024 = y.val by omega]

end Cert.KernelSquareIdeal.Product

namespace Cert.Proof

open Idealize.ShloMosaic Idealize.SL.Sem Cert.Weights

section
open Cert.ReferenceSquareIdeal Cert.ReferenceSquareIdeal.Gen

/-- The reference's entry. -/
theorem square_reference (x : S8192x1024.Idx → Ideal .bf16) (y : S8192x1024.Idx → Ideal .bf16) (i : Fin 1024) (j : Fin 1024) :
    transpose S1024x1024 [1, 0] (Host.dotGeneral dot_S8192x1024_S8192x1024_S1024x1024_0_0_1_1_n_n none (extf .f32 y bitsLt_bf16_f32)
      (extf .f32 x bitsLt_bf16_f32) : FVec Ideal S1024x1024 .f32) transposes_S1024x1024_S1024x1024_1_0 (ix2 i j)
      = ∑ r : Fin 8192, entry (R := 8192) (K := 1024) x r.val i.val * entry (R := 8192) (K := 1024) y r.val j.val := by
  pointwise [dot_S8192x1024_S8192x1024_S1024x1024_0_0_1_1_n_n]
  refine Finset.sum_congr rfl fun r _ => ?_
  rw [entry_of x r.isLt i.isLt, entry_of y r.isLt j.isLt, mul_comm]

end

theorem frame_square_reference : Cert.quiescent_ReferenceSquareIdeal := fun m g _ =>
  (θ_run Cert.ReferenceSquareIdeal.defs _ _).mono (fun r h => ⟨fun c => (h c).2, sem_eq_zero_of_no_sems (by decide) r.2⟩)
    (Cert.ReferenceSquareIdeal.Value.run (F := Ideal) m g)

theorem square : Cert.algebraic_KernelSquareIdeal_ReferenceSquareIdeal := by
  intro m g m' g' _ agree
  refine ⟨fun c => Cert.KernelSquareIdeal.Value.G2 m c, Cert.KernelSquareIdeal.Value.run m g, ?_⟩
  refine (θ_run Cert.ReferenceSquareIdeal.defs _ _).mono (fun r h c => ?_) (Cert.ReferenceSquareIdeal.Value.run (F := Ideal) m' g')
  obtain ⟨h0, rest⟩ := h c
  obtain ⟨a0, a1⟩ := agree c
  rw [a0, a1] at h0
  refine ⟨h0.trans (funext fun i => ?_), rest⟩
  obtain ⟨x, y, rfl⟩ : ∃ x y, i = ix2 x y := ⟨_, _, (ix2_eta i).symm⟩
  exact (square_reference _ _ x y).trans (Cert.KernelSquareIdeal.Product.result m c x y).symm

end Cert.Proof

end
-- ==== Proof.WeightsWide.lean ====
/-
  The gradient of the input weight's 2048 rows for the convolution branch, and for the gates likewise.
-/
module

public import proofs.«01_k».proof.Defs
public import proofs.«01_k».proof.Proof.Weights
public import proofs.«01_k».proof.Proof.Gen.KernelWideIdeal.Value
public import proofs.«01_k».proof.Proof.Gen.ReferenceWideIdeal.Run
public import Idealize.ShloMosaic.Lib.Pointwise

@[expose] public section

noncomputable section

namespace Cert.KernelWideIdeal.Product

open Cert.KernelWideIdeal Cert.KernelWideIdeal.Gen Idealize.ShloMosaic Idealize.ShloMosaic.TcCoe Idealize.SL.Sem
open Cert.Weights

variable (m : (ℓ : Loc nD τ sig) → Buf (Elt Ideal) ℓ) (c : Dev nD)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem lt8 (t : Fin cfg0.N) : t.val < 8 := lt_of_lt_of_eq t.isLt N_0

/-- The two arguments by numbers. -/
abbrev left : ℕ → ℕ → EReal := entry (R := 8192) (K := 2048) (m ((c : Thread nD τ).loc main_arg0))
abbrev right : ℕ → ℕ → EReal := entry (R := 8192) (K := 1024) (m ((c : Thread nD τ).loc main_arg1))

theorem blk0 (t : Fin cfg0.N) (r : Fin 2048) (k : Fin 1024) : (iblk m c 0 t : Vec Ideal S2048x1024 .bf16) (ix2 r k) =
    left m c (t.val % 4 * 2048 + r.val) (t.val / 4 * 1024 + k.val) := by
  have := lt8 t
  rw [left, entry_of _ (by omega) (by omega), ← V_main_arg0 m c]
  blk_ext! [iblk, idx0 t]

theorem blk1 (t : Fin cfg0.N) (r : Fin 2048) (k : Fin 1024) : (iblk m c 1 t : Vec Ideal S2048x1024 .bf16) (ix2 r k) =
    right m c (t.val % 4 * 2048 + r.val) k.val := by
  have := lt8 t
  rw [right, entry_of _ (by omega) (by omega), ← V_main_arg1 m c]
  blk_ext! [iblk, idx1 t]

/-- One term of an entry of the product. -/
def term (q r : ℕ) (i : S1024x1024.Idx) : EReal := left m c r (q * 1024 + (i 0).val) * right m c r (i 1).val

theorem first (n : ℕ) (h : n < cfg0.N) (i : S1024x1024.Idx) :
    Value.reset2 m c n h i = ∑ k : Fin 2048, term m c (n / 4) (n % 4 * 2048 + k.val) i := by
  obtain ⟨x, y, rfl⟩ : ∃ x y, i = ix2 x y := ⟨_, _, (ix2_eta i).symm⟩
  pointwise [Value.reset2, k0_pay1, k0_pay2, dot_S2048x1024_S2048x1024_S1024x1024_0_0_1_1_n_n]
  simp only [blk0, blk1]
  rfl

theorem next (n : ℕ) (h : n < cfg0.N) (acc : S1024x1024.Idx → EReal) (i : S1024x1024.Idx) :
    Value.step2 m c n h acc i = acc i + ∑ k : Fin 2048, term m c (n / 4) (n % 4 * 2048 + k.val) i := by
  obtain ⟨x, y, rfl⟩ : ∃ x y, i = ix2 x y := ⟨_, _, (ix2_eta i).symm⟩
  pointwise [Value.step2, k0_pay2, dot_S2048x1024_S2048x1024_S1024x1024_0_0_1_1_n_n]
  simp only [blk0, blk1]
  rfl

/-- Each entry of the result is a column of the one argument times a column of the other. -/
theorem result (x : Fin 2048) (y : Fin 1024) :
    Value.G2 m c (ix2 x y) = ∑ r : Fin 8192, left m c r.val x.val * right m c r.val y.val := by
  have hx := x.isLt
  have hy := y.isLt
  have hr : Value.run2Of (ix2 x y) = x.val / 1024 := by
    show 1 * (x.val / 1024 - 0) + 1 * (y.val / 1024 - 0) = _; omega
  unfold Value.G2
  rw [dif_pos (by rw [hr, show cfg0.N = 8 from N_0]; omega)]
  refine (fold _ _ (term m c) (first m c) (next m c) _ _ _).trans (Finset.sum_congr rfl fun r _ => ?_)
  rw [hr]
  show left m c _ (x.val / 1024 * 1024 + x.val % 1024) * right m c _ (y.val % 1024) = _
  rw [show x.val / 1024 * 1024 + x.val % 1024 = x.val by omega, show y.val % 1024 = y.val by omega]

end Cert.KernelWideIdeal.Product

namespace Cert.Proof

open Idealize.ShloMosaic Idealize.SL.Sem Cert.Weights

section
open Cert.ReferenceWideIdeal Cert.ReferenceWideIdeal.Gen

/-- The reference's entry. -/
theorem wide_reference (x : S8192x2048.Idx → Ideal .bf16) (y : S8192x1024.Idx → Ideal .bf16) (i : Fin 2048) (j : Fin 1024) :
    transpose S2048x1024 [1, 0] (Host.dotGeneral dot_S8192x1024_S8192x2048_S1024x2048_0_0_1_1_n_n none (extf .f32 y bitsLt_bf16_f32)
      (extf .f32 x bitsLt_bf16_f32) : FVec Ideal S1024x2048 .f32) transposes_S1024x2048_S2048x1024_1_0 (ix2 i j)
      = ∑ r : Fin 8192, entry (R := 8192) (K := 2048) x r.val i.val * entry (R := 8192) (K := 1024) y r.val j.val := by
  pointwise [dot_S8192x1024_S8192x2048_S1024x2048_0_0_1_1_n_n]
  refine Finset.sum_congr rfl fun r _ => ?_
  rw [entry_of x r.isLt i.isLt, entry_of y r.isLt j.isLt, mul_comm]

end

theorem frame_wide_reference : Cert.quiescent_ReferenceWideIdeal := fun m g _ =>
  (θ_run Cert.ReferenceWideIdeal.defs _ _).mono (fun r h => ⟨fun c => (h c).2, sem_eq_zero_of_no_sems (by decide) r.2⟩)
    (Cert.ReferenceWideIdeal.Value.run (F := Ideal) m g)

theorem wide : Cert.algebraic_KernelWideIdeal_ReferenceWideIdeal := by
  intro m g m' g' _ agree
  refine ⟨fun c => Cert.KernelWideIdeal.Value.G2 m c, Cert.KernelWideIdeal.Value.run m g, ?_⟩
  refine (θ_run Cert.ReferenceWideIdeal.defs _ _).mono (fun r h c => ?_) (Cert.ReferenceWideIdeal.Value.run (F := Ideal) m' g')
  obtain ⟨h0, rest⟩ := h c
  obtain ⟨a0, a1⟩ := agree c
  rw [a0, a1] at h0
  refine ⟨h0.trans (funext fun i => ?_), rest⟩
  obtain ⟨x, y, rfl⟩ : ∃ x y, i = ix2 x y := ⟨_, _, (ix2_eta i).symm⟩
  exact (wide_reference _ _ x y).trans (Cert.KernelWideIdeal.Product.result m c x y).symm

end Cert.Proof

end
-- ==== Proof.FfnPieces.lean ====
/-
  What the feed-forward body leaves in its seven result blocks at a grid point.
-/
module

public import proofs.«01_k».proof.Proof.Gen.KernelFfnIdeal.Value
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384
set_option pp.deepTerms false
set_option pp.deepTerms.threshold 12

noncomputable section

namespace Cert.KernelFfnIdeal.Pieces

open Idealize.ShloMosaic Idealize.ShloMosaic.TcCoe Idealize.SL.Sem
open Cert.KernelFfnIdeal Cert.KernelFfnIdeal.Gen

variable {F : FTy → Type} [FloatOps F]

theorem hz : (![0, 0] : Fin 2 → Nat) = fun _ => 0 := funext fun a => by fin_cases a <;> rfl

section stages

variable (x0 x1 : Vec F S256x1024 .f32) (x2 : Vec F S1x1024 .f32) (x3 : Vec F S4x1024x1408 .bf16) (x4 : Vec F S2816x1024 .bf16)

/-- The four column blocks of the first weight and the two row blocks of the second. -/
def w0 : Vec F S1x1024x1408 .bf16 := View.ld x3 (Rect.unit ![0, 0, 0] ![1, 1024, 1408] inb_S4x1024x1408_S1x1024x1408_0_0_0)
def w1 : Vec F S1x1024x1408 .bf16 := View.ld x3 (Rect.unit ![1, 0, 0] ![1, 1024, 1408] inb_S4x1024x1408_S1x1024x1408_1_0_0)
def w2 : Vec F S1x1024x1408 .bf16 := View.ld x3 (Rect.unit ![2, 0, 0] ![1, 1024, 1408] inb_S4x1024x1408_S1x1024x1408_2_0_0)
def w3 : Vec F S1x1024x1408 .bf16 := View.ld x3 (Rect.unit ![3, 0, 0] ![1, 1024, 1408] inb_S4x1024x1408_S1x1024x1408_3_0_0)
def d0 : Vec F S1408x1024 .bf16 := View.ld x4 (Rect.unit ![0, 0] ![1408, 1024] inb_S2816x1024_S1408x1024_0_0)
def d1 : Vec F S1408x1024 .bf16 := View.ld x4 (Rect.unit ![1408, 0] ![1408, 1024] inb_S2816x1024_S1408x1024_1408_0)

def hn : FVec F S256x1024 .bf16 := k0_pay6 x0 x2
def g0 : FVec F S256x1408 .f32 := k0_pay7 x0 x2 (w0 x3)
def u0 : FVec F S256x1408 .f32 := k0_pay8 x0 x2 (w2 x3)
def g1 : FVec F S256x1408 .f32 := k0_pay13 (hn x0 x2) (w1 x3)
def u1 : FVec F S256x1408 .f32 := k0_pay14 (hn x0 x2) (w3 x3)
def s1 : FVec F S256x1408 .f32 := k0_pay17 (hn x0 x2) (w1 x3)
def act0 : FVec F S256x1408 .bf16 := k0_pay11 (g0 x0 x2 x3) (u0 x0 x2 x3)
def act1 : FVec F S256x1408 .bf16 := k0_pay18 (u1 x0 x2 x3) (s1 x0 x2 x3)
def part : FVec F S256x1024 .f32 := k0_pay12 x0 (g0 x0 x2 x3) (u0 x0 x2 x3) (d0 x4)
def err : FVec F S256x1024 .f32 := k0_pay19 (part x0 x2 x3 x4) (u1 x0 x2 x3) (s1 x0 x2 x3) (d1 x4) x1
def dout : FVec F S256x1024 .f32 := k0_pay20 (part x0 x2 x3 x4) (u1 x0 x2 x3) (s1 x0 x2 x3) (d1 x4) x1
def doutb : FVec F S256x1024 .bf16 := k0_pay21 (part x0 x2 x3 x4) (u1 x0 x2 x3) (s1 x0 x2 x3) (d1 x4) x1
def dg0 : FVec F S256x1408 .bf16 :=
  k0_pay25 (part x0 x2 x3 x4) (u1 x0 x2 x3) (s1 x0 x2 x3) (d1 x4) x1 (k0_pay9 x0 x2 (w0 x3)) (k0_pay10 x0 x2 (w2 x3)) (d0 x4)
def du0 : FVec F S256x1408 .f32 :=
  k0_pay26 (part x0 x2 x3 x4) (u1 x0 x2 x3) (s1 x0 x2 x3) (d1 x4) x1 (k0_pay9 x0 x2 (w0 x3)) (d0 x4)
def dg1 : FVec F S256x1408 .bf16 := k0_pay31 (doutb x0 x1 x2 x3 x4) (k0_pay15 (hn x0 x2) (w1 x3)) (k0_pay16 (hn x0 x2) (w3 x3)) (d1 x4)
def du1 : FVec F S256x1408 .bf16 := k0_pay32 (doutb x0 x1 x2 x3 x4) (k0_pay15 (hn x0 x2) (w1 x3)) (d1 x4)
def dhn0 : FVec F S256x1024 .f32 := k0_pay28 k0_pay22 (dg0 x0 x1 x2 x3 x4) (du0 x0 x1 x2 x3 x4) (w0 x3) (w2 x3)
def dhn : FVec F S256x1024 .f32 := k0_pay33 (dhn0 x0 x1 x2 x3 x4) (dg1 x0 x1 x2 x3 x4) (du1 x0 x1 x2 x3 x4) (w1 x3) (w3 x3)
def dhh : FVec F S256x1024 .f32 := k0_pay36 (dhn0 x0 x1 x2 x3 x4) (dg1 x0 x1 x2 x3 x4) (du1 x0 x1 x2 x3 x4) (w1 x3) (w3 x3) x2
def inner : FVec F S256x1 .f32 :=
  k0_pay37 (k0_pay5 x0) (dhn0 x0 x1 x2 x3 x4) (dg1 x0 x1 x2 x3 x4) (du1 x0 x1 x2 x3 x4) (w1 x3) (w3 x3) x2
def dh : FVec F S256x1024 .f32 := k0_pay1 (k0_pay4 x0) (k0_pay5 x0) (dout x0 x1 x2 x3 x4) (dhh x0 x1 x2 x3 x4) (inner x0 x1 x2 x3 x4)
def dhb : FVec F S256x1024 .bf16 := k0_pay2 (k0_pay4 x0) (k0_pay5 x0) (dout x0 x1 x2 x3 x4) (dhh x0 x1 x2 x3 x4) (inner x0 x1 x2 x3 x4)
/-- The two rows of sums with a point's own added. -/
def gains (o : Vec F S1x1024 .f32) : FVec F S1x1024 .f32 :=
  k0_pay34 (k0_pay5 x0) (dhn0 x0 x1 x2 x3 x4) (dg1 x0 x1 x2 x3 x4) (du1 x0 x1 x2 x3 x4) (w1 x3) (w3 x3) o
def squares (o : Vec F S1x1024 .f32) : FVec F S1x1024 .f32 := k0_pay35 (err x0 x1 x2 x3 x4) o

end stages

/-- Two 1408-column blocks side by side. -/
def cols2 (a b : FVec F S256x1408 .bf16) : Vec F S256x2816 .bf16 := fun y =>
  if h : (y 1).val < 1408 then a (ix2 (y 0) ⟨(y 1).val, h⟩)
  else b (ix2 (y 0) ⟨(y 1).val - 1408, by have := (y 1).isLt; change (y 1).val < 2816 at this; omega⟩)

/-- Four. -/
def cols4 (a b c d : FVec F S256x1408 .bf16) : Vec F S256x5632 .bf16 := fun y =>
  if h : (y 1).val < 1408 then a (ix2 (y 0) ⟨(y 1).val, h⟩)
  else if h' : (y 1).val < 2816 then b (ix2 (y 0) ⟨(y 1).val - 1408, by omega⟩)
  else if h'' : (y 1).val < 4224 then c (ix2 (y 0) ⟨(y 1).val - 2816, by omega⟩)
  else d (ix2 (y 0) ⟨(y 1).val - 4224, by have := (y 1).isLt; change (y 1).val < 5632 at this; omega⟩)

/-- A block with its first two rows replaced, and a row of a block. -/
def putRows (o : Vec F S8x1024 .f32) (w w' : FVec F S1x1024 .f32) : Vec F S8x1024 .f32 := fun y =>
  if (y 0).val = 0 then w (ix2 (0 : Fin 1) (y 1)) else if (y 0).val = 1 then w' (ix2 (0 : Fin 1) (y 1)) else o y
def row (k : Fin 8) (o : Vec F S8x1024 .f32) : Vec F S1x1024 .f32 := fun y => o (ix2 k (y 1))

/-- The newest piece's payload, where it was written. -/
theorem canon_at {S : Shape} {e : EltTy} (r : Rect S) (w : r.shape.Idx → Elt F e) (L : List (View.Piece (Elt F) S e)) (y : S.Idx)
    (x : r.shape.Idx) (h : y = r.emb x) : View.canon ((⟨r, w⟩ : View.Piece (Elt F) S e) :: L) y = w x := by
  subst h; exact View.canon_cons_emb r w L x

/-- The older pieces, elsewhere. -/
theorem canon_skip {S : Shape} {e : EltTy} (r : Rect S) (w : r.shape.Idx → Elt F e) (L : List (View.Piece (Elt F) S e)) (y : S.Idx)
    (h : y ∉ r.set) : View.canon ((⟨r, w⟩ : View.Piece (Elt F) S e) :: L) y = View.canon L y :=
  View.canon_cons_of_not_mem _ _ h

/-- An index of a strip of 1408 columns of a block, placed. -/
theorem emb2 (o : Nat) (inb : ∀ a, (![0, o] : Fin 2 → Nat) a + S256x1408.size a ≤ S256x2816.size a) (y : S256x2816.Idx) (k : Fin 1408)
    (h : (y 1).val = o + k.val) :
    y = (Rect.unit (s := S256x2816) ![0, o] S256x1408.size inb).emb (ix2 (y 0) k : S256x1408.Idx) :=
  funext fun a => Fin.ext (by
    match a with
    | ⟨0, _⟩ => show (y 0).val = 0 + 1 * (y 0).val; omega
    | ⟨1, _⟩ => show (y 1).val = o + 1 * k.val; omega)

theorem emb4 (o : Nat) (inb : ∀ a, (![0, o] : Fin 2 → Nat) a + S256x1408.size a ≤ S256x5632.size a) (y : S256x5632.Idx) (k : Fin 1408)
    (h : (y 1).val = o + k.val) :
    y = (Rect.unit (s := S256x5632) ![0, o] S256x1408.size inb).emb (ix2 (y 0) k : S256x1408.Idx) :=
  funext fun a => Fin.ext (by
    match a with
    | ⟨0, _⟩ => show (y 0).val = 0 + 1 * (y 0).val; omega
    | ⟨1, _⟩ => show (y 1).val = o + 1 * k.val; omega)

theorem not_mem2 (o : Nat) (inb : ∀ a, (![0, o] : Fin 2 → Nat) a + S256x1408.size a ≤ S256x2816.size a) (y : S256x2816.Idx)
    (h : (y 1).val < o ∨ o + 1408 ≤ (y 1).val) : y ∉ (Rect.unit (s := S256x2816) ![0, o] S256x1408.size inb).set := by
  rw [Rect.mem_set_unit]
  intro hh
  have h1 : o ≤ (y 1).val ∧ (y 1).val < o + 1408 := hh 1
  omega

theorem not_mem4 (o : Nat) (inb : ∀ a, (![0, o] : Fin 2 → Nat) a + S256x1408.size a ≤ S256x5632.size a) (y : S256x5632.Idx)
    (h : (y 1).val < o ∨ o + 1408 ≤ (y 1).val) : y ∉ (Rect.unit (s := S256x5632) ![0, o] S256x1408.size inb).set := by
  rw [Rect.mem_set_unit]
  intro hh
  have h1 : o ≤ (y 1).val ∧ (y 1).val < o + 1408 := hh 1
  omega

/-- A block filled by two strips. -/
theorem canon_cols2 (a b : FVec F S256x1408 .bf16) :
    View.canon [(⟨Rect.unit (s := S256x2816) ![0, 1408] S256x1408.size inb_S256x2816_S256x1408_0_1408, b⟩ : View.Piece (Elt F) S256x2816 .bf16),
      ⟨Rect.unit (s := S256x2816) ![0, 0] S256x1408.size inb_S256x2816_S256x1408_0_0, a⟩] = cols2 a b := by
  funext y
  have hlt : (y 1).val < 2816 := (y 1).isLt
  unfold cols2
  by_cases h0 : (y 1).val < 1408
  · rw [dif_pos h0, canon_skip _ _ _ _ (not_mem2 1408 inb_S256x2816_S256x1408_0_1408 y (by omega))]
    exact canon_at _ _ _ _ _ (emb2 0 inb_S256x2816_S256x1408_0_0 y ⟨(y 1).val, h0⟩ (by dsimp only; omega))
  rw [dif_neg h0]
  exact canon_at _ _ _ _ _ (emb2 1408 inb_S256x2816_S256x1408_0_1408 y ⟨(y 1).val - 1408, by omega⟩ (by dsimp only; omega))

/-- By four. -/
theorem canon_cols4 (a b c d : FVec F S256x1408 .bf16) :
    View.canon [(⟨Rect.unit (s := S256x5632) ![0, 4224] S256x1408.size inb_S256x5632_S256x1408_0_4224, d⟩ : View.Piece (Elt F) S256x5632 .bf16),
      ⟨Rect.unit (s := S256x5632) ![0, 1408] S256x1408.size inb_S256x5632_S256x1408_0_1408, b⟩,
      ⟨Rect.unit (s := S256x5632) ![0, 2816] S256x1408.size inb_S256x5632_S256x1408_0_2816, c⟩,
      ⟨Rect.unit (s := S256x5632) ![0, 0] S256x1408.size inb_S256x5632_S256x1408_0_0, a⟩] = cols4 a b c d := by
  funext y
  have hlt : (y 1).val < 5632 := (y 1).isLt
  unfold cols4
  by_cases h0 : (y 1).val < 1408
  · rw [dif_pos h0, canon_skip _ _ _ _ (not_mem4 4224 inb_S256x5632_S256x1408_0_4224 y (by omega)),
      canon_skip _ _ _ _ (not_mem4 1408 inb_S256x5632_S256x1408_0_1408 y (by omega)),
      canon_skip _ _ _ _ (not_mem4 2816 inb_S256x5632_S256x1408_0_2816 y (by omega))]
    exact canon_at _ _ _ _ _ (emb4 0 inb_S256x5632_S256x1408_0_0 y ⟨(y 1).val, h0⟩ (by dsimp only; omega))
  rw [dif_neg h0]
  by_cases h1 : (y 1).val < 2816
  · rw [dif_pos h1, canon_skip _ _ _ _ (not_mem4 4224 inb_S256x5632_S256x1408_0_4224 y (by omega))]
    exact canon_at _ _ _ _ _ (emb4 1408 inb_S256x5632_S256x1408_0_1408 y ⟨(y 1).val - 1408, by omega⟩ (by dsimp only; omega))
  rw [dif_neg h1]
  by_cases h2 : (y 1).val < 4224
  · rw [dif_pos h2, canon_skip _ _ _ _ (not_mem4 4224 inb_S256x5632_S256x1408_0_4224 y (by omega)),
      canon_skip _ _ _ _ (not_mem4 1408 inb_S256x5632_S256x1408_0_1408 y (by omega))]
    exact canon_at _ _ _ _ _ (emb4 2816 inb_S256x5632_S256x1408_0_2816 y ⟨(y 1).val - 2816, by omega⟩ (by dsimp only; omega))
  rw [dif_neg h2]
  exact canon_at _ _ _ _ _ (emb4 4224 inb_S256x5632_S256x1408_0_4224 y ⟨(y 1).val - 4224, by omega⟩ (by dsimp only; omega))

/-- The first strip of a scratch block, read back after both were written. -/
theorem readCov_first {sg : RefSig} {κ : Kind} {sp : Space} (v : View sg κ sp S256x2816 .f32) (a b : FVec F S256x1408 .f32) :
    v.readCov [(⟨Rect.unit (s := S256x2816) ![0, 1408] ![256, 1408] inb_S256x2816_S256x1408_0_1408, b⟩ : View.Piece (Elt F) S256x2816 .f32),
      ⟨Rect.unit (s := S256x2816) ![0, 0] ![256, 1408] inb_S256x2816_S256x1408_0_0, a⟩]
      (Rect.unit (s := S256x2816) ![0, 0] ![256, 1408] inb_S256x2816_S256x1408_0_0).toLoadRect = a := by
  rw [View.readCov_eq_canon']
  funext y
  have hlt : (y 1).val < 1408 := (y 1).isLt
  refine (canon_skip _ _ _ _ (not_mem2 1408 inb_S256x2816_S256x1408_0_1408 _
    (.inl (show 0 + 1 * (y 1).val < 1408 by omega)))).trans ?_
  exact canon_at _ _ _ _ _ rfl

theorem not_mem_row (k : Nat) (inb : ∀ a, (![k, 0] : Fin 2 → Nat) a + S1x1024.size a ≤ S8x1024.size a) (y : S8x1024.Idx)
    (h : (y 0).val ≠ k) : y ∉ (Rect.unit (s := S8x1024) ![k, 0] S1x1024.size inb).set := by
  rw [Rect.mem_set_unit]
  intro hh
  have h1 : k ≤ (y 0).val ∧ (y 0).val < k + 1 := hh 0
  omega

theorem emb_row (k : Nat) (inb : ∀ a, (![k, 0] : Fin 2 → Nat) a + S1x1024.size a ≤ S8x1024.size a) (y : S8x1024.Idx)
    (h : (y 0).val = k) : y = (Rect.unit (s := S8x1024) ![k, 0] S1x1024.size inb).emb (ix2 (0 : Fin 1) (y 1) : S1x1024.Idx) :=
  funext fun a => Fin.ext (by
    match a with
    | ⟨0, _⟩ => show (y 0).val = k + 1 * 0; omega
    | ⟨1, _⟩ => show (y 1).val = 0 + 1 * (y 1).val; omega)

/-- A load of one of a block's rows. -/
theorem ld_row (k : Fin 8) (inb : ∀ a, (![k.val, 0] : Fin 2 → Nat) a + S1x1024.size a ≤ S8x1024.size a) (o : Vec F S8x1024 .f32) :
    View.ld o (Rect.unit (s := S8x1024) ![k.val, 0] S1x1024.size inb) = row k o :=
  funext fun y => congrArg o (funext fun a => Fin.ext (by
    match a with
    | ⟨0, _⟩ => have := (y 0).isLt; change (y 0).val < 1 at this; show k.val + 1 * (y 0).val = k.val; omega
    | ⟨1, _⟩ => show 0 + 1 * (y 1).val = (y 1).val; omega))

/-- The first row of a block just filled, and the second after the first was overwritten. -/
theorem readCov_row0 {sg : RefSig} {κ : Kind} {sp : Space} (v : View sg κ sp S8x1024 .f32) (o : Vec F S8x1024 .f32) :
    v.readCov [(⟨Rect.unit (s := S8x1024) ![0, 0] ![8, 1024] inb_S8x1024_S8x1024_0_0, o⟩ : View.Piece (Elt F) S8x1024 .f32)]
      (Rect.unit (s := S8x1024) ![0, 0] ![1, 1024] inb_S8x1024_S1x1024_0_0).toLoadRect = row 0 o := by
  rw [View.readCov_eq_canon', View.canon_unit_zero hz]
  exact ld_row 0 inb_S8x1024_S1x1024_0_0 o

theorem readCov_row1 {sg : RefSig} {κ : Kind} {sp : Space} (v : View sg κ sp S8x1024 .f32) (o : Vec F S8x1024 .f32) (w : FVec F S1x1024 .f32) :
    v.readCov [(⟨Rect.unit (s := S8x1024) ![0, 0] ![1, 1024] inb_S8x1024_S1x1024_0_0, w⟩ : View.Piece (Elt F) S8x1024 .f32),
      ⟨Rect.unit (s := S8x1024) ![0, 0] ![8, 1024] inb_S8x1024_S8x1024_0_0, o⟩]
      (Rect.unit (s := S8x1024) ![1, 0] ![1, 1024] inb_S8x1024_S1x1024_1_0).toLoadRect = row 1 o := by
  rw [View.readCov_eq_canon']
  refine Eq.trans (funext fun y => ?_) (ld_row 1 inb_S8x1024_S1x1024_1_0 o)
  refine (canon_skip _ _ _ _ (not_mem_row 0 inb_S8x1024_S1x1024_0_0 _
    (show 1 + 1 * (y 0).val ≠ 0 by omega))).trans ?_
  rw [View.canon_unit_zero hz]
  rfl

/-- A block filled and then overwritten in its first two rows. -/
theorem canon_rows (o : Vec F S8x1024 .f32) (w w' : FVec F S1x1024 .f32) :
    View.canon [(⟨Rect.unit (s := S8x1024) ![1, 0] S1x1024.size inb_S8x1024_S1x1024_1_0, w'⟩ : View.Piece (Elt F) S8x1024 .f32),
      ⟨Rect.unit (s := S8x1024) ![0, 0] S1x1024.size inb_S8x1024_S1x1024_0_0, w⟩,
      ⟨Rect.unit (s := S8x1024) ![0, 0] S8x1024.size inb_S8x1024_S8x1024_0_0, o⟩] = putRows o w w' := by
  funext y
  unfold putRows
  by_cases h : (y 0).val = 0
  · rw [if_pos h, canon_skip _ _ _ _ (not_mem_row 1 inb_S8x1024_S1x1024_1_0 y (by omega))]
    exact canon_at _ _ _ _ _ (emb_row 0 inb_S8x1024_S1x1024_0_0 y h)
  rw [if_neg h]
  by_cases h1 : (y 0).val = 1
  · rw [if_pos h1]
    exact canon_at _ _ _ _ _ (emb_row 1 inb_S8x1024_S1x1024_1_0 y h1)
  · rw [if_neg h1, canon_skip _ _ _ _ (not_mem_row 1 inb_S8x1024_S1x1024_1_0 y h1),
      canon_skip _ _ _ _ (not_mem_row 0 inb_S8x1024_S1x1024_0_0 y h), View.canon_unit_zero hz]

/-- A block overwritten in its first two rows. -/
theorem writes_rows (a : Memref sig .tc .vmem S8x1024 .f32) (ha : a.IsWhole) (o : Vec F S8x1024 .f32)
    (w w' : FVec F S1x1024 .f32) :
    View.read (Elt F) a.view (a.view.writes (Elt F) (ha.unread o)
      [(⟨Rect.unit (s := S8x1024) ![1, 0] S1x1024.size inb_S8x1024_S1x1024_1_0, w'⟩ : View.Piece (Elt F) S8x1024 .f32),
      ⟨Rect.unit (s := S8x1024) ![0, 0] S1x1024.size inb_S8x1024_S1x1024_0_0, w⟩]) = putRows o w w' := by
  funext y
  unfold putRows
  have hlt := (y 0).isLt
  have not1 (h : (y 0).val ≠ 1) : (y 0).val < (![1, 0] : Fin 2 → Nat) 0 ∨ (![1, 0] : Fin 2 → Nat) 0 + S1x1024.size 0 ≤ (y 0).val := by
    rcases Nat.lt_or_gt_of_ne h with h | h
    · exact .inl h
    · exact .inr h
  by_cases h : (y 0).val = 0
  · rw [if_pos h, View.read_writes_cons_unit_of_not_mem _ _ _ _ _ y rfl 0 (not1 (by omega))]
    exact View.read_writes_cons_unit_of_mem _ _ _ _ _ y (ix2 (0 : Fin 1) (y 1)) rfl fun b => by
      match b with
      | ⟨0, _⟩ => show (y 0).val = 0 + 0; omega
      | ⟨1, _⟩ => show (y 1).val = 0 + (y 1).val; omega
  rw [if_neg h]
  by_cases h1 : (y 0).val = 1
  · rw [if_pos h1]
    exact View.read_writes_cons_unit_of_mem _ _ _ _ _ y (ix2 (0 : Fin 1) (y 1)) rfl fun b => by
      match b with
      | ⟨0, _⟩ => show (y 0).val = 1 + 0; omega
      | ⟨1, _⟩ => show (y 1).val = 0 + (y 1).val; omega
  · have h2 : (y 0).val < (![0, 0] : Fin 2 → Nat) 0 ∨ (![0, 0] : Fin 2 → Nat) 0 + S1x1024.size 0 ≤ (y 0).val := by
      right; show 0 + 1 ≤ (y 0).val; omega
    rw [if_neg h1, View.read_writes_cons_unit_of_not_mem _ _ _ _ _ y rfl 0 (not1 h1),
      View.read_writes_cons_unit_of_not_mem _ _ _ _ _ y rfl 0 h2, View.writes_nil]
    exact congrFun (ha.read_unread o) y

variable (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S1x1024 .f32) (harg3 : arg3.IsWhole)
    (arg4 : Memref sig .tc .vmem S4x1024x1408 .bf16) (harg4 : arg4.IsWhole)
    (arg5 : Memref sig .tc .vmem S2816x1024 .bf16) (harg5 : arg5.IsWhole)
    (arg6 : Memref sig .tc .vmem S256x1024 .f32) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S256x2816 .bf16) (harg9 : arg9.IsWhole)
    (arg10 : Memref sig .tc .vmem S256x1024 .bf16) (harg10 : arg10.IsWhole)
    (arg11 : Memref sig .tc .vmem S256x5632 .bf16) (harg11 : arg11.IsWhole)
    (arg12 : Memref sig .tc .vmem S8x1024 .f32) (harg12 : arg12.IsWhole)
    (arg13 : Memref sig .tc .vmem S256x2816 .f32) (harg13 : arg13.IsWhole)
    (arg14 : Memref sig .tc .vmem S256x2816 .f32) (harg14 : arg14.IsWhole)
    (x0 x1 : Vec F S256x1024 .f32) (x2 : Vec F S1x1024 .f32) (x3 : Vec F S4x1024x1408 .bf16) (x4 : Vec F S2816x1024 .bf16)

/-- At the first point: the gradient of the rows. -/
theorem out_A_5 (hc0 : cond0_0 i) : out0_A_5 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = dh x0 x1 x2 x3 x4 := by
  unfold out0_A_5
  rw [View.read_writes_eq_canon _ _ _ (cover0_A_5 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At the first point: the same in the narrow format. -/
theorem out_A_6 (hc0 : cond0_0 i) : out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = dhb x0 x1 x2 x3 x4 := by
  unfold out0_A_6
  rw [View.read_writes_eq_canon _ _ _ (cover0_A_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At the first point: the normalized rows. -/
theorem out_A_7 (hc0 : cond0_0 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = hn x0 x2 := by
  unfold out0_A_7
  rw [View.read_writes_eq_canon _ _ _ (cover0_A_7 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At the first point: the activations. -/
theorem out_A_8 (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = cols2 (act0 x0 x2 x3) (act1 x0 x2 x3) := by
  unfold out0_A_8
  rw [View.read_writes_eq_canon _ _ _ (cover0_A_8 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  exact canon_cols2 _ _

/-- At the first point: the gradient of the error. -/
theorem out_A_9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = doutb x0 x1 x2 x3 x4 := by
  unfold out0_A_9
  rw [View.read_writes_eq_canon _ _ _ (cover0_A_9 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At the first point: the gradients of gate and up. -/
theorem out_A_10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = cols4 (dg0 x0 x1 x2 x3 x4) (dg1 x0 x1 x2 x3 x4) (k0_pay27 (du0 x0 x1 x2 x3 x4)) (du1 x0 x1 x2 x3 x4) := by
  unfold out0_A_10
  rw [View.read_writes_eq_canon _ _ _ (cover0_A_10 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  exact canon_cols4 _ _ _ _

/-- At a later point: the gradient of the rows. -/
theorem out_B_5 (hc0 : ¬cond0_0 i) (xo11 : Vec F S8x1024 .f32) : out0_B_5 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = dh x0 x1 x2 x3 x4 := by
  unfold out0_B_5
  rw [View.read_writes_eq_canon _ _ _ (cover0_B_5 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At a later point: the same in the narrow format. -/
theorem out_B_6 (hc0 : ¬cond0_0 i) (xo11 : Vec F S8x1024 .f32) : out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = dhb x0 x1 x2 x3 x4 := by
  unfold out0_B_6
  rw [View.read_writes_eq_canon _ _ _ (cover0_B_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At a later point: the normalized rows. -/
theorem out_B_7 (hc0 : ¬cond0_0 i) (xo11 : Vec F S8x1024 .f32) : out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = hn x0 x2 := by
  unfold out0_B_7
  rw [View.read_writes_eq_canon _ _ _ (cover0_B_7 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At a later point: the activations. -/
theorem out_B_8 (hc0 : ¬cond0_0 i) (xo11 : Vec F S8x1024 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = cols2 (act0 x0 x2 x3) (act1 x0 x2 x3) := by
  unfold out0_B_8
  rw [View.read_writes_eq_canon _ _ _ (cover0_B_8 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  exact canon_cols2 _ _

/-- At a later point: the gradient of the error. -/
theorem out_B_9 (hc0 : ¬cond0_0 i) (xo11 : Vec F S8x1024 .f32) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = doutb x0 x1 x2 x3 x4 := by
  unfold out0_B_9
  rw [View.read_writes_eq_canon _ _ _ (cover0_B_9 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  rw [View.canon_unit_zero hz]
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  rfl

/-- At a later point: the gradients of gate and up. -/
theorem out_B_10 (hc0 : ¬cond0_0 i) (xo11 : Vec F S8x1024 .f32) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = cols4 (dg0 x0 x1 x2 x3 x4) (dg1 x0 x1 x2 x3 x4) (k0_pay27 (du0 x0 x1 x2 x3 x4)) (du1 x0 x1 x2 x3 x4) := by
  unfold out0_B_10
  rw [View.read_writes_eq_canon _ _ _ (cover0_B_10 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11)]
  unfold kernelRun0_B
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  exact canon_cols4 _ _ _ _

/-- At the first point: the rows of sums. -/
theorem out_A_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4
    = putRows k0_pay3 (gains x0 x1 x2 x3 x4 (row 0 k0_pay3)) (squares x0 x1 x2 x3 x4 (row 1 k0_pay3)) := by
  unfold out0_A_11
  rw [View.read_writes_eq_canon _ _ _ (cover0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  simp only [readCov_row0, readCov_row1]
  exact canon_rows k0_pay3 _ _

/-- At a later point: the rows of sums. -/
theorem out_B_11 (hc0 : ¬cond0_0 i) (xo11 : Vec F S8x1024 .f32) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo11
    = putRows xo11 (gains x0 x1 x2 x3 x4 (row 0 xo11)) (squares x0 x1 x2 x3 x4 (row 1 xo11)) := by
  unfold out0_B_11
  unfold kernelRun0_B
  dsimp only
  sl_unfold_words
  simp only [View.readAt_eq_ld, harg1.read_unread, harg2.read_unread, harg3.read_unread, harg4.read_unread, harg5.read_unread,
    harg12.read_unread, View.readCov_cons_toLoadRect, readCov_first, View.ld_unit_zero (S := S256x1024) hz, View.ld_unit_zero (S := S1x1024) hz]
  refine (writes_rows arg12 harg12 xo11 _ _).trans (congrArg₂ (putRows xo11) ?_ ?_)
  · rw [show View.ld xo11 (Rect.unit ![0, 0] ![1, 1024] inb_S8x1024_S1x1024_0_0) = row 0 xo11 from ld_row 0 inb_S8x1024_S1x1024_0_0 xo11]
    rfl
  · refine congrArg (squares x0 x1 x2 x3 x4) ?_
    exact ld_row 1 inb_S8x1024_S1x1024_1_0 xo11

end Cert.KernelFfnIdeal.Pieces

end
-- ==== Proof.FfnReal.lean ====
/-
  The real numbers of the feed-forward block and its gradient, row by row.
-/
module

public import proofs.«01_k».proof.Proof.Lane

@[expose] public section

noncomputable section

namespace Cert.Ffn

/-- The first and the second half of the hidden columns. -/
def lo (j : Fin 1408) : Fin 2816 := ⟨j.val, by omega⟩
def hi (j : Fin 1408) : Fin 2816 := ⟨1408 + j.val, by omega⟩

theorem sum_halves (f : Fin 2816 → ℝ) : ∑ j, f j = ∑ j, f (lo j) + ∑ j, f (hi j) :=
  Fin.sum_univ_add (a := 1408) (b := 1408) f

theorem half_cases (j : Fin 2816) : (∃ i, j = lo i) ∨ ∃ i, j = hi i := by
  by_cases h : j.val < 1408
  · exact .inl ⟨⟨j.val, h⟩, rfl⟩
  · exact .inr ⟨⟨j.val - 1408, by omega⟩, Fin.ext (show j.val = 1408 + (j.val - 1408) by omega)⟩

/-- One row, its target, the gains and the weights. -/
structure Row where
  x : Fin 1024 → ℝ
  y : Fin 1024 → ℝ
  G : Fin 1024 → ℝ
  Wg : Fin 1024 → Fin 2816 → ℝ
  Wu : Fin 1024 → Fin 2816 → ℝ
  D : Fin 2816 → Fin 1024 → ℝ

namespace Row

variable (R : Row)

def msq : ℝ := (∑ k, R.x k * R.x k) / 1024 + eps
def rms : ℝ := (Real.sqrt R.msq)⁻¹
def hat (k : Fin 1024) : ℝ := R.x k * R.rms
def hn (k : Fin 1024) : ℝ := R.hat k * R.G k
def gate (j : Fin 2816) : ℝ := ∑ k, R.hn k * R.Wg k j
def up (j : Fin 2816) : ℝ := ∑ k, R.hn k * R.Wu k j
def sg (j : Fin 2816) : ℝ := 1 / (1 + Real.exp (-R.gate j))
def act (j : Fin 2816) : ℝ := R.gate j * R.sg j * R.up j
def err (k : Fin 1024) : ℝ := R.x k + (∑ j, R.act j * R.D j k) - R.y k
def dout (k : Fin 1024) : ℝ := R.err k * (1 / 1024)
def dact (j : Fin 2816) : ℝ := ∑ k, R.dout k * R.D j k
def dgate (j : Fin 2816) : ℝ := R.dact j * R.up j * (R.sg j * (1 + R.gate j * (1 - R.sg j)))
def dup (j : Fin 2816) : ℝ := R.dact j * (R.gate j * R.sg j)
def dhn (k : Fin 1024) : ℝ := ∑ j, R.dgate j * R.Wg k j + ∑ j, R.dup j * R.Wu k j
def dhh (k : Fin 1024) : ℝ := R.dhn k * R.G k
def dx (k : Fin 1024) : ℝ := R.dout k + R.rms * (R.dhh k - R.hat k * ((∑ d, R.dhh d * R.hat d) / 1024))

theorem msq_pos : 0 < R.msq :=
  add_pos_of_nonneg_of_pos (div_nonneg (Finset.sum_nonneg fun d _ => mul_self_nonneg _) (by norm_num)) eps_pos

theorem one_add_exp_ne (j : Fin 2816) : (1 + Real.exp (-R.gate j)) ≠ 0 := by positivity

end Row

/-- A function of numbers below `n` as one of all numbers. -/
def ext {n : ℕ} (f : Fin n → ℝ) (k : ℕ) : ℝ := if h : k < n then f ⟨k, h⟩ else 0

theorem ext_val {n : ℕ} (f : Fin n → ℝ) (k : Fin n) : ext f k.val = f k := dif_pos k.isLt

/-- The arguments. -/
structure Args where
  h : ℕ → Fin 1024 → ℝ
  t : ℕ → Fin 1024 → ℝ
  g : Fin 1024 → ℝ
  wf : Fin 4 → Fin 1024 → Fin 1408 → ℝ
  wd : Fin 2816 → Fin 1024 → ℝ

namespace Args

variable (A : Args)

/-- The first weight's columns, and of these the gate's and the other half. -/
def w (k : Fin 1024) (j : Fin 5632) : ℝ := A.wf ⟨j.val / 1408, by omega⟩ k ⟨j.val % 1408, by omega⟩
def wg (k : Fin 1024) (j : Fin 2816) : ℝ := A.w k ⟨j.val, by omega⟩
def wu (k : Fin 1024) (j : Fin 2816) : ℝ := A.w k ⟨2816 + j.val, by omega⟩

/-- A row of the arguments. -/
def row (r : ℕ) : Row := ⟨A.h r, A.t r, A.g, A.wg, A.wu, A.wd⟩

theorem w_of (z : Fin 4) (k : Fin 1024) (j : Fin 1408) (J : Fin 5632) (h : J.val = z.val * 1408 + j.val) : A.w k J = A.wf z k j := by
  have hz : (⟨J.val / 1408, by omega⟩ : Fin 4) = z := Fin.ext (show J.val / 1408 = z.val by omega)
  have hj : (⟨J.val % 1408, by omega⟩ : Fin 1408) = j := Fin.ext (show J.val % 1408 = j.val by omega)
  unfold w
  rw [hz, hj]

/-- The gradients of gate and up side by side. -/
def dgu (r : ℕ) (j : Fin 5632) : ℝ :=
  if h : j.val < 2816 then (A.row r).dgate ⟨j.val, h⟩ else (A.row r).dup ⟨j.val - 2816, by omega⟩

/-- The two rows of sums over all rows, and six of zeros. -/
def stats (n : ℕ) (k : Fin 1024) : ℝ :=
  if n = 0 then ∑ r : Fin 8192, (A.row r).dhn k * (A.row r).hat k
  else if n = 1 then ∑ r : Fin 8192, (A.row r).err k * (A.row r).err k else 0

end Args

end Cert.Ffn

end
-- ==== Proof.FfnRead.lean ====
/-
  The stages of the feed-forward body at the ideal values: given the reals its blocks hold, every entry is the matching
  number of its row.
-/
module

public import proofs.«01_k».proof.Proof.FfnPieces
public import proofs.«01_k».proof.Proof.FfnReal
public import proofs.«01_k».proof.Proof.TileRead
public import Idealize.ShloMosaic.Lib.Pointwise

@[expose] public section

set_option synthInstance.maxSize 4096

noncomputable section

namespace Cert.KernelFfnIdeal.Pieces

open Idealize.ShloMosaic Idealize.SL.Sem
open Cert Cert.Ffn Cert.KernelFfnIdeal Cert.KernelFfnIdeal.Gen

theorem word_1024 : Ideal.ofBits .f32 0x44800000#32 = ((1024 : ℝ) : EReal) := by
  simp [Ideal.ofBits, Ideal.ieee, -EReal.coe_mul]; norm_num

theorem word_1024th : Ideal.ofBits .f32 0x3A800000#32 = ((1 / 1024 : ℝ) : EReal) := by
  simp [Ideal.ofBits, Ideal.ieee, -EReal.coe_mul]; norm_num

theorem logistic_real (x : ℝ) : Ideal.div 1 (1 + Ideal.exp (-(x : EReal))) = ((1 / (1 + Real.exp (-x)) : ℝ) : EReal) := by
  rw [← EReal.coe_one, ← EReal.coe_neg, Ideal.exp_coe, ← EReal.coe_add, div_real (by positivity)]

/-- The blocks hold the reals of 256 rows. -/
structure Reads (x0 x1 : Vec Ideal S256x1024 .f32) (x2 : Vec Ideal S1x1024 .f32) (x3 : Vec Ideal S4x1024x1408 .bf16)
    (x4 : Vec Ideal S2816x1024 .bf16) (ρ : Fin 256 → Row) : Prop where
  x : ∀ r k, x0 (ix2 r k) = ((ρ r).x k : EReal)
  y : ∀ r k, x1 (ix2 r k) = ((ρ r).y k : EReal)
  g : ∀ r k, x2 (ix2 0 k) = ((ρ r).G k : EReal)
  w0 : ∀ r k j, x3 (ix3 0 k j) = ((ρ r).Wg k (lo j) : EReal)
  w1 : ∀ r k j, x3 (ix3 1 k j) = ((ρ r).Wg k (hi j) : EReal)
  w2 : ∀ r k j, x3 (ix3 2 k j) = ((ρ r).Wu k (lo j) : EReal)
  w3 : ∀ r k j, x3 (ix3 3 k j) = ((ρ r).Wu k (hi j) : EReal)
  d : ∀ r j k, x4 (ix2 j k) = ((ρ r).D j k : EReal)

theorem w0_apply (x3 : Vec Ideal S4x1024x1408 .bf16) (k : Fin 1024) (j : Fin 1408) : w0 x3 (ix3 0 k j) = x3 (ix3 0 k j) :=
  congrArg x3 (funext fun a => Fin.ext (by match a with
    | ⟨0, _⟩ => rfl | ⟨1, _⟩ => exact (show 0 + 1 * k.val = k.val by omega) | ⟨2, _⟩ => exact (show 0 + 1 * j.val = j.val by omega)))

theorem w1_apply (x3 : Vec Ideal S4x1024x1408 .bf16) (k : Fin 1024) (j : Fin 1408) : w1 x3 (ix3 0 k j) = x3 (ix3 1 k j) :=
  congrArg x3 (funext fun a => Fin.ext (by match a with
    | ⟨0, _⟩ => rfl | ⟨1, _⟩ => exact (show 0 + 1 * k.val = k.val by omega) | ⟨2, _⟩ => exact (show 0 + 1 * j.val = j.val by omega)))

theorem w2_apply (x3 : Vec Ideal S4x1024x1408 .bf16) (k : Fin 1024) (j : Fin 1408) : w2 x3 (ix3 0 k j) = x3 (ix3 2 k j) :=
  congrArg x3 (funext fun a => Fin.ext (by match a with
    | ⟨0, _⟩ => rfl | ⟨1, _⟩ => exact (show 0 + 1 * k.val = k.val by omega) | ⟨2, _⟩ => exact (show 0 + 1 * j.val = j.val by omega)))

theorem w3_apply (x3 : Vec Ideal S4x1024x1408 .bf16) (k : Fin 1024) (j : Fin 1408) : w3 x3 (ix3 0 k j) = x3 (ix3 3 k j) :=
  congrArg x3 (funext fun a => Fin.ext (by match a with
    | ⟨0, _⟩ => rfl | ⟨1, _⟩ => exact (show 0 + 1 * k.val = k.val by omega) | ⟨2, _⟩ => exact (show 0 + 1 * j.val = j.val by omega)))

theorem d0_apply (x4 : Vec Ideal S2816x1024 .bf16) (j : Fin 1408) (k : Fin 1024) : d0 x4 (ix2 j k) = x4 (ix2 (lo j) k) :=
  congrArg x4 (funext fun a => Fin.ext (by match a with
    | ⟨0, _⟩ => exact (show 0 + 1 * j.val = j.val by omega) | ⟨1, _⟩ => exact (show 0 + 1 * k.val = k.val by omega)))

theorem d1_apply (x4 : Vec Ideal S2816x1024 .bf16) (j : Fin 1408) (k : Fin 1024) : d1 x4 (ix2 j k) = x4 (ix2 (hi j) k) :=
  congrArg x4 (funext fun a => Fin.ext (by match a with
    | ⟨0, _⟩ => exact (show 1408 + 1 * j.val = 1408 + j.val by omega) | ⟨1, _⟩ => exact (show 0 + 1 * k.val = k.val by omega)))

variable {x0 x1 : Vec Ideal S256x1024 .f32} {x2 : Vec Ideal S1x1024 .f32} {x3 : Vec Ideal S4x1024x1408 .bf16}
    {x4 : Vec Ideal S2816x1024 .bf16} {ρ : Fin 256 → Row} (H : Reads x0 x1 x2 x3 x4 ρ)

include H

theorem Reads.rms (r : Fin 256) : k0_pay4 x0 (ix2 r 0) = ((ρ r).rms : EReal) := by
  pointwise [k0_pay4]
  simp only [H.x, word_1024, word_eps, ← EReal.coe_mul, sum_coe]
  rw [div_real (by norm_num), ← EReal.coe_add]
  exact rsqrt_real (ρ r).msq_pos

theorem Reads.hat (r : Fin 256) (k : Fin 1024) : k0_pay5 x0 (ix2 r k) = ((ρ r).hat k : EReal) := by
  pointwise [k0_pay5]
  rw [H.x, H.rms, ← EReal.coe_mul]; rfl

theorem Reads.hn (r : Fin 256) (k : Fin 1024) : hn x0 x2 (ix2 r k) = ((ρ r).hn k : EReal) := by
  pointwise [Pieces.hn, k0_pay6]
  rw [H.hat, H.g r, ← EReal.coe_mul]; rfl

theorem Reads.g0 (r : Fin 256) (j : Fin 1408) : g0 x0 x2 x3 (ix2 r j) = ((ρ r).gate (lo j) : EReal) := by
  pointwise [Pieces.g0, k0_pay7, dot_S256x1024_S1024x1408_S256x1408_1_0_0_1_n_n]
  simp only [show k0_pay6 x0 x2 = Pieces.hn x0 x2 from rfl, H.hn, w0_apply, H.w0 r, ← EReal.coe_mul, sum_coe]
  rfl

theorem Reads.u0 (r : Fin 256) (j : Fin 1408) : u0 x0 x2 x3 (ix2 r j) = ((ρ r).up (lo j) : EReal) := by
  pointwise [Pieces.u0, k0_pay8, dot_S256x1024_S1024x1408_S256x1408_1_0_0_1_n_n]
  simp only [show k0_pay6 x0 x2 = Pieces.hn x0 x2 from rfl, H.hn, w2_apply, H.w2 r, ← EReal.coe_mul, sum_coe]
  rfl

theorem Reads.g1 (r : Fin 256) (j : Fin 1408) : g1 x0 x2 x3 (ix2 r j) = ((ρ r).gate (hi j) : EReal) := by
  pointwise [Pieces.g1, k0_pay13, dot_S256x1024_S1024x1408_S256x1408_1_0_0_1_n_n]
  simp only [H.hn, w1_apply, H.w1 r, ← EReal.coe_mul, sum_coe]
  rfl

theorem Reads.u1 (r : Fin 256) (j : Fin 1408) : u1 x0 x2 x3 (ix2 r j) = ((ρ r).up (hi j) : EReal) := by
  pointwise [Pieces.u1, k0_pay14, dot_S256x1024_S1024x1408_S256x1408_1_0_0_1_n_n]
  simp only [H.hn, w3_apply, H.w3 r, ← EReal.coe_mul, sum_coe]
  rfl

theorem Reads.s1 (r : Fin 256) (j : Fin 1408) : s1 x0 x2 x3 (ix2 r j) = (((ρ r).gate (hi j) * (ρ r).sg (hi j) : ℝ) : EReal) := by
  pointwise [Pieces.s1, k0_pay17]
  simp only [show k0_pay13 (Pieces.hn x0 x2) (Pieces.w1 x3) = Pieces.g1 x0 x2 x3 from rfl, H.g1, zero_sub, logistic_real, ← EReal.coe_mul]
  rfl

theorem Reads.act0 (r : Fin 256) (j : Fin 1408) : act0 x0 x2 x3 (ix2 r j) = ((ρ r).act (lo j) : EReal) := by
  pointwise [Pieces.act0, k0_pay11]
  simp only [H.g0, H.u0, zero_sub, logistic_real, ← EReal.coe_mul]
  rfl

theorem Reads.act1 (r : Fin 256) (j : Fin 1408) : act1 x0 x2 x3 (ix2 r j) = ((ρ r).act (hi j) : EReal) := by
  pointwise [Pieces.act1, k0_pay18]
  rw [H.s1, H.u1, ← EReal.coe_mul]; rfl

theorem Reads.part (r : Fin 256) (k : Fin 1024) : part x0 x2 x3 x4 (ix2 r k) =
    (((ρ r).x k + ∑ j, (ρ r).act (lo j) * (ρ r).D (lo j) k : ℝ) : EReal) := by
  pointwise [Pieces.part, k0_pay12, dot_S256x1408_S1408x1024_S256x1024_1_0_0_1_n_n]
  simp only [show k0_pay11 (Pieces.g0 x0 x2 x3) (Pieces.u0 x0 x2 x3) = Pieces.act0 x0 x2 x3 from rfl, H.x, H.act0, d0_apply, H.d r,
    ← EReal.coe_mul, sum_coe, ← EReal.coe_add]

theorem Reads.err (r : Fin 256) (k : Fin 1024) : err x0 x1 x2 x3 x4 (ix2 r k) = ((ρ r).err k : EReal) := by
  pointwise [Pieces.err, k0_pay19, dot_S256x1408_S1408x1024_S256x1024_1_0_0_1_n_n]
  simp only [show k0_pay18 (Pieces.u1 x0 x2 x3) (Pieces.s1 x0 x2 x3) = Pieces.act1 x0 x2 x3 from rfl, H.part, H.act1, d1_apply, H.d r, H.y,
    ← EReal.coe_mul, sum_coe, ← EReal.coe_add, ← EReal.coe_sub]
  rw [Row.err, sum_halves, ← add_assoc]

theorem Reads.dout (r : Fin 256) (k : Fin 1024) : dout x0 x1 x2 x3 x4 (ix2 r k) = ((ρ r).dout k : EReal) := by
  pointwise [Pieces.dout, k0_pay20]
  simp only [show k0_pay19 (Pieces.part x0 x2 x3 x4) (Pieces.u1 x0 x2 x3) (Pieces.s1 x0 x2 x3) (Pieces.d1 x4) x1 = Pieces.err x0 x1 x2 x3 x4 from rfl, H.err,
    word_1024th, ← EReal.coe_mul]
  rfl

theorem Reads.doutb (r : Fin 256) (k : Fin 1024) : doutb x0 x1 x2 x3 x4 (ix2 r k) = ((ρ r).dout k : EReal) := by
  pointwise [Pieces.doutb, k0_pay21]
  exact H.dout r k

/-- The gradient of the activations. -/
theorem Reads.dact0 (r : Fin 256) (j : Fin 1408) :
    k0_pay23 (Pieces.part x0 x2 x3 x4) (Pieces.u1 x0 x2 x3) (Pieces.s1 x0 x2 x3) (Pieces.d1 x4) x1 (Pieces.d0 x4) (ix2 r j) = ((ρ r).dact (lo j) : EReal) := by
  pointwise [k0_pay23, dot_S256x1024_S1408x1024_S256x1408_1_1_0_0_n_n]
  simp only [show k0_pay21 (Pieces.part x0 x2 x3 x4) (Pieces.u1 x0 x2 x3) (Pieces.s1 x0 x2 x3) (Pieces.d1 x4) x1 = Pieces.doutb x0 x1 x2 x3 x4 from rfl,
    H.doutb, d0_apply, H.d r, ← EReal.coe_mul, sum_coe]
  rfl

theorem Reads.dact1 (r : Fin 256) (j : Fin 1408) :
    k0_pay29 (Pieces.doutb x0 x1 x2 x3 x4) (Pieces.d1 x4) (ix2 r j) = ((ρ r).dact (hi j) : EReal) := by
  pointwise [k0_pay29, dot_S256x1024_S1408x1024_S256x1408_1_1_0_0_n_n]
  simp only [H.doutb, d1_apply, H.d r, ← EReal.coe_mul, sum_coe]
  rfl

theorem Reads.g0' (r : Fin 256) (j : Fin 1408) : k0_pay9 x0 x2 (Pieces.w0 x3) (ix2 r j) = ((ρ r).gate (lo j) : EReal) := by
  pointwise [k0_pay9]
  exact H.g0 r j

theorem Reads.u0' (r : Fin 256) (j : Fin 1408) : k0_pay10 x0 x2 (Pieces.w2 x3) (ix2 r j) = ((ρ r).up (lo j) : EReal) := by
  pointwise [k0_pay10]
  exact H.u0 r j

theorem Reads.g1' (r : Fin 256) (j : Fin 1408) : k0_pay15 (Pieces.hn x0 x2) (Pieces.w1 x3) (ix2 r j) = ((ρ r).gate (hi j) : EReal) := by
  pointwise [k0_pay15]
  exact H.g1 r j

theorem Reads.u1' (r : Fin 256) (j : Fin 1408) : k0_pay16 (Pieces.hn x0 x2) (Pieces.w3 x3) (ix2 r j) = ((ρ r).up (hi j) : EReal) := by
  pointwise [k0_pay16]
  exact H.u1 r j

theorem Reads.sg0 (r : Fin 256) (j : Fin 1408) : k0_pay24 (k0_pay9 x0 x2 (Pieces.w0 x3)) (ix2 r j) = ((ρ r).sg (lo j) : EReal) := by
  pointwise [k0_pay24]
  simp only [H.g0', zero_sub, logistic_real]
  rfl

theorem Reads.sg1 (r : Fin 256) (j : Fin 1408) : k0_pay30 (k0_pay15 (Pieces.hn x0 x2) (Pieces.w1 x3)) (ix2 r j) = ((ρ r).sg (hi j) : EReal) := by
  pointwise [k0_pay30]
  simp only [H.g1', zero_sub, logistic_real]
  rfl

theorem Reads.dg0 (r : Fin 256) (j : Fin 1408) : dg0 x0 x1 x2 x3 x4 (ix2 r j) = ((ρ r).dgate (lo j) : EReal) := by
  pointwise [Pieces.dg0, k0_pay25]
  simp only [H.dact0, H.u0', H.sg0, H.g0', ← EReal.coe_one, ← EReal.coe_mul, ← EReal.coe_sub, ← EReal.coe_add]
  rfl

theorem Reads.du0 (r : Fin 256) (j : Fin 1408) : du0 x0 x1 x2 x3 x4 (ix2 r j) = ((ρ r).dup (lo j) : EReal) := by
  pointwise [Pieces.du0, k0_pay26]
  simp only [H.dact0, H.sg0, H.g0', ← EReal.coe_mul]
  rfl

theorem Reads.dg1 (r : Fin 256) (j : Fin 1408) : dg1 x0 x1 x2 x3 x4 (ix2 r j) = ((ρ r).dgate (hi j) : EReal) := by
  pointwise [Pieces.dg1, k0_pay31]
  simp only [H.dact1, H.u1', H.sg1, H.g1', ← EReal.coe_one, ← EReal.coe_mul, ← EReal.coe_sub, ← EReal.coe_add]
  rfl

theorem Reads.du1 (r : Fin 256) (j : Fin 1408) : du1 x0 x1 x2 x3 x4 (ix2 r j) = ((ρ r).dup (hi j) : EReal) := by
  pointwise [Pieces.du1, k0_pay32]
  simp only [H.dact1, H.sg1, H.g1', ← EReal.coe_mul]
  rfl

theorem Reads.dhn0 (r : Fin 256) (k : Fin 1024) : dhn0 x0 x1 x2 x3 x4 (ix2 r k) =
    ((∑ j, (ρ r).dgate (lo j) * (ρ r).Wg k (lo j) + ∑ j, (ρ r).dup (lo j) * (ρ r).Wu k (lo j) : ℝ) : EReal) := by
  pointwise [Pieces.dhn0, k0_pay28, k0_pay27, k0_pay22, dot_S256x1408_S1024x1408_S256x1024_1_1_0_0_n_n]
  simp only [H.dg0, H.du0, w0_apply, w2_apply, H.w0 r, H.w2 r, ← EReal.coe_mul, sum_coe, ← EReal.coe_add]

theorem Reads.dhn (r : Fin 256) (k : Fin 1024) : dhn x0 x1 x2 x3 x4 (ix2 r k) = ((ρ r).dhn k : EReal) := by
  pointwise [Pieces.dhn, k0_pay33, dot_S256x1408_S1024x1408_S256x1024_1_1_0_0_n_n]
  simp only [H.dhn0, H.dg1, H.du1, w1_apply, w3_apply, H.w1 r, H.w3 r, ← EReal.coe_mul, sum_coe, ← EReal.coe_add]
  rw [Row.dhn, sum_halves, sum_halves fun j => (ρ r).dup j * _]
  congr 1
  ring

theorem Reads.dhh (r : Fin 256) (k : Fin 1024) : dhh x0 x1 x2 x3 x4 (ix2 r k) = ((ρ r).dhh k : EReal) := by
  pointwise [Pieces.dhh, k0_pay36]
  rw [show k0_pay33 (Pieces.dhn0 x0 x1 x2 x3 x4) (Pieces.dg1 x0 x1 x2 x3 x4) (Pieces.du1 x0 x1 x2 x3 x4) (Pieces.w1 x3) (Pieces.w3 x3)
    = Pieces.dhn x0 x1 x2 x3 x4 from rfl, H.dhn, H.g r, ← EReal.coe_mul]
  rfl

theorem Reads.inner (r : Fin 256) : inner x0 x1 x2 x3 x4 (ix2 r 0) = ((∑ k, (ρ r).dhh k * (ρ r).hat k : ℝ) : EReal) := by
  pointwise [Pieces.inner, k0_pay37]
  simp only [show k0_pay36 (Pieces.dhn0 x0 x1 x2 x3 x4) (Pieces.dg1 x0 x1 x2 x3 x4) (Pieces.du1 x0 x1 x2 x3 x4) (Pieces.w1 x3) (Pieces.w3 x3) x2
    = Pieces.dhh x0 x1 x2 x3 x4 from rfl, H.dhh, H.hat, ← EReal.coe_mul, sum_coe]

theorem Reads.dh (r : Fin 256) (k : Fin 1024) : dh x0 x1 x2 x3 x4 (ix2 r k) = ((ρ r).dx k : EReal) := by
  pointwise [Pieces.dh, k0_pay1]
  rw [H.inner, word_1024, div_real (by norm_num)]
  simp only [H.dout, H.rms, H.dhh, H.hat, ← EReal.coe_mul, ← EReal.coe_sub, ← EReal.coe_add]
  rfl

theorem Reads.dhb (r : Fin 256) (k : Fin 1024) : dhb x0 x1 x2 x3 x4 (ix2 r k) = ((ρ r).dx k : EReal) := by
  pointwise [Pieces.dhb, k0_pay2]
  exact H.dh r k

theorem Reads.gains (o : Vec Ideal S1x1024 .f32) (k : Fin 1024) : gains x0 x1 x2 x3 x4 o (ix2 0 k) =
    o (ix2 0 k) + ((∑ r, (ρ r).dhn k * (ρ r).hat k : ℝ) : EReal) := by
  pointwise [Pieces.gains, k0_pay34]
  simp only [show k0_pay33 (Pieces.dhn0 x0 x1 x2 x3 x4) (Pieces.dg1 x0 x1 x2 x3 x4) (Pieces.du1 x0 x1 x2 x3 x4) (Pieces.w1 x3) (Pieces.w3 x3)
    = Pieces.dhn x0 x1 x2 x3 x4 from rfl, H.dhn, H.hat, ← EReal.coe_mul, sum_coe]

theorem Reads.squares (o : Vec Ideal S1x1024 .f32) (k : Fin 1024) : squares x0 x1 x2 x3 x4 o (ix2 0 k) =
    o (ix2 0 k) + ((∑ r, (ρ r).err k * (ρ r).err k : ℝ) : EReal) := by
  pointwise [Pieces.squares, k0_pay35]
  simp only [H.err, ← EReal.coe_mul, sum_coe]

end Cert.KernelFfnIdeal.Pieces

end
-- ==== Proof.FfnArrays.lean ====
/-
  What the feed-forward kernel's seven result arrays hold after the run, when the arguments are real.
-/
module

public import proofs.«01_k».proof.Proof.FfnRead
public import Idealize.ShloMosaic.Lib.Pipeline.ValueKit

@[expose] public section

set_option synthInstance.maxSize 4096

noncomputable section

namespace Cert.KernelFfnIdeal.Arrays

open Cert Cert.Ffn Cert.KernelFfnIdeal Cert.KernelFfnIdeal.Gen Idealize.ShloMosaic Idealize.ShloMosaic.TcCoe Idealize.SL.Sem
open Idealize.ShloMosaic.Pipeline (Dat)
open Pieces

/-- The memory's arguments are the reals `A`. -/
structure Holds (m : (ℓ : Loc nD τ sig) → Buf (Elt Ideal) ℓ) (c : Dev nD) (A : Args) : Prop where
  h : ∀ (r : Fin 8192) (k : Fin 1024), m ((c : Thread nD τ).loc main_arg0) (ix2 r k) = (A.h r k : EReal)
  t : ∀ (r : Fin 8192) (k : Fin 1024), m ((c : Thread nD τ).loc main_arg1) (ix2 r k) = (A.t r k : EReal)
  g : ∀ k : Fin 1024, m ((c : Thread nD τ).loc main_arg2) (ix1 k) = (A.g k : EReal)
  wf : ∀ (z : Fin 4) (k : Fin 1024) (j : Fin 1408), m ((c : Thread nD τ).loc main_arg3) (ix3 z k j) = (A.wf z k j : EReal)
  wd : ∀ (j : Fin 2816) (k : Fin 1024), m ((c : Thread nD τ).loc main_arg4) (ix2 j k) = (A.wd j k : EReal)

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt32 (t : Fin cfg0.N) : t.val < 32 := lt_of_lt_of_eq t.isLt N_0

/-- The gains as the kernel gets them: a block of one row. -/
theorem v0 (k : Fin 1024) : V m c main_v0 (ix2 0 k) = m ((c : Thread nD τ).loc main_arg2) (ix1 k) := by
  show StableHlo.after _ _ (Proc.devRef .tc main_v0) _ = _
  simp only [hostOps0, List.flatten_cons, List.flatten_nil, List.append_nil, List.cons_append, List.nil_append]
  after_results_simp
  pointwise

theorem blk0 (r : Fin 256) (k : Fin 1024) : (iblk m c 0 t : Vec Ideal S256x1024 .f32) (ix2 r k) =
    m ((c : Thread nD τ).loc main_arg0) (ix2 ⟨t.val * 256 + r.val, by have := lt32 t; omega⟩ k) := by
  rw [← V_main_arg0 m c]
  blk_ext! [iblk, idx0 t]

theorem blk1 (r : Fin 256) (k : Fin 1024) : (iblk m c 1 t : Vec Ideal S256x1024 .f32) (ix2 r k) =
    m ((c : Thread nD τ).loc main_arg1) (ix2 ⟨t.val * 256 + r.val, by have := lt32 t; omega⟩ k) := by
  rw [← V_main_arg1 m c]
  blk_ext! [iblk, idx1 t]

theorem blk2 (k : Fin 1024) : (iblk m c 2 t : Vec Ideal S1x1024 .f32) (ix2 0 k) =
    m ((c : Thread nD τ).loc main_arg2) (ix1 k) := by
  rw [← v0 m c k]
  blk_ext! [iblk, idx2 t]

theorem blk3 (z : Fin 4) (k : Fin 1024) (j : Fin 1408) : (iblk m c 3 t : Vec Ideal S4x1024x1408 .bf16) (ix3 z k j) =
    m ((c : Thread nD τ).loc main_arg3) (ix3 z k j) := by
  rw [← V_main_arg3 m c]
  blk_ext! [iblk, idx3 t]

theorem blk4 (j : Fin 2816) (k : Fin 1024) : (iblk m c 4 t : Vec Ideal S2816x1024 .bf16) (ix2 j k) =
    m ((c : Thread nD τ).loc main_arg4) (ix2 j k) := by
  rw [← V_main_arg4 m c]
  blk_ext! [iblk, idx4 t]

/-- The result blocks at a point. -/
theorem at5 : (outsAt0 m c t.val t.isLt).1 = dh (iblk m c 0 t) (iblk m c 1 t) (iblk m c 2 t) (iblk m c 3 t) (iblk m c 4 t) := by
  by_cases h : t.val % 32 = 0
  · rw [outsAt0_A m c t h]; dsimp only; exact out_A_5 ..
  · rw [outsAt0_B m c t h]; dsimp only; exact out_B_5 ..

theorem at6 : (outsAt0 m c t.val t.isLt).2.1 = dhb (iblk m c 0 t) (iblk m c 1 t) (iblk m c 2 t) (iblk m c 3 t) (iblk m c 4 t) := by
  by_cases h : t.val % 32 = 0
  · rw [outsAt0_A m c t h]; dsimp only; exact out_A_6 ..
  · rw [outsAt0_B m c t h]; dsimp only; exact out_B_6 ..

theorem at7 : (outsAt0 m c t.val t.isLt).2.2.1 = hn (iblk m c 0 t) (iblk m c 2 t) := by
  by_cases h : t.val % 32 = 0
  · rw [outsAt0_A m c t h]; dsimp only; exact out_A_7 ..
  · rw [outsAt0_B m c t h]; dsimp only; exact out_B_7 ..

theorem at8 : (outsAt0 m c t.val t.isLt).2.2.2.1 = cols2 (act0 (iblk m c 0 t) (iblk m c 2 t) (iblk m c 3 t))
    (act1 (iblk m c 0 t) (iblk m c 2 t) (iblk m c 3 t)) := by
  by_cases h : t.val % 32 = 0
  · rw [outsAt0_A m c t h]; dsimp only; exact out_A_8 ..
  · rw [outsAt0_B m c t h]; dsimp only; exact out_B_8 ..

theorem at9 : (outsAt0 m c t.val t.isLt).2.2.2.2.1 =
    doutb (iblk m c 0 t) (iblk m c 1 t) (iblk m c 2 t) (iblk m c 3 t) (iblk m c 4 t) := by
  by_cases h : t.val % 32 = 0
  · rw [outsAt0_A m c t h]; dsimp only; exact out_A_9 ..
  · rw [outsAt0_B m c t h]; dsimp only; exact out_B_9 ..

theorem at10 : (outsAt0 m c t.val t.isLt).2.2.2.2.2.1 =
    cols4 (dg0 (iblk m c 0 t) (iblk m c 1 t) (iblk m c 2 t) (iblk m c 3 t) (iblk m c 4 t))
      (dg1 (iblk m c 0 t) (iblk m c 1 t) (iblk m c 2 t) (iblk m c 3 t) (iblk m c 4 t))
      (k0_pay27 (du0 (iblk m c 0 t) (iblk m c 1 t) (iblk m c 2 t) (iblk m c 3 t) (iblk m c 4 t)))
      (du1 (iblk m c 0 t) (iblk m c 1 t) (iblk m c 2 t) (iblk m c 3 t) (iblk m c 4 t)) := by
  by_cases h : t.val % 32 = 0
  · rw [outsAt0_A m c t h]; dsimp only; exact out_A_10 ..
  · rw [outsAt0_B m c t h]; dsimp only; exact out_B_10 ..

variable {m c} {A : Args} (H : Holds m c A)

include H

/-- A point's blocks hold its 256 rows. -/
theorem reads : Reads (iblk m c 0 t) (iblk m c 1 t) (iblk m c 2 t) (iblk m c 3 t) (iblk m c 4 t)
    (fun r => A.row (t.val * 256 + r.val)) where
  x r k := (blk0 m c t r k).trans (H.h _ k)
  y r k := (blk1 m c t r k).trans (H.t _ k)
  g r k := (blk2 m c t k).trans (H.g k)
  w0 r k j := (blk3 m c t 0 k j).trans ((H.wf 0 k j).trans (congrArg _ (A.w_of 0 k j _ (by show j.val = 0 * 1408 + j.val; omega)).symm))
  w1 r k j := (blk3 m c t 1 k j).trans ((H.wf 1 k j).trans (congrArg _ (A.w_of 1 k j _ (by show 1408 + j.val = 1 * 1408 + j.val; omega)).symm))
  w2 r k j := (blk3 m c t 2 k j).trans ((H.wf 2 k j).trans (congrArg _ (A.w_of 2 k j _ (by show 2816 + j.val = 2 * 1408 + j.val; omega)).symm))
  w3 r k j := (blk3 m c t 3 k j).trans ((H.wf 3 k j).trans
    (congrArg _ (A.w_of 3 k j _ (by show 2816 + (1408 + j.val) = 3 * 1408 + j.val; omega)).symm))
  d r j k := (blk4 m c t j k).trans (H.wd j k)

theorem arr5 : (dats m 0 c).arrAt 5 cfg0.N = fun i => (ext (A.row (i 0).val).dx (i 1).val : EReal) := by
  refine (dats m 0 c).arrAt_eq_of_covers 5 _ (by decide +kernel) fun t hf y => ?_
  blk_simp
  rw [after0_5, at5, show win0_5.index t 0 = t.val from congrFun (idx5 t) 0, show win0_5.index t 1 = 0 from congrFun (idx5 t) 1,
    zero_mul, zero_add]
  obtain ⟨r, k, rfl⟩ : ∃ (r : Fin 256) (k : Fin 1024), y = ix2 r k := ⟨_, _, eq_ix2 y⟩
  exact (Reads.dh (reads t H) r k).trans (congrArg _ (ext_val _ k).symm)

theorem arr6 : (dats m 0 c).arrAt 6 cfg0.N = fun i => (ext (A.row (i 0).val).dx (i 1).val : EReal) := by
  refine (dats m 0 c).arrAt_eq_of_covers 6 _ (by decide +kernel) fun t hf y => ?_
  blk_simp
  rw [after0_6, at6, show win0_6.index t 0 = t.val from congrFun (idx6 t) 0, show win0_6.index t 1 = 0 from congrFun (idx6 t) 1,
    zero_mul, zero_add]
  obtain ⟨r, k, rfl⟩ : ∃ (r : Fin 256) (k : Fin 1024), y = ix2 r k := ⟨_, _, eq_ix2 y⟩
  exact (Reads.dhb (reads t H) r k).trans (congrArg _ (ext_val _ k).symm)

theorem arr7 : (dats m 0 c).arrAt 7 cfg0.N = fun i => (ext (A.row (i 0).val).hn (i 1).val : EReal) := by
  refine (dats m 0 c).arrAt_eq_of_covers 7 _ (by decide +kernel) fun t hf y => ?_
  blk_simp
  rw [after0_7, at7, show win0_7.index t 0 = t.val from congrFun (idx7 t) 0, show win0_7.index t 1 = 0 from congrFun (idx7 t) 1,
    zero_mul, zero_add]
  obtain ⟨r, k, rfl⟩ : ∃ (r : Fin 256) (k : Fin 1024), y = ix2 r k := ⟨_, _, eq_ix2 y⟩
  exact (Reads.hn (reads t H) r k).trans (congrArg _ (ext_val _ k).symm)

theorem arr8 : (dats m 0 c).arrAt 8 cfg0.N = fun i => (ext (A.row (i 0).val).act (i 1).val : EReal) := by
  refine (dats m 0 c).arrAt_eq_of_covers 8 _ (by decide +kernel) fun t hf y => ?_
  blk_simp
  rw [after0_8, at8, show win0_8.index t 0 = t.val from congrFun (idx8 t) 0, show win0_8.index t 1 = 0 from congrFun (idx8 t) 1,
    zero_mul, zero_add]
  obtain ⟨r, k, rfl⟩ : ∃ (r : Fin 256) (k : Fin 2816), y = ix2 r k := ⟨_, _, eq_ix2 y⟩
  refine Eq.trans ?_ (congrArg _ (ext_val _ k).symm)
  have hk := k.isLt
  have e : Pieces.cols2 (act0 (iblk m c 0 t) (iblk m c 2 t) (iblk m c 3 t)) (act1 (iblk m c 0 t) (iblk m c 2 t) (iblk m c 3 t)) (ix2 r k) =
    if h : k.val < 1408 then act0 (iblk m c 0 t) (iblk m c 2 t) (iblk m c 3 t) (ix2 r ⟨k.val, h⟩)
    else act1 (iblk m c 0 t) (iblk m c 2 t) (iblk m c 3 t) (ix2 r ⟨k.val - 1408, by omega⟩) := rfl
  rw [e]
  by_cases c1 : k.val < 1408
  · rw [dif_pos c1, Reads.act0 (reads t H)]; rfl
  · rw [dif_neg c1, Reads.act1 (reads t H)]
    exact congrArg (fun j => ((A.row (t.val * 256 + r.val)).act j : EReal)) (Fin.ext (show 1408 + (k.val - 1408) = k.val by omega))

theorem arr9 : (dats m 0 c).arrAt 9 cfg0.N = fun i => (ext (A.row (i 0).val).dout (i 1).val : EReal) := by
  refine (dats m 0 c).arrAt_eq_of_covers 9 _ (by decide +kernel) fun t hf y => ?_
  blk_simp
  rw [after0_9, at9, show win0_9.index t 0 = t.val from congrFun (idx9 t) 0, show win0_9.index t 1 = 0 from congrFun (idx9 t) 1,
    zero_mul, zero_add]
  obtain ⟨r, k, rfl⟩ : ∃ (r : Fin 256) (k : Fin 1024), y = ix2 r k := ⟨_, _, eq_ix2 y⟩
  exact (Reads.doutb (reads t H) r k).trans (congrArg _ (ext_val _ k).symm)

theorem arr10 : (dats m 0 c).arrAt 10 cfg0.N = fun i => (ext (A.dgu (i 0).val) (i 1).val : EReal) := by
  refine (dats m 0 c).arrAt_eq_of_covers 10 _ (by decide +kernel) fun t hf y => ?_
  blk_simp
  rw [after0_10, at10, show win0_10.index t 0 = t.val from congrFun (idx10 t) 0, show win0_10.index t 1 = 0 from congrFun (idx10 t) 1,
    zero_mul, zero_add]
  obtain ⟨r, k, rfl⟩ : ∃ (r : Fin 256) (k : Fin 5632), y = ix2 r k := ⟨_, _, eq_ix2 y⟩
  refine Eq.trans ?_ (congrArg _ (ext_val _ k).symm)
  have hk := k.isLt
  have e : Pieces.cols4 (dg0 (iblk m c 0 t) (iblk m c 1 t) (iblk m c 2 t) (iblk m c 3 t) (iblk m c 4 t))
      (dg1 (iblk m c 0 t) (iblk m c 1 t) (iblk m c 2 t) (iblk m c 3 t) (iblk m c 4 t))
      (k0_pay27 (du0 (iblk m c 0 t) (iblk m c 1 t) (iblk m c 2 t) (iblk m c 3 t) (iblk m c 4 t)))
      (du1 (iblk m c 0 t) (iblk m c 1 t) (iblk m c 2 t) (iblk m c 3 t) (iblk m c 4 t)) (ix2 r k) =
    if h : k.val < 1408 then dg0 (iblk m c 0 t) (iblk m c 1 t) (iblk m c 2 t) (iblk m c 3 t) (iblk m c 4 t) (ix2 r ⟨k.val, h⟩)
    else if h' : k.val < 2816 then dg1 (iblk m c 0 t) (iblk m c 1 t) (iblk m c 2 t) (iblk m c 3 t) (iblk m c 4 t) (ix2 r ⟨k.val - 1408, by omega⟩)
    else if h'' : k.val < 4224 then du0 (iblk m c 0 t) (iblk m c 1 t) (iblk m c 2 t) (iblk m c 3 t) (iblk m c 4 t) (ix2 r ⟨k.val - 2816, by omega⟩)
    else du1 (iblk m c 0 t) (iblk m c 1 t) (iblk m c 2 t) (iblk m c 3 t) (iblk m c 4 t) (ix2 r ⟨k.val - 4224, by omega⟩) := rfl
  rw [e]
  unfold Args.dgu
  by_cases c1 : k.val < 1408
  · rw [dif_pos c1, dif_pos (by omega), Reads.dg0 (reads t H)]; rfl
  rw [dif_neg c1]
  by_cases c2 : k.val < 2816
  · rw [dif_pos c2, dif_pos c2, Reads.dg1 (reads t H)]
    exact congrArg (fun j => ((A.row (t.val * 256 + r.val)).dgate j : EReal)) (Fin.ext (show 1408 + (k.val - 1408) = k.val by omega))
  rw [dif_neg c2, dif_neg c2]
  by_cases c3 : k.val < 4224
  · rw [dif_pos c3, Reads.du0 (reads t H)]; rfl
  · rw [dif_neg c3, Reads.du1 (reads t H)]
    exact congrArg (fun j => ((A.row (t.val * 256 + r.val)).dup j : EReal)) (Fin.ext (show 1408 + (k.val - 4224) = k.val - 2816 by omega))

/-- What a point adds to the sums. -/
def part1 (A : Args) (t : ℕ) (n : ℕ) (k : Fin 1024) : ℝ :=
  if n = 0 then ∑ r : Fin 256, (A.row (t * 256 + r)).dhn k * (A.row (t * 256 + r)).hat k
  else if n = 1 then ∑ r : Fin 256, (A.row (t * 256 + r)).err k * (A.row (t * 256 + r)).err k else 0

theorem step11 (o : Vec Ideal S8x1024 .f32) (j : S8x1024.Idx) :
    putRows o (gains (iblk m c 0 t) (iblk m c 1 t) (iblk m c 2 t) (iblk m c 3 t) (iblk m c 4 t) (row 0 o))
      (squares (iblk m c 0 t) (iblk m c 1 t) (iblk m c 2 t) (iblk m c 3 t) (iblk m c 4 t) (row 1 o)) j =
      o j + (part1 A t.val (j 0).val (j 1) : EReal) := by
  obtain ⟨n, k, rfl⟩ : ∃ (n : Fin 8) (k : Fin 1024), j = ix2 n k := ⟨_, _, eq_ix2 j⟩
  have hput (w w' : FVec Ideal S1x1024 .f32) : putRows o w w' (ix2 n k) =
      if n.val = 0 then w (ix2 0 k) else if n.val = 1 then w' (ix2 0 k) else o (ix2 n k) := rfl
  change _ = _ + (part1 A t.val n.val k : EReal)
  rw [hput]
  unfold part1
  by_cases h0 : n.val = 0
  · obtain rfl : n = 0 := Fin.ext h0
    rw [if_pos h0, if_pos h0]
    exact Reads.gains (reads t H) (row 0 o) k
  rw [if_neg h0, if_neg h0]
  by_cases h1 : n.val = 1
  · obtain rfl : n = 1 := Fin.ext h1
    rw [if_pos h1, if_pos h1]
    exact Reads.squares (reads t H) (row 1 o) k
  · rw [if_neg h1, if_neg h1, EReal.coe_zero, add_zero]

omit H in
theorem sum_rows (f : ℕ → ℝ) : ∑ t : Fin cfg0.N, ∑ r : Fin 256, f (t.val * 256 + r.val) = ∑ r : Fin 8192, f r.val := by
  have h := Fin.sum_divmod_fin (N := 8192) (A := 32) 256 fun t r => f (t.val * 256 + r.val)
  have e : ∑ t : Fin cfg0.N, ∑ r : Fin 256, f (t.val * 256 + r.val) = ∑ t : Fin 32, ∑ r : Fin 256, f (t.val * 256 + r.val) := by
    rw [← Finset.sum_range fun t => ∑ r : Fin 256, f (t * 256 + r.val), ← Finset.sum_range fun t => ∑ r : Fin 256, f (t * 256 + r.val),
      show cfg0.N = 32 from N_0]
  exact e.trans (h.symm.trans (Finset.sum_congr rfl fun r _ => congrArg f (show r.val / 256 * 256 + r.val % 256 = r.val by omega)))

/-- The last point. -/
abbrev tlast : Fin cfg0.N := ⟨31, by rw [show cfg0.N = 32 from N_0]; decide⟩

theorem arr11 : (dats m 0 c).arrAt 11 cfg0.N = fun i => (A.stats (i 0).val (i 1) : EReal) := by
  refine (dats m 0 c).arrAt_eq_of_after_last 11 tlast (by decide +kernel) _ fun j => ?_
  blk_simp
  rw [after0_11]
  rw [Pipeline.eq_sum_fin_of_reset_step_apply_last (fun n h => (outsAt0 m c n h).2.2.2.2.2.2) 32 (fun _ => 0)
    (fun t j => (part1 A t.val (j 0).val (j 1) : EReal))
    (fun t h j => by
      rw [outsAt0_A m c t h]; dsimp only; rw [out_A_11]; exact (step11 t H _ j).trans (congrArg (· + _) (by unfold k0_pay3; pointwise)))
    (fun t h j => by rw [outsAt0_B m c t h]; dsimp only; rw [out_B_11]; exact step11 t H _ j)
    (le_of_eq N_0) tlast rfl j, zero_add, sum_coe]
  congr 1
  obtain ⟨n, k, rfl⟩ : ∃ (n : Fin 8) (k : Fin 1024), j = ix2 n k := ⟨_, _, eq_ix2 j⟩
  change ∑ t : Fin cfg0.N, part1 A t.val n.val k = A.stats n.val k
  unfold Args.stats part1
  by_cases h0 : n.val = 0
  · simp only [if_pos h0]
    exact sum_rows fun r => (A.row r).dhn k * (A.row r).hat k
  simp only [if_neg h0]
  by_cases h1 : n.val = 1
  · simp only [if_pos h1]
    exact sum_rows fun r => (A.row r).err k * (A.row r).err k
  · simp only [if_neg h1, Finset.sum_const_zero]

end Cert.KernelFfnIdeal.Arrays

end
-- ==== Proof.FfnStages.lean ====
/-
  The feed-forward reference's values by stages, as functions of its arguments, and its run in their names.
-/
module

public import proofs.«01_k».proof.Proof.Gen.ReferenceFfnIdeal.Run

@[expose] public section

noncomputable section

namespace Cert.ReferenceFfnIdeal.Ref

open Cert.ReferenceFfnIdeal Cert.ReferenceFfnIdeal.Gen Idealize.ShloMosaic Idealize.ShloMosaic.TcCoe Idealize.SL.Sem Idealize.ShloMosaic.StableHlo

variable {F : FTy → Type} [FloatOps F]
variable (x0 x1 : FVec F S8192x1024 .f32) (x2 : FVec F S1024 .f32) (x3 : FVec F S4x1024x1408 .bf16) (x4 : FVec F S2816x1024 .bf16)

/-- The first weight by columns, and the second. -/
def wi : FVec F S1024x5632 .f32 :=
  shapeCast _ (transpose S1024x4x1408 [1, 0, 2] (extf .f32 x3 bitsLt_bf16_f32) transposes_S4x1024x1408_S1024x4x1408_1_0_2)
    shapeCasts_S1024x4x1408_S1024x5632
def wo : FVec F S2816x1024 .f32 := extf .f32 x4 bitsLt_bf16_f32

/-- Each row's mean square, with the small number added, and one over its square root. -/
def msq : FVec F S8192x1 .f32 :=
  addf (Host.divf (broadcastInDim S8192x1 ![0] bcast_S8192_S8192x1_0 (Host.reduceAdd (mulf x0 x0) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
def rms : FVec F S8192x1 .f32 := Host.rsqrt (msq x0)

/-- The rows at unit mean square, and by their gains. -/
def hat : FVec F S8192x1024 .f32 := mulf x0 (broadcastInDim S8192x1024 ![0, 1] bcast_S8192x1_S8192x1024_0_1 (rms x0))
def gains : FVec F S8192x1024 .f32 :=
  broadcastInDim S8192x1024 ![0, 1] bcast_S1x1024_S8192x1024_0_1 (broadcastInDim S1x1024 ![1] bcast_S1024_S1x1024_1 x2)
def hn : FVec F S8192x1024 .f32 := mulf (hat x0) (gains x2)

/-- The hidden columns: gate and up, the logistic function of the gate, and the activation. -/
def hid : FVec F S8192x5632 .f32 :=
  addf (Host.dotGeneral dot_S8192x1024_S1024x5632_S8192x5632_1_0_0_1_n_n none (hn x0 x2) (wi x3))
    (broadcastInDim S8192x5632 ![] bcast_S_S8192x5632 (constant S_ .f32 0x00000000#32))
def gate : FVec F S8192x2816 .f32 := extractStridedSlice S8192x2816 ![0, 0] (hid x0 x2 x3) slices_S8192x5632_S8192x2816_0_0
def up : FVec F S8192x2816 .f32 := extractStridedSlice S8192x2816 ![0, 2816] (hid x0 x2 x3) slices_S8192x5632_S8192x2816_0_2816
def sg : FVec F S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf (gate x0 x2 x3))))
def swish : FVec F S8192x2816 .f32 := mulf (gate x0 x2 x3) (sg x0 x2 x3)
def act : FVec F S8192x2816 .f32 := mulf (swish x0 x2 x3) (up x0 x2 x3)

/-- The result against its target, and the gradient there. -/
def err : FVec F S8192x1024 .f32 :=
  subf (addf (addf x0 (Host.dotGeneral dot_S8192x2816_S2816x1024_S8192x1024_1_0_0_1_n_n none (act x0 x2 x3) (wo x4)))
    (broadcastInDim S8192x1024 ![] bcast_S_S8192x1024 (constant S_ .f32 0x00000000#32))) x1
def dout : FVec F S8192x1024 .f32 :=
  mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192
    (constant S_ .f32 0x44800000#32)))) (mulf (broadcastInDim S8192x1024 ![] bcast_S_S8192x1024 (constant S_ .f32 0x40000000#32))
    (err x0 x1 x2 x3 x4))

/-- The gradients of the activation and of gate and up. -/
def dact : FVec F S8192x2816 .f32 :=
  Host.dotGeneral dot_S8192x1024_S2816x1024_S8192x2816_1_1_0_0_n_n none (dout x0 x1 x2 x3 x4) (wo x4)
def dswish : FVec F S8192x2816 .f32 := mulf (dact x0 x1 x2 x3 x4) (up x0 x2 x3)
def dgate : FVec F S8192x2816 .f32 :=
  addf (mulf (dswish x0 x1 x2 x3 x4) (sg x0 x2 x3)) (mulf (mulf (gate x0 x2 x3) (dswish x0 x1 x2 x3 x4)) (mulf (sg x0 x2 x3)
    (subf (broadcastInDim S8192x2816 ![] bcast_S_S8192x2816 (constant S_ .f32 0x3F800000#32)) (sg x0 x2 x3))))
def dup : FVec F S8192x2816 .f32 := mulf (swish x0 x2 x3) (dact x0 x1 x2 x3 x4)
def dgu : FVec F S8192x5632 .f32 :=
  concatenate S8192x5632 1 [⟨S8192x2816, dgate x0 x1 x2 x3 x4⟩, ⟨S8192x2816, dup x0 x1 x2 x3 x4⟩]
    concatenates_S8192x2816_S8192x2816_S8192x5632_d1

/-- The gradients of the rows by their gains and of the rows at unit mean square. -/
def dhn : FVec F S8192x1024 .f32 :=
  Host.dotGeneral dot_S8192x5632_S1024x5632_S8192x1024_1_1_0_0_n_n none (dgu x0 x1 x2 x3 x4) (wi x3)
def dhh : FVec F S8192x1024 .f32 := mulf (dhn x0 x1 x2 x3 x4) (gains x2)

/-- The gradient through the mean square, and the rows' gradient. -/
def dmsq : FVec F S8192x1024 .f32 :=
  broadcastInDim S8192x1024 ![0] bcast_S8192_S8192x1024_0 (Host.reduceAdd (Host.divf (mulf (shapeCast _ (Host.reduceAdd
    (mulf x0 (dhh x0 x1 x2 x3 x4)) (constant S_ .f32 0x00000000#32) reducesTo_S8192x1024_S8192_d1 h_S_) shapeCasts_S8192_S8192x1)
    (mulf (broadcastInDim S8192x1 ![] bcast_S_S8192x1 (constant S_ .f32 0xBF000000#32)) (Host.divf (rms x0) (msq x0))))
    (broadcastInDim S8192x1 ![] bcast_S_S8192x1 (constant S_ .f32 0x44800000#32))) (constant S_ .f32 0x00000000#32)
    reducesTo_S8192x1_S8192_d1 h_S_)
def dh : FVec F S8192x1024 .f32 :=
  addf (addf (addf (dout x0 x1 x2 x3 x4) (mulf (dhh x0 x1 x2 x3 x4) (broadcastInDim S8192x1024 ![0, 1]
    bcast_S8192x1_S8192x1024_0_1 (rms x0)))) (mulf x0 (dmsq x0 x1 x2 x3 x4))) (mulf (dmsq x0 x1 x2 x3 x4) x0)

/-- The gains' gradient and the sums of squares. -/
def sums : FVec F S1x1024 .f32 :=
  broadcastInDim S1x1024 ![1] bcast_S1024_S1x1024_1 (Host.reduceAdd (shapeCast S1x1024 (Host.reduceAdd (mulf (hat x0) (dhn x0 x1 x2 x3 x4))
    (constant S_ .f32 0x00000000#32) reducesTo_S8192x1024_S1024_d0 h_S_) shapeCasts_S1024_S1x1024)
    (constant S_ .f32 0x00000000#32) reducesTo_S1x1024_S1024_d0 h_S_)
def losses : FVec F S1x1024 .f32 :=
  broadcastInDim S1x1024 ![1] bcast_S1024_S1x1024_1 (Host.reduceAdd (mulf (err x0 x1 x2 x3 x4) (err x0 x1 x2 x3 x4))
    (constant S_ .f32 0x00000000#32) reducesTo_S8192x1024_S1024_d0 h_S_)
def stats : FVec F S8x1024 .f32 :=
  pad S8x1024 ![0, 0] ![6, 0] ![0, 0] (concatenate S2x1024 0 [⟨S1x1024, sums x0 x1 x2 x3 x4⟩, ⟨S1x1024, losses x0 x1 x2 x3 x4⟩]
    concatenates_S1x1024_S1x1024_S2x1024_d0) (sitofp .f32 (constantI S_ 32 0#32)) pads_S2x1024_S8x1024_060_000 h_S_

/-- The seven results and the five arguments after the run. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = dh (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v79) = truncf .bf16 (dh (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))) bitsLt_bf16_f32
      ∧ r.2.mem ((c.tc : Thread nD τ).loc main_v80) = truncf .bf16 (hn (F := F) (m ((c.tc : Thread nD τ).loc main_arg0))
        (m ((c.tc : Thread nD τ).loc main_arg2))) bitsLt_bf16_f32
      ∧ r.2.mem ((c.tc : Thread nD τ).loc main_v81) = truncf .bf16 (act (F := F) (m ((c.tc : Thread nD τ).loc main_arg0))
        (m ((c.tc : Thread nD τ).loc main_arg2)) (m ((c.tc : Thread nD τ).loc main_arg3))) bitsLt_bf16_f32
      ∧ r.2.mem ((c.tc : Thread nD τ).loc main_v82) = truncf .bf16 (dout (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))) bitsLt_bf16_f32
      ∧ r.2.mem ((c.tc : Thread nD τ).loc main_v83) = truncf .bf16 (dgu (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))) bitsLt_bf16_f32
      ∧ r.2.mem ((c.tc : Thread nD τ).loc main_v78) = stats (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, h5, h6, rest⟩ := h c
  exact ⟨h0.trans rfl, h1.trans rfl, h2, h3, h4.trans rfl, h5.trans rfl, h6.trans rfl, rest⟩

end Cert.ReferenceFfnIdeal.Ref

end
-- ==== Proof.FfnRef.lean ====
/-
  The feed-forward reference's stages over real arguments: the numbers of the rows.
-/
module

public import proofs.«01_k».proof.Proof.FfnStages
public import proofs.«01_k».proof.Proof.FfnRead
public import proofs.«01_k».proof.Proof.Words

@[expose] public section

noncomputable section

namespace Cert.ReferenceFfnIdeal.Ref

open Cert Cert.Ffn Cert.ReferenceFfnIdeal Cert.ReferenceFfnIdeal.Gen Idealize.ShloMosaic Idealize.ShloMosaic.TcCoe Idealize.SL.Sem Idealize.ShloMosaic.StableHlo

variable (x0 x1 : FVec Ideal S8192x1024 .f32) (x2 : FVec Ideal S1024 .f32) (x3 : FVec Ideal S4x1024x1408 .bf16)
  (x4 : FVec Ideal S2816x1024 .bf16)

/-- The reference's arguments hold reals. -/
structure Holds (A : Cert.Ffn.Args) : Prop where
  h : ∀ (r : Fin 8192) (k : Fin 1024), x0 (ix2 r k) = (A.h r k : EReal)
  t : ∀ (r : Fin 8192) (k : Fin 1024), x1 (ix2 r k) = (A.t r k : EReal)
  g : ∀ k : Fin 1024, x2 (ix1 k) = (A.g k : EReal)
  wf : ∀ (z : Fin 4) (k : Fin 1024) (j : Fin 1408), x3 (ix3 z k j) = (A.wf z k j : EReal)
  wd : ∀ (j : Fin 2816) (k : Fin 1024), x4 (ix2 j k) = (A.wd j k : EReal)

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem sum_cols (f : Fin 5632 → ℝ) : ∑ j, f j = ∑ j : Fin 2816, f ⟨j.val, by omega⟩ + ∑ j : Fin 2816, f ⟨2816 + j.val, by omega⟩ :=
  Fin.sum_univ_add (a := 2816) (b := 2816) f

/-- The reference's term through the mean square. -/
def _root_.Cert.Ffn.Row.dmsq (R : Row) : ℝ := (∑ k, R.x k * R.dhh k) * (-(1 / 2) * (R.rms / R.msq)) / 1024

/-- The gradient through the scaling to unit mean square, as the reference spells it. -/
theorem dx_spelled (R : Row) (k : Fin 1024) : R.dout k + R.dhh k * R.rms + R.x k * R.dmsq + R.dmsq * R.x k = R.dx k := by
  have e : R.rms / R.msq = R.rms * R.rms * R.rms := by
    have hv := R.msq_pos
    have : R.rms * R.rms = R.msq⁻¹ := by
      rw [Row.rms, ← mul_inv, Real.mul_self_sqrt hv.le]
    rw [this, div_eq_mul_inv, mul_comm]
  have s : ∑ d, R.dhh d * R.hat d = (∑ d, R.x d * R.dhh d) * R.rms := by
    rw [Finset.sum_mul]
    exact Finset.sum_congr rfl fun x _ => by rw [Row.hat]; ring
  rw [Row.dmsq, e, Row.dx, s, Row.hat]
  ring

/-- A two-axis array of reals, from its entries. -/
theorem by_entries {n w : ℕ} {x : (⟨2, ![n, w]⟩ : Shape).Idx → EReal} {f : ℕ → Fin w → ℝ} (h : ∀ (r : Fin n) (k : Fin w), x (ix2 r k) = (f r k : EReal)) :
    x = fun i => (Ffn.ext (f (i 0).val) (i 1).val : EReal) := by
  funext i
  obtain ⟨r, k, rfl⟩ : ∃ (r : Fin n) (k : Fin w), i = ix2 r k := ⟨_, _, eq_ix2 i⟩
  exact (h r k).trans (congrArg _ (Ffn.ext_val _ k).symm)

variable {x0 x1 x2 x3 x4} {A : Cert.Ffn.Args} (H : Holds x0 x1 x2 x3 x4 A)
variable (r : Fin 8192) (k : Fin 1024) (j : Fin 2816) (J : Fin 5632) (z : Fin 1)

include H

theorem wi_real : wi x3 (ix2 k J) = (A.w k J : EReal) := by
  pointwise [wi]
  exact H.wf ..

theorem wo_real : wo x4 (ix2 j k) = (A.wd j k : EReal) := by
  pointwise [wo]
  exact H.wd j k

theorem msq_real : msq x0 (ix2 r z) = ((A.row r).msq : EReal) := by
  pointwise [msq]
  simp only [H.h, ← EReal.coe_mul, sum_coe]
  rw [show Ideal.ofBits .f32 1149239296#32 = ((1024 : ℝ) : EReal) from Cert.KernelFfnIdeal.Pieces.word_1024,
    show Ideal.ofBits .f32 897988541#32 = (eps : EReal) from word_eps, div_real (by norm_num), ← EReal.coe_add]
  rfl

theorem rms_real : rms x0 (ix2 r z) = ((A.row r).rms : EReal) := by
  pointwise [rms]
  rw [msq_real H, rsqrt_real (A.row r).msq_pos]
  rfl

theorem hat_real : hat x0 (ix2 r k) = ((A.row r).hat k : EReal) := by
  pointwise [hat]
  rw [rms_real H, H.h, ← EReal.coe_mul]
  rfl

theorem gains_real : gains x2 (ix2 r k) = (A.g k : EReal) := by
  pointwise [gains]
  exact H.g k

theorem hn_real : hn x0 x2 (ix2 r k) = ((A.row r).hn k : EReal) := by
  pointwise [hn]
  rw [hat_real H, gains_real H, ← EReal.coe_mul]
  rfl

theorem hid_real : hid x0 x2 x3 (ix2 r J) = ((∑ k, (A.row r).hn k * A.w k J : ℝ) : EReal) := by
  pointwise [hid]
  simp only [hn_real H, wi_real H, ← EReal.coe_mul, sum_coe, add_zero]

theorem gate_real : gate x0 x2 x3 (ix2 r j) = ((A.row r).gate j : EReal) := by
  pointwise [gate]
  exact hid_real H r _

theorem up_real : up x0 x2 x3 (ix2 r j) = ((A.row r).up j : EReal) := by
  pointwise [up]
  exact hid_real H r _

theorem sg_real : sg x0 x2 x3 (ix2 r j) = ((A.row r).sg j : EReal) := by
  pointwise [sg]
  rw [gate_real H]
  exact Cert.KernelFfnIdeal.Pieces.logistic_real _

theorem swish_real : swish x0 x2 x3 (ix2 r j) = ((A.row r).gate j * (A.row r).sg j : ℝ) := by
  pointwise [swish]
  rw [gate_real H, sg_real H, ← EReal.coe_mul]

theorem act_real : act x0 x2 x3 (ix2 r j) = ((A.row r).act j : EReal) := by
  pointwise [act]
  rw [swish_real H, up_real H, ← EReal.coe_mul]
  rfl

theorem err_real : err x0 x1 x2 x3 x4 (ix2 r k) = ((A.row r).err k : EReal) := by
  pointwise [err]
  simp only [act_real H, wo_real H, H.h, H.t, ← EReal.coe_mul, sum_coe, add_zero, ← EReal.coe_add, ← EReal.coe_sub]
  rfl

theorem dout_real : dout x0 x1 x2 x3 x4 (ix2 r k) = ((A.row r).dout k : EReal) := by
  pointwise [dout]
  rw [err_real H, show Ideal.ofBits .f32 1149239296#32 = ((1024 : ℝ) : EReal) from Cert.KernelFfnIdeal.Pieces.word_1024,
    show Ideal.ofBits .f32 1073741824#32 = ((2 : ℝ) : EReal) from word_two,
    show Ideal.ofBits .f32 1056964608#32 = ((1 / 2 : ℝ) : EReal) from word_half, div_real (by norm_num),
    ← EReal.coe_mul, ← EReal.coe_mul]
  refine congrArg Real.toEReal ?_
  rw [Row.dout]
  ring

theorem dact_real : dact x0 x1 x2 x3 x4 (ix2 r j) = ((A.row r).dact j : EReal) := by
  pointwise [dact]
  simp only [dout_real H, wo_real H, ← EReal.coe_mul, sum_coe]
  rfl

theorem dgate_real : dgate x0 x1 x2 x3 x4 (ix2 r j) = ((A.row r).dgate j : EReal) := by
  pointwise [dgate, dswish]
  rw [dact_real H, up_real H, sg_real H, gate_real H, ← EReal.coe_one]
  simp only [← EReal.coe_mul, ← EReal.coe_sub, ← EReal.coe_add]
  refine congrArg Real.toEReal ?_
  rw [Row.dgate]
  ring

theorem dup_real : dup x0 x1 x2 x3 x4 (ix2 r j) = ((A.row r).dup j : EReal) := by
  pointwise [dup]
  rw [dact_real H, swish_real H, ← EReal.coe_mul]
  refine congrArg Real.toEReal ?_
  rw [Row.dup]
  ring

theorem dgu_real : dgu x0 x1 x2 x3 x4 (ix2 r J) = (A.dgu r J : EReal) := by
  pointwise [dgu]
  unfold Cert.Ffn.Args.dgu
  split_ifs <;> first | exact dgate_real H r _ | exact dup_real H r _

theorem dhn_real : dhn x0 x1 x2 x3 x4 (ix2 r k) = ((A.row r).dhn k : EReal) := by
  pointwise [dhn]
  simp only [dgu_real H, wi_real H, ← EReal.coe_mul, sum_coe]
  refine congrArg Real.toEReal ?_
  rw [sum_cols, Row.dhn]
  refine congrArg₂ (· + ·) (Finset.sum_congr rfl fun j _ => ?_) (Finset.sum_congr rfl fun j _ => ?_)
  · rw [show A.dgu r ⟨j.val, by omega⟩ = (A.row r).dgate j from dif_pos j.isLt]
    rfl
  · rw [show A.dgu r ⟨2816 + j.val, by omega⟩ = (A.row r).dup j from (dif_neg (show ¬2816 + j.val < 2816 by omega)).trans
      (congrArg _ (Fin.ext (show 2816 + j.val - 2816 = j.val by omega)))]
    rfl

theorem dhh_real : dhh x0 x1 x2 x3 x4 (ix2 r k) = ((A.row r).dhh k : EReal) := by
  pointwise [dhh]
  rw [dhn_real H, gains_real H, ← EReal.coe_mul]
  rfl

theorem dmsq_real : dmsq x0 x1 x2 x3 x4 (ix2 r k) = ((A.row r).dmsq : EReal) := by
  pointwise [dmsq]
  simp only [rms_real H, msq_real H, H.h, dhh_real H, ← EReal.coe_mul, sum_coe]
  rw [div_real (A.row r).msq_pos.ne', show Ideal.ofBits .f32 3204448256#32 = ((-(1 / 2) : ℝ) : EReal) from word_neg_half,
    ← EReal.coe_mul, ← EReal.coe_mul, show Ideal.ofBits .f32 1149239296#32 = ((1024 : ℝ) : EReal) from Cert.KernelFfnIdeal.Pieces.word_1024,
    div_real (by norm_num)]
  simp only [Finset.univ_unique, Finset.sum_const, Finset.card_singleton, one_smul]
  rfl

theorem dh_real : dh x0 x1 x2 x3 x4 (ix2 r k) = ((A.row r).dx k : EReal) := by
  pointwise [dh]
  rw [rms_real H, dout_real H, dhh_real H, dmsq_real H, H.h, ← dx_spelled]
  simp only [← EReal.coe_mul, ← EReal.coe_add]
  rfl

theorem sums_real : sums x0 x1 x2 x3 x4 (ix2 z k) = ((∑ r : Fin 8192, (A.row r).dhn k * (A.row r).hat k : ℝ) : EReal) := by
  pointwise [sums]
  simp only [hat_real H, dhn_real H, ← EReal.coe_mul, sum_coe]
  simp only [Finset.univ_unique, Finset.sum_const, Finset.card_singleton, one_smul]
  exact congrArg Real.toEReal (Finset.sum_congr rfl fun r _ => mul_comm _ _)

theorem losses_real : losses x0 x1 x2 x3 x4 (ix2 z k) = ((∑ r : Fin 8192, (A.row r).err k * (A.row r).err k : ℝ) : EReal) := by
  pointwise [losses]
  simp only [err_real H, ← EReal.coe_mul, sum_coe]

theorem stats_real : stats x0 x1 x2 x3 x4 = fun i => (A.stats (i 0).val (i 1) : EReal) := by
  funext i
  obtain ⟨n, k, rfl⟩ : ∃ (n : Fin 8) (k : Fin 1024), i = ix2 n k := ⟨_, _, eq_ix2 i⟩
  change _ = (A.stats n.val k : EReal)
  pointwise [stats]
  unfold Cert.Ffn.Args.stats
  by_cases h0 : n.val = 0
  · rw [dif_pos (by omega), dif_pos (by omega), if_pos h0]
    exact sums_real H k _
  rw [if_neg h0]
  by_cases h1 : n.val = 1
  · rw [dif_pos (by omega), dif_neg (by omega), if_pos h1]
    exact losses_real H k _
  · rw [dif_neg (by omega), if_neg h1, sitofp_real]
    simp

theorem dh_array : dh x0 x1 x2 x3 x4 = fun i => (Ffn.ext (A.row (i 0).val).dx (i 1).val : EReal) :=
  by_entries (f := fun r => (A.row r).dx) fun r k => dh_real H r k

theorem dh_bf16 : truncf .bf16 (dh x0 x1 x2 x3 x4) bitsLt_bf16_f32 = fun i => (Ffn.ext (A.row (i 0).val).dx (i 1).val : EReal) :=
  by_entries (f := fun r => (A.row r).dx) fun r k => dh_real H r k

theorem hn_bf16 : truncf .bf16 (hn x0 x2) bitsLt_bf16_f32 = fun i => (Ffn.ext (A.row (i 0).val).hn (i 1).val : EReal) :=
  by_entries (f := fun r => (A.row r).hn) fun r k => hn_real H r k

theorem act_bf16 : truncf .bf16 (act x0 x2 x3) bitsLt_bf16_f32 = fun i => (Ffn.ext (A.row (i 0).val).act (i 1).val : EReal) :=
  by_entries (f := fun r => (A.row r).act) fun r k => act_real H r k

theorem dout_bf16 : truncf .bf16 (dout x0 x1 x2 x3 x4) bitsLt_bf16_f32 = fun i => (Ffn.ext (A.row (i 0).val).dout (i 1).val : EReal) :=
  by_entries (f := fun r => (A.row r).dout) fun r k => dout_real H r k

theorem dgu_bf16 : truncf .bf16 (dgu x0 x1 x2 x3 x4) bitsLt_bf16_f32 = fun i => (Ffn.ext (A.dgu (i 0).val) (i 1).val : EReal) :=
  by_entries (f := fun r => (A.dgu r)) fun r k => dgu_real H r k

end Cert.ReferenceFfnIdeal.Ref

end
-- ==== Proof.FfnAssembly.lean ====
/-
  The feed-forward value claim: from finite arguments both programs end with the same real arrays.
-/
module

public import proofs.«01_k».proof.Defs
public import proofs.«01_k».proof.Proof.FfnArrays
public import proofs.«01_k».proof.Proof.FfnRef
public import proofs.«01_k».proof.Proof.Assembly

@[expose] public section

noncomputable section

namespace Cert.Proof

open Idealize.ShloMosaic Idealize.SL.Sem

/-- The side conditions that the precondition's operations take. -/
instance finiteFfnFacts : Cert.Pre_finite_ffn.Facts where
  bcast_S_S8192x1024 := by decide
  bcast_S_S1024 := by decide
  bcast_S_S4x1024x1408 := by decide
  bcast_S_S2816x1024 := by decide

/-- Arrays of extended reals as functions of numbers. -/
def ffnArgs (x0 x1 : Cert.Pre_finite_ffn.S8192x1024.Idx → EReal) (x2 : Cert.Pre_finite_ffn.S1024.Idx → EReal)
    (x3 : Cert.Pre_finite_ffn.S4x1024x1408.Idx → EReal) (x4 : Cert.Pre_finite_ffn.S2816x1024.Idx → EReal) : Cert.Ffn.Args where
  h r k := if h : r < 8192 then (x0 (ix2 ⟨r, h⟩ k)).toReal else 0
  t r k := if h : r < 8192 then (x1 (ix2 ⟨r, h⟩ k)).toReal else 0
  g k := (x2 (ix1 k)).toReal
  wf z k j := (x3 (ix3 z k j)).toReal
  wd j k := (x4 (ix2 j k)).toReal

open Cert.Pre_finite_ffn in
theorem holds_ffn (x0 x1 : FVec Ideal S8192x1024 .f32) (x2 : FVec Ideal S1024 .f32) (x3 : FVec Ideal S4x1024x1408 .bf16)
    (x4 : FVec Ideal S2816x1024 .bf16)
    (h0 : (fn x0 x1 x2 x3 x4).1 = fun _ => 1#1) (h1 : (fn x0 x1 x2 x3 x4).2.1 = fun _ => 1#1)
    (h2 : (fn x0 x1 x2 x3 x4).2.2.1 = fun _ => 1#1) (h3 : (fn x0 x1 x2 x3 x4).2.2.2.1 = fun _ => 1#1)
    (h4 : (fn x0 x1 x2 x3 x4).2.2.2.2 = fun _ => 1#1) :
    Cert.ReferenceFfnIdeal.Ref.Holds x0 x1 x2 x3 x4 (ffnArgs x0 x1 x2 x3 x4) where
  h r k := (real_f32 x0 _ h0 (ix2 r k)).trans (by simp only [ffnArgs]; rw [dif_pos r.isLt])
  t r k := (real_f32 x1 _ h1 (ix2 r k)).trans (by simp only [ffnArgs]; rw [dif_pos r.isLt])
  g k := real_f32 x2 _ h2 (ix1 k)
  wf z k j := real_bf16 x3 _ h3 (ix3 z k j)
  wd j k := real_bf16 x4 _ h4 (ix2 j k)

/-- The kernel's arguments are the reference's. -/
theorem holds_ffn_kernel (m : (ℓ : Loc Cert.KernelFfnIdeal.nD Cert.KernelFfnIdeal.τ Cert.KernelFfnIdeal.sig) → Buf (Elt Ideal) ℓ)
    (c : Dev Cert.KernelFfnIdeal.nD) (A : Cert.Ffn.Args)
    (H : Cert.ReferenceFfnIdeal.Ref.Holds (m ((c.tc : Thread Cert.KernelFfnIdeal.nD Cert.KernelFfnIdeal.τ).loc Cert.KernelFfnIdeal.main_arg0))
      (m ((c.tc : Thread Cert.KernelFfnIdeal.nD Cert.KernelFfnIdeal.τ).loc Cert.KernelFfnIdeal.main_arg1))
      (m ((c.tc : Thread Cert.KernelFfnIdeal.nD Cert.KernelFfnIdeal.τ).loc Cert.KernelFfnIdeal.main_arg2))
      (m ((c.tc : Thread Cert.KernelFfnIdeal.nD Cert.KernelFfnIdeal.τ).loc Cert.KernelFfnIdeal.main_arg3))
      (m ((c.tc : Thread Cert.KernelFfnIdeal.nD Cert.KernelFfnIdeal.τ).loc Cert.KernelFfnIdeal.main_arg4)) A) :
    Cert.KernelFfnIdeal.Arrays.Holds m c A :=
  ⟨H.h, H.t, H.g, H.wf, H.wd⟩

/-- The reference runs, keeps its arguments and has no semaphore. -/
theorem frame_ffn_reference : Cert.quiescent_ReferenceFfnIdeal := fun m g _ =>
  (θ_run Cert.ReferenceFfnIdeal.defs _ _).mono (fun r h => ⟨fun c => (h c).2.2.2.2.2.2.2,
    sem_eq_zero_of_no_sems (by decide) r.2⟩) (Cert.ReferenceFfnIdeal.Ref.run_stages (F := Ideal) m g)

/-- Both programs end with the same seven arrays. -/
theorem ffn : Cert.algebraic_KernelFfnIdeal_ReferenceFfnIdeal_pre_finite_ffn := by
  intro m g m' g' pre agree
  have H (c : Dev Cert.KernelFfnIdeal.nD) := holds_ffn _ _ _ _ _ (pre c).1 (pre c).2.1 (pre c).2.2.1 (pre c).2.2.2.1
    (pre c).2.2.2.2
  have K (c : Dev Cert.KernelFfnIdeal.nD) := holds_ffn_kernel m c _ (H c)
  refine ⟨fun c => (Cert.KernelFfnIdeal.Gen.dats m 0 c).arrAt 5 Cert.KernelFfnIdeal.cfg0.N,
    fun c => (Cert.KernelFfnIdeal.Gen.dats m 0 c).arrAt 6 Cert.KernelFfnIdeal.cfg0.N,
    fun c => (Cert.KernelFfnIdeal.Gen.dats m 0 c).arrAt 7 Cert.KernelFfnIdeal.cfg0.N,
    fun c => (Cert.KernelFfnIdeal.Gen.dats m 0 c).arrAt 8 Cert.KernelFfnIdeal.cfg0.N,
    fun c => (Cert.KernelFfnIdeal.Gen.dats m 0 c).arrAt 9 Cert.KernelFfnIdeal.cfg0.N,
    fun c => (Cert.KernelFfnIdeal.Gen.dats m 0 c).arrAt 10 Cert.KernelFfnIdeal.cfg0.N,
    fun c => (Cert.KernelFfnIdeal.Gen.dats m 0 c).arrAt 11 Cert.KernelFfnIdeal.cfg0.N,
    Cert.KernelFfnIdeal.Value.run_blocks m g, ?_⟩
  refine (θ_run Cert.ReferenceFfnIdeal.defs _ _).mono (fun r h c => ?_) (Cert.ReferenceFfnIdeal.Ref.run_stages (F := Ideal) m' g')
  obtain ⟨h0, h1, h2, h3, h4, h5, h6, rest⟩ := h c
  obtain ⟨a0, a1, a2, a3, a4⟩ := agree c
  rw [a0, a1, a2, a3, a4] at h0 h1 h4 h5 h6
  rw [a0, a2] at h2
  rw [a0, a2, a3] at h3
  refine ⟨h0.trans ?_, h1.trans ?_, h2.trans ?_, h3.trans ?_, h4.trans ?_, h5.trans ?_, h6.trans ?_, rest⟩
  · exact (Cert.ReferenceFfnIdeal.Ref.dh_array (H c)).trans (Cert.KernelFfnIdeal.Arrays.arr5 (K c)).symm
  · exact (Cert.ReferenceFfnIdeal.Ref.dh_bf16 (H c)).trans (Cert.KernelFfnIdeal.Arrays.arr6 (K c)).symm
  · exact (Cert.ReferenceFfnIdeal.Ref.hn_bf16 (H c)).trans (Cert.KernelFfnIdeal.Arrays.arr7 (K c)).symm
  · exact (Cert.ReferenceFfnIdeal.Ref.act_bf16 (H c)).trans (Cert.KernelFfnIdeal.Arrays.arr8 (K c)).symm
  · exact (Cert.ReferenceFfnIdeal.Ref.dout_bf16 (H c)).trans (Cert.KernelFfnIdeal.Arrays.arr9 (K c)).symm
  · exact (Cert.ReferenceFfnIdeal.Ref.dgu_bf16 (H c)).trans (Cert.KernelFfnIdeal.Arrays.arr10 (K c)).symm
  · exact (Cert.ReferenceFfnIdeal.Ref.stats_real (H c)).trans (Cert.KernelFfnIdeal.Arrays.arr11 (K c)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Assembly
public import proofs.«01_k».proof.Proof.WeightsUp
public import proofs.«01_k».proof.Proof.WeightsDown
public import proofs.«01_k».proof.Proof.WeightsSquare
public import proofs.«01_k».proof.Proof.WeightsWide
public import proofs.«01_k».proof.Proof.FfnAssembly
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelSquare
public import proofs.«01_k».proof.Proof.Gen.KernelSquare.Skeleton
public import proofs.«01_k».proof.Proof.Gen.KernelSquare.Launch
public import proofs.«01_k».proof.Proof.Gen.KernelSquare.Points
public import proofs.«01_k».proof.Proof.Gen.KernelSquare.Frame
public import proofs.«01_k».proof.Proof.Gen.KernelSquareIdeal
public import proofs.«01_k».proof.Proof.Gen.KernelSquareIdeal.Skeleton
public import proofs.«01_k».proof.Proof.Gen.KernelSquareIdeal.Launch
public import proofs.«01_k».proof.Proof.Gen.KernelSquareIdeal.Points
public import proofs.«01_k».proof.Proof.Gen.KernelSquareIdeal.Frame
public import proofs.«01_k».proof.Proof.Gen.KernelSquareIdeal.Value
public import proofs.«01_k».proof.Proof.Gen.ReferenceSquareIdeal
public import proofs.«01_k».proof.Proof.Gen.ReferenceSquareIdeal.Run
public import proofs.«01_k».proof.Proof.Gen.KernelWide
public import proofs.«01_k».proof.Proof.Gen.KernelWide.Skeleton
public import proofs.«01_k».proof.Proof.Gen.KernelWide.Launch
public import proofs.«01_k».proof.Proof.Gen.KernelWide.Points
public import proofs.«01_k».proof.Proof.Gen.KernelWide.Frame
public import proofs.«01_k».proof.Proof.Gen.KernelWideIdeal
public import proofs.«01_k».proof.Proof.Gen.KernelWideIdeal.Skeleton
public import proofs.«01_k».proof.Proof.Gen.KernelWideIdeal.Launch
public import proofs.«01_k».proof.Proof.Gen.KernelWideIdeal.Points
public import proofs.«01_k».proof.Proof.Gen.KernelWideIdeal.Frame
public import proofs.«01_k».proof.Proof.Gen.KernelWideIdeal.Value
public import proofs.«01_k».proof.Proof.Gen.ReferenceWideIdeal
public import proofs.«01_k».proof.Proof.Gen.ReferenceWideIdeal.Run
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelSquare.Gen.facts, Cert.KernelSquareIdeal.Gen.facts, Cert.ReferenceSquareIdeal.Gen.facts,
    Cert.KernelWide.Gen.facts, Cert.KernelWideIdeal.Gen.facts, Cert.ReferenceWideIdeal.Gen.facts,
    Cert.KernelFfn.Gen.facts, Cert.KernelFfnIdeal.Gen.facts, Cert.ReferenceFfnIdeal.Gen.facts, finiteFacts, finiteFfnFacts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.KernelUp.Gen.frame m g, fun m g _ => Cert.KernelUpIdeal.Gen.frame m g, frame_up_reference,
    fun m g _ => Cert.KernelDown.Gen.frame m g, fun m g _ => Cert.KernelDownIdeal.Gen.frame m g, frame_down_reference,
    fun m g _ => Cert.KernelSquare.Gen.frame m g, fun m g _ => Cert.KernelSquareIdeal.Gen.frame m g, frame_square_reference,
    fun m g _ => Cert.KernelWide.Gen.frame m g, fun m g _ => Cert.KernelWideIdeal.Gen.frame m g, frame_wide_reference,
    fun m g _ => Cert.KernelFfn.Gen.frame m g, fun m g _ => Cert.KernelFfnIdeal.Gen.frame m g,
    fun m g _ => Cert.KernelFfnIdeal.Gen.frame m g, frame_ffn_reference, fun m g _ => frame_ffn_reference m g trivial,
    IdealRules.named_const.statement Cert.KernelIdeal.κ "mask" .f32 0xF149F2CA#32 ⊥ rfl,
    value, trivial, up, trivial, down, trivial, square, trivial, wide, trivial, ffn⟩

end Cert.Proof

end
